-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Attn [hPre_batches_in_range : Cert.Pre_batches_in_range.Facts] (m : (ℓ : Loc Cert.Attn.nD Cert.Attn.τ Cert.Attn.sig) → Buf (Elt Bits) ℓ) : Prop :=
  ∀ c : Dev Cert.Attn.nD,
    (Cert.Pre_batches_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))) = (fun _ => 1#1)

def Pre_AttnIdeal [hPre_batches_in_range : Cert.Pre_batches_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_batches_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal [hPre_batches_in_range : Cert.Pre_batches_in_range.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_batches_in_range.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Attn [hAttn : Cert.Attn.Facts] [hPre_batches_in_range : Cert.Pre_batches_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] [hPre_batches_in_range : Cert.Pre_batches_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] [hPre_batches_in_range : Cert.Pre_batches_in_range.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v35)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v35) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v49) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v14)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v82) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] [hPre_batches_in_range : Cert.Pre_batches_in_range.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hAttn : Cert.Attn.Facts) (hAttnIdeal : Cert.AttnIdeal.Facts) (hAttnRefIdeal : Cert.AttnRefIdeal.Facts) (hPre_in_range : Cert.Pre_in_range.Facts) (hPre_batches_in_range : Cert.Pre_batches_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Attn (hAttn := hAttn) (hPre_batches_in_range := hPre_batches_in_range)
    ∧ quiescent_AttnIdeal (hAttnIdeal := hAttnIdeal) (hPre_batches_in_range := hPre_batches_in_range)
    ∧ quiescent_AttnRefIdeal (hAttnRefIdeal := hAttnRefIdeal) (hPre_batches_in_range := hPre_batches_in_range)
    ∧ preserves_Kernel_KernelIdeal
    ∧ algebraic_KernelIdeal_ReferenceIdeal (hKernelIdeal := hKernelIdeal) (hReferenceIdeal := hReferenceIdeal) (hPre_in_range := hPre_in_range)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Attn_AttnIdeal
    ∧ algebraic_AttnIdeal_AttnRefIdeal (hAttnIdeal := hAttnIdeal) (hAttnRefIdeal := hAttnRefIdeal) (hPre_batches_in_range := hPre_batches_in_range)
-- ==== Pre_batches_in_range.lean ====
abbrev S9x512x128 : Shape := ⟨3, ![9, 512, 128]⟩
abbrev S8x2048x256 : Shape := ⟨3, ![8, 2048, 256]⟩
abbrev S8x512x2048 : Shape := ⟨3, ![8, 512, 2048]⟩
abbrev S512x2048 : Shape := ⟨2, ![512, 2048]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S9x512x128 .f32) (main_arg1 : FVec F S8x2048x256 .f32) (main_arg2 : FVec F S8x2048x256 .f32) (main_arg3 : FVec F S8x512x2048 .f32) (main_arg4 : FVec F S512x2048 .f32) (main_arg5 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg5 main_v0
  let main_c_0 : IVec S_ 32 := constantI S_ 32 8#32
  let main_v2 : IVec S2048 32 := broadcastInDim S2048 ![] bcast_S_S2048 main_c_0
  let main_v3 : IVec S2048 1 := cmpi .slt main_arg5 main_v2
  let main_v4 : IVec S2048 1 := andi main_v1 main_v3
  main_v4
-- ==== Pre_in_range.lean ====
abbrev S9x512x128 : Shape := ⟨3, ![9, 512, 128]⟩
abbrev S2048 : Shape := ⟨1, ![2048]⟩
abbrev S8x2048 : Shape := ⟨2, ![8, 2048]⟩
abbrev S512x2048 : Shape := ⟨2, ![512, 2048]⟩
abbrev S_ : Shape := ⟨0, ![]⟩
abbrev S1x2048 : Shape := ⟨2, ![1, 2048]⟩

class Facts : Prop where
  bcast_S_S512x2048 : S_.BroadcastsInDim S512x2048 (![] : Fin 0 → Fin S512x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)

variable [Facts]

def fn {F : FTy → Type} [FloatOps F] (main_arg0 : FVec F S9x512x128 .f32) (main_arg1 : FVec F S9x512x128 .f32) (main_arg2 : FVec F S2048 .f32) (main_arg3 : FVec F S8x2048 .f32) (main_arg4 : IVec S2048 32) (main_arg5 : IVec S512x2048 32) : IVec S512x2048 1 :=
  let main_c : IVec S_ 32 := constantI S_ 32 0#32
  let main_v0 : IVec S512x2048 32 := broadcastInDim S512x2048 ![] bcast_S_S512x2048 main_c
  let main_v1 : IVec S512x2048 1 := cmpi .sge main_arg5 main_v0
  let main_c_0 : IVec S_ 32 := constantI S_ 32 2048#32
  let main_v2 : IVec S512x2048 32 := broadcastInDim S512x2048 ![] bcast_S_S512x2048 main_c_0
  let main_v3 : IVec S512x2048 1 := cmpi .slt main_arg5 main_v2
  let main_v4 : IVec S512x2048 1 := andi main_v1 main_v3
  let main_c_1 : IVec S_ 32 := constantI S_ 32 0#32
  let main_v5 : IVec S2048 32 := broadcastInDim S2048 ![] bcast_S_S2048 main_c_1
  let main_v6 : IVec S2048 1 := cmpi .sge main_arg4 main_v5
  let main_v7 : IVec S1x2048 1 := broadcastInDim S1x2048 ![1] bcast_S2048_S1x2048_1 main_v6
  let main_v8 : IVec S512x2048 1 := broadcastInDim S512x2048 ![0, 1] bcast_S1x2048_S512x2048_0_1 main_v7
  let main_v9 : IVec S512x2048 1 := andi main_v4 main_v8
  let main_c_2 : IVec S_ 32 := constantI S_ 32 512#32
  let main_v10 : IVec S2048 32 := broadcastInDim S2048 ![] bcast_S_S2048 main_c_2
  let main_v11 : IVec S2048 1 := cmpi .slt main_arg4 main_v10
  let main_v12 : IVec S1x2048 1 := broadcastInDim S1x2048 ![1] bcast_S2048_S1x2048_1 main_v11
  let main_v13 : IVec S512x2048 1 := broadcastInDim S512x2048 ![0, 1] bcast_S1x2048_S512x2048_0_1 main_v12
  let main_v14 : IVec S512x2048 1 := andi main_v9 main_v13
  main_v14
-- ==== Kernel.lean ====
abbrev S9x512x128 : Shape := ⟨3, ![9, 512, 128]⟩
abbrev S2048 : Shape := ⟨1, ![2048]⟩
abbrev S8x2048 : Shape := ⟨2, ![8, 2048]⟩
abbrev S512x2048 : Shape := ⟨2, ![512, 2048]⟩
abbrev S9x512x8x16 : Shape := ⟨4, ![9, 512, 8, 16]⟩
abbrev S8x512x9x16 : Shape := ⟨4, ![8, 512, 9, 16]⟩
abbrev S8x512x144 : Shape := ⟨3, ![8, 512, 144]⟩
abbrev S_ : Shape := ⟨0, ![]⟩
abbrev S8x512x256 : Shape := ⟨3, ![8, 512, 256]⟩
abbrev S16384 : Shape := ⟨1, ![16384]⟩
abbrev S4096x2x128 : Shape := ⟨3, ![4096, 2, 128]⟩
abbrev S8x512x2048 : Shape := ⟨3, ![8, 512, 2048]⟩
abbrev S8x2048x2x128 : Shape := ⟨4, ![8, 2048, 2, 128]⟩
abbrev S2x2048 : Shape := ⟨2, ![2, 2048]⟩
abbrev S8x2x2048 : Shape := ⟨3, ![8, 2, 2048]⟩
abbrev S64 : Shape := ⟨1, ![64]⟩
abbrev S8x64 : Shape := ⟨2, ![8, 64]⟩
abbrev S64x2x128 : Shape := ⟨3, ![64, 2, 128]⟩
abbrev S16 : Shape := ⟨1, ![16]⟩
abbrev S1x16 : Shape := ⟨2, ![1, 16]⟩
abbrev S1x64 : Shape := ⟨2, ![1, 64]⟩
abbrev S1x1x16 : Shape := ⟨3, ![1, 1, 16]⟩
abbrev S1x64x2x128 : Shape := ⟨4, ![1, 64, 2, 128]⟩
abbrev S1x2x2048 : Shape := ⟨3, ![1, 2, 2048]⟩

abbrev nBuf : Table → Nat
  | .hbm => 25
  | .local .scVector .vmem => 16
  | _ => 0

abbrev bufTy : (tb : Table) → Fin (nBuf tb) → BufTy
  | .hbm, ⟨0, _⟩ => ⟨S9x512x128, .f32⟩
  | .hbm, ⟨1, _⟩ => ⟨S9x512x128, .f32⟩
  | .hbm, ⟨2, _⟩ => ⟨S2048, .f32⟩
  | .hbm, ⟨3, _⟩ => ⟨S8x2048, .f32⟩
  | .hbm, ⟨4, _⟩ => ⟨S2048, .i32⟩
  | .hbm, ⟨5, _⟩ => ⟨S512x2048, .i32⟩
  | .hbm, ⟨6, _⟩ => ⟨S9x512x8x16, .f32⟩
  | .hbm, ⟨7, _⟩ => ⟨S8x512x9x16, .f32⟩
  | .hbm, ⟨8, _⟩ => ⟨S8x512x144, .f32⟩
  | .hbm, ⟨9, _⟩ => ⟨S_, .i32⟩
  | .hbm, ⟨10, _⟩ => ⟨S_, .f32⟩
  | .hbm, ⟨11, _⟩ => ⟨S8x512x256, .f32⟩
  | .hbm, ⟨12, _⟩ => ⟨S9x512x8x16, .f32⟩
  | .hbm, ⟨13, _⟩ => ⟨S8x512x9x16, .f32⟩
  | .hbm, ⟨14, _⟩ => ⟨S8x512x144, .f32⟩
  | .hbm, ⟨15, _⟩ => ⟨S_, .i32⟩
  | .hbm, ⟨16, _⟩ => ⟨S_, .f32⟩
  | .hbm, ⟨17, _⟩ => ⟨S8x512x256, .f32⟩
  | .hbm, ⟨18, _⟩ => ⟨S16384, .f32⟩
  | .hbm, ⟨19, _⟩ => ⟨S4096x2x128, .f32⟩
  | .hbm, ⟨20, _⟩ => ⟨S4096x2x128, .f32⟩
  | .hbm, ⟨21, _⟩ => ⟨S512x2048, .f32⟩
  | .hbm, ⟨22, _⟩ => ⟨S8x512x2048, .f32⟩
  | .hbm, ⟨23, _⟩ => ⟨S8x2048x2x128, .f32⟩
  | .hbm, ⟨24, _⟩ => ⟨S8x2048x2x128, .f32⟩
  | .local .scVector .vmem, ⟨0, _⟩ => ⟨S2048, .f32⟩
  | .local .scVector .vmem, ⟨1, _⟩ => ⟨S2048, .f32⟩
  | .local .scVector .vmem, ⟨2, _⟩ => ⟨S2048, .f32⟩
  | .local .scVector .vmem, ⟨3, _⟩ => ⟨S2048, .f32⟩
  | .local .scVector .vmem, ⟨4, _⟩ => ⟨S2048, .f32⟩
  | .local .scVector .vmem, ⟨5, _⟩ => ⟨S2048, .f32⟩
  | .local .scVector .vmem, ⟨6, _⟩ => ⟨S2048, .f32⟩
  | .local .scVector .vmem, ⟨7, _⟩ => ⟨S2048, .f32⟩
  | .local .scVector .vmem, ⟨8, _⟩ => ⟨S2048, .f32⟩
  | .local .scVector .vmem, ⟨9, _⟩ => ⟨S2x2048, .i32⟩
  | .local .scVector .vmem, ⟨10, _⟩ => ⟨S2x2048, .f32⟩
  | .local .scVector .vmem, ⟨11, _⟩ => ⟨S8x2x2048, .f32⟩
  | .local .scVector .vmem, ⟨12, _⟩ => ⟨S64, .i32⟩
  | .local .scVector .vmem, ⟨13, _⟩ => ⟨S8x64, .i32⟩
  | .local .scVector .vmem, ⟨14, _⟩ => ⟨S64x2x128, .f32⟩
  | .local .scVector .vmem, ⟨15, _⟩ => ⟨S64x2x128, .f32⟩
  | _, _ => ⟨S9x512x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 94 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => false
  | ⟨90, _⟩ => false
  | ⟨91, _⟩ => false
  | ⟨92, _⟩ => false
  | ⟨93, _⟩ => false
  | _ => false

abbrev sig : RefSig :=
  ofTables nBuf rfl bufTy 4 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_arg2_scv : Ref sig .scVector := ⟨.hbm, 2, rfl⟩
abbrev main_v8_scv : Ref sig .scVector := ⟨.hbm, 18, rfl⟩
abbrev main_arg5_scv : Ref sig .scVector := ⟨.hbm, 5, rfl⟩
abbrev main_v9_scv : Ref sig .scVector := ⟨.hbm, 19, rfl⟩
abbrev main_v10_scv : Ref sig .scVector := ⟨.hbm, 20, rfl⟩
abbrev main_arg4_scv : Ref sig .scVector := ⟨.hbm, 4, rfl⟩
abbrev main_v11_0_scv : Ref sig .scVector := ⟨.hbm, 21, rfl⟩
abbrev main_v11_1_scv : Ref sig .scVector := ⟨.hbm, 22, rfl⟩
abbrev main_v11_2_scv : Ref sig .scVector := ⟨.hbm, 23, rfl⟩
abbrev main_v11_3_scv : Ref sig .scVector := ⟨.hbm, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) (c0_i32_120 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_648_r10 : BitVec 32 := 0#32
  ![v170.toNat, 0]
@[reducible] def k0_t1_loop : Scf.Loop 32 :=
  let c0_i32_122 : BitVec 32 := 0#32
  let c128_i32 : BitVec 32 := 128#32
  let v171 : BitVec 32 := Scalar.addi c0_i32_122 c128_i32
  let c1_i32_123 : BitVec 32 := 1#32
  ⟨c0_i32_122, v171, c1_i32_123⟩
def k0_off3 (k0_t1 : Fin k0_t1_loop.trips) : Fin 2 → Nat :=
  let c0_i32_649 : BitVec 32 := 0#32
  let v420 : Index := Scalar.indexCast c0_i32_649
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v421 : Index := Scalar.indexCast v419
  ![0, v421.toNat]
def k0_off4 (k0_t1 : Fin k0_t1_loop.trips) : Fin 2 → Nat :=
  let c0_i32_650 : BitVec 32 := 0#32
  let v424 : Index := Scalar.indexCast c0_i32_650
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v425 : Index := Scalar.indexCast v419
  ![0, v425.toNat]
def k0_off5 (k0_t1 : Fin k0_t1_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v430 : Index := Scalar.indexCast v419
  ![0, 0, v430.toNat]
def k0_off6 (k0_t1 : Fin k0_t1_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v435 : Index := Scalar.indexCast v419
  ![1, 0, v435.toNat]
def k0_off7 (k0_t1 : Fin k0_t1_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v440 : Index := Scalar.indexCast v419
  ![2, 0, v440.toNat]
def k0_off8 (k0_t1 : Fin k0_t1_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v445 : Index := Scalar.indexCast v419
  ![3, 0, v445.toNat]
def k0_off9 (k0_t1 : Fin k0_t1_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v450 : Index := Scalar.indexCast v419
  ![4, 0, v450.toNat]
def k0_off10 (k0_t1 : Fin k0_t1_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v455 : Index := Scalar.indexCast v419
  ![5, 0, v455.toNat]
def k0_off11 (k0_t1 : Fin k0_t1_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v460 : Index := Scalar.indexCast v419
  ![6, 0, v460.toNat]

def k0_chk1 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx1_inb : ∀ (v422 : IVec S16 32) (k0_hw1 : k0_chk1 v422), ∀ a x, ((![v422] : Fin 1 → IVec S16 32) a x).toNat < S2048.size a := fun v422 k0_hw1 => k0_hw1.1
theorem k0_idx2_inb : ∀ (v422 : IVec S16 32) (k0_hw1 : k0_chk1 v422), ∀ a x, ((![v422] : Fin 1 → IVec S16 32) a x).toNat < S2048.size a := fun v422 k0_hw1 => k0_hw1.2.1
theorem k0_idx3_inb : ∀ (v422 : IVec S16 32) (k0_hw1 : k0_chk1 v422), ∀ a x, ((![v422] : Fin 1 → IVec S16 32) a x).toNat < S2048.size a := fun v422 k0_hw1 => k0_hw1.2.2.1
theorem k0_idx4_inb : ∀ (v422 : IVec S16 32) (k0_hw1 : k0_chk1 v422), ∀ a x, ((![v422] : Fin 1 → IVec S16 32) a x).toNat < S2048.size a := fun v422 k0_hw1 => k0_hw1.2.2.2.1
theorem k0_idx5_inb : ∀ (v422 : IVec S16 32) (k0_hw1 : k0_chk1 v422), ∀ a x, ((![v422] : Fin 1 → IVec S16 32) a x).toNat < S2048.size a := fun v422 k0_hw1 => k0_hw1.2.2.2.2.1
theorem k0_idx6_inb : ∀ (v422 : IVec S16 32) (k0_hw1 : k0_chk1 v422), ∀ a x, ((![v422] : Fin 1 → IVec S16 32) a x).toNat < S2048.size a := fun v422 k0_hw1 => k0_hw1.2.2.2.2.2.1
theorem k0_idx7_inb : ∀ (v422 : IVec S16 32) (k0_hw1 : k0_chk1 v422), ∀ a x, ((![v422] : Fin 1 → IVec S16 32) a x).toNat < S2048.size a := fun v422 k0_hw1 => k0_hw1.2.2.2.2.2.2.1
theorem k0_idx8_inb : ∀ (v422 : IVec S16 32) (k0_hw1 : k0_chk1 v422), ∀ a x, ((![v422] : Fin 1 → IVec S16 32) a x).toNat < S2048.size a := fun v422 k0_hw1 => k0_hw1.2.2.2.2.2.2.2.1
theorem k0_idx9_inb : ∀ (v422 : IVec S16 32) (k0_hw1 : k0_chk1 v422), ∀ a x, ((![v422] : Fin 1 → IVec S16 32) a x).toNat < S2048.size a := fun v422 k0_hw1 => k0_hw1.2.2.2.2.2.2.2.2
def k0_off12 (k0_t1 : Fin k0_t1_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_122 : BitVec 32 := 0#32
  let c1_i32_123 : BitVec 32 := 1#32
  let arg32 : BitVec 32 := Scf.iv c0_i32_122 c1_i32_123 k0_t1
  let c16_i32_648 : BitVec 32 := 16#32
  let v419 : BitVec 32 := Scalar.muli arg32 c16_i32_648
  let v465 : Index := Scalar.indexCast v419
  ![7, 0, v465.toNat]
@[reducible] def k0_t2_loop : Scf.Loop 32 :=
  let c0_i32_126 : BitVec 32 := 0#32
  let c128_i32_127 : BitVec 32 := 128#32
  let v172 : BitVec 32 := Scalar.addi c0_i32_126 c128_i32_127
  let c1_i32_128 : BitVec 32 := 1#32
  ⟨c0_i32_126, v172, c1_i32_128⟩
def k0_off13 (k0_t2 : Fin k0_t2_loop.trips) : Fin 2 → Nat :=
  let c1_i32_649 : BitVec 32 := 1#32
  let v420 : Index := Scalar.indexCast c1_i32_649
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v421 : Index := Scalar.indexCast v419
  ![1, v421.toNat]
def k0_off14 (k0_t2 : Fin k0_t2_loop.trips) : Fin 2 → Nat :=
  let c1_i32_650 : BitVec 32 := 1#32
  let v424 : Index := Scalar.indexCast c1_i32_650
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v425 : Index := Scalar.indexCast v419
  ![1, v425.toNat]
def k0_off15 (k0_t2 : Fin k0_t2_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v430 : Index := Scalar.indexCast v419
  ![0, 1, v430.toNat]
def k0_off16 (k0_t2 : Fin k0_t2_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v435 : Index := Scalar.indexCast v419
  ![1, 1, v435.toNat]
def k0_off17 (k0_t2 : Fin k0_t2_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v440 : Index := Scalar.indexCast v419
  ![2, 1, v440.toNat]
def k0_off18 (k0_t2 : Fin k0_t2_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v445 : Index := Scalar.indexCast v419
  ![3, 1, v445.toNat]
def k0_off19 (k0_t2 : Fin k0_t2_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v450 : Index := Scalar.indexCast v419
  ![4, 1, v450.toNat]
def k0_off20 (k0_t2 : Fin k0_t2_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v455 : Index := Scalar.indexCast v419
  ![5, 1, v455.toNat]
def k0_off21 (k0_t2 : Fin k0_t2_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v460 : Index := Scalar.indexCast v419
  ![6, 1, v460.toNat]

def k0_chk2 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx10_inb : ∀ (v422 : IVec S16 32) (k0_hw2 : k0_chk2 v422), ∀ a x, ((![v422] : Fin 1 → IVec S16 32) a x).toNat < S2048.size a := fun v422 k0_hw2 => k0_hw2.1
theorem k0_idx11_inb : ∀ (v422 : IVec S16 32) (k0_hw2 : k0_chk2 v422), ∀ a x, ((![v422] : Fin 1 → IVec S16 32) a x).toNat < S2048.size a := fun v422 k0_hw2 => k0_hw2.2.1
theorem k0_idx12_inb : ∀ (v422 : IVec S16 32) (k0_hw2 : k0_chk2 v422), ∀ a x, ((![v422] : Fin 1 → IVec S16 32) a x).toNat < S2048.size a := fun v422 k0_hw2 => k0_hw2.2.2.1
theorem k0_idx13_inb : ∀ (v422 : IVec S16 32) (k0_hw2 : k0_chk2 v422), ∀ a x, ((![v422] : Fin 1 → IVec S16 32) a x).toNat < S2048.size a := fun v422 k0_hw2 => k0_hw2.2.2.2.1
theorem k0_idx14_inb : ∀ (v422 : IVec S16 32) (k0_hw2 : k0_chk2 v422), ∀ a x, ((![v422] : Fin 1 → IVec S16 32) a x).toNat < S2048.size a := fun v422 k0_hw2 => k0_hw2.2.2.2.2.1
theorem k0_idx15_inb : ∀ (v422 : IVec S16 32) (k0_hw2 : k0_chk2 v422), ∀ a x, ((![v422] : Fin 1 → IVec S16 32) a x).toNat < S2048.size a := fun v422 k0_hw2 => k0_hw2.2.2.2.2.2.1
theorem k0_idx16_inb : ∀ (v422 : IVec S16 32) (k0_hw2 : k0_chk2 v422), ∀ a x, ((![v422] : Fin 1 → IVec S16 32) a x).toNat < S2048.size a := fun v422 k0_hw2 => k0_hw2.2.2.2.2.2.2.1
theorem k0_idx17_inb : ∀ (v422 : IVec S16 32) (k0_hw2 : k0_chk2 v422), ∀ a x, ((![v422] : Fin 1 → IVec S16 32) a x).toNat < S2048.size a := fun v422 k0_hw2 => k0_hw2.2.2.2.2.2.2.2.1
theorem k0_idx18_inb : ∀ (v422 : IVec S16 32) (k0_hw2 : k0_chk2 v422), ∀ a x, ((![v422] : Fin 1 → IVec S16 32) a x).toNat < S2048.size a := fun v422 k0_hw2 => k0_hw2.2.2.2.2.2.2.2.2
def k0_off22 (k0_t2 : Fin k0_t2_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_126 : BitVec 32 := 0#32
  let c1_i32_128 : BitVec 32 := 1#32
  let arg32 : BitVec 32 := Scf.iv c0_i32_126 c1_i32_128 k0_t2
  let c16_i32_648 : BitVec 32 := 16#32
  let v419 : BitVec 32 := Scalar.muli arg32 c16_i32_648
  let v465 : Index := Scalar.indexCast v419
  ![7, 1, v465.toNat]
def k0_off23 (i : grid0.Coords) : Fin 4 → Nat :=
  let c0_i32_135 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_136 : BitVec 32 := 0#32
  let c0_i32_137 : BitVec 32 := 0#32
  ![0, v2.toNat, 0, 0]
def k0_off24 (i : grid0.Coords) (c0_i32_120 : BitVec 32) : Fin 3 → Nat :=
  let c0_i32_151 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r12 : BitVec 32 := 0#32
  ![0, v170.toNat, 0]
def k0_off25 (i : grid0.Coords) (c0_i32_120 : BitVec 32) : Fin 3 → Nat :=
  let c1_i32_153 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r13 : BitVec 32 := 0#32
  ![1, v170.toNat, 0]
def k0_off26 (i : grid0.Coords) (c0_i32_120 : BitVec 32) : Fin 3 → Nat :=
  let c2_i32_155 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r14 : BitVec 32 := 0#32
  ![2, v170.toNat, 0]
def k0_off27 (i : grid0.Coords) (c0_i32_120 : BitVec 32) : Fin 3 → Nat :=
  let c3_i32_157 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r15 : BitVec 32 := 0#32
  ![3, v170.toNat, 0]
def k0_off28 (i : grid0.Coords) (c0_i32_120 : BitVec 32) : Fin 3 → Nat :=
  let c4_i32_159 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r16 : BitVec 32 := 0#32
  ![4, v170.toNat, 0]
def k0_off29 (i : grid0.Coords) (c0_i32_120 : BitVec 32) : Fin 3 → Nat :=
  let c5_i32_161 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r17 : BitVec 32 := 0#32
  ![5, v170.toNat, 0]
def k0_off30 (i : grid0.Coords) (c0_i32_120 : BitVec 32) : Fin 3 → Nat :=
  let c6_i32_163 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r18 : BitVec 32 := 0#32
  ![6, v170.toNat, 0]
def k0_off31 (i : grid0.Coords) (c0_i32_120 : BitVec 32) : Fin 3 → Nat :=
  let c7_i32_165 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v169 : BitVec 32 := Scalar.muli v1 c16_i32
  let v170 : BitVec 32 := Scalar.addi v169 c0_i32_120
  let c0_i32_650_r19 : BitVec 32 := 0#32
  ![7, v170.toNat, 0]
@[reducible] def k0_t3_loop : Scf.Loop 32 :=
  let c0_i32_189 : BitVec 32 := 0#32
  let c128_i32_190 : BitVec 32 := 128#32
  let v203 : BitVec 32 := Scalar.addi c0_i32_189 c128_i32_190
  let c1_i32_191 : BitVec 32 := 1#32
  ⟨c0_i32_189, v203, c1_i32_191⟩
def k0_off32 (k0_t3 : Fin k0_t3_loop.trips) : Fin 2 → Nat :=
  let c0_i32_649 : BitVec 32 := 0#32
  let v420 : Index := Scalar.indexCast c0_i32_649
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v421 : Index := Scalar.indexCast v419
  ![0, v421.toNat]
def k0_off33 (k0_t3 : Fin k0_t3_loop.trips) : Fin 2 → Nat :=
  let c0_i32_650 : BitVec 32 := 0#32
  let v424 : Index := Scalar.indexCast c0_i32_650
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v425 : Index := Scalar.indexCast v419
  ![0, v425.toNat]
def k0_off34 (k0_t3 : Fin k0_t3_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v430 : Index := Scalar.indexCast v419
  ![0, 0, v430.toNat]
def k0_off35 (k0_t3 : Fin k0_t3_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v435 : Index := Scalar.indexCast v419
  ![1, 0, v435.toNat]
def k0_off36 (k0_t3 : Fin k0_t3_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v440 : Index := Scalar.indexCast v419
  ![2, 0, v440.toNat]
def k0_off37 (k0_t3 : Fin k0_t3_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v445 : Index := Scalar.indexCast v419
  ![3, 0, v445.toNat]
def k0_off38 (k0_t3 : Fin k0_t3_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v450 : Index := Scalar.indexCast v419
  ![4, 0, v450.toNat]
def k0_off39 (k0_t3 : Fin k0_t3_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v455 : Index := Scalar.indexCast v419
  ![5, 0, v455.toNat]
def k0_off40 (k0_t3 : Fin k0_t3_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v460 : Index := Scalar.indexCast v419
  ![6, 0, v460.toNat]

def k0_chk3 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx19_inb : ∀ (v422 : IVec S16 32) (k0_hw3 : k0_chk3 v422), ∀ a x, ((![v422] : Fin 1 → IVec S16 32) a x).toNat < S2048.size a := fun v422 k0_hw3 => k0_hw3.1
theorem k0_idx20_inb : ∀ (v422 : IVec S16 32) (k0_hw3 : k0_chk3 v422), ∀ a x, ((![v422] : Fin 1 → IVec S16 32) a x).toNat < S2048.size a := fun v422 k0_hw3 => k0_hw3.2.1
theorem k0_idx21_inb : ∀ (v422 : IVec S16 32) (k0_hw3 : k0_chk3 v422), ∀ a x, ((![v422] : Fin 1 → IVec S16 32) a x).toNat < S2048.size a := fun v422 k0_hw3 => k0_hw3.2.2.1
theorem k0_idx22_inb : ∀ (v422 : IVec S16 32) (k0_hw3 : k0_chk3 v422), ∀ a x, ((![v422] : Fin 1 → IVec S16 32) a x).toNat < S2048.size a := fun v422 k0_hw3 => k0_hw3.2.2.2.1
theorem k0_idx23_inb : ∀ (v422 : IVec S16 32) (k0_hw3 : k0_chk3 v422), ∀ a x, ((![v422] : Fin 1 → IVec S16 32) a x).toNat < S2048.size a := fun v422 k0_hw3 => k0_hw3.2.2.2.2.1
theorem k0_idx24_inb : ∀ (v422 : IVec S16 32) (k0_hw3 : k0_chk3 v422), ∀ a x, ((![v422] : Fin 1 → IVec S16 32) a x).toNat < S2048.size a := fun v422 k0_hw3 => k0_hw3.2.2.2.2.2.1
theorem k0_idx25_inb : ∀ (v422 : IVec S16 32) (k0_hw3 : k0_chk3 v422), ∀ a x, ((![v422] : Fin 1 → IVec S16 32) a x).toNat < S2048.size a := fun v422 k0_hw3 => k0_hw3.2.2.2.2.2.2.1
theorem k0_idx26_inb : ∀ (v422 : IVec S16 32) (k0_hw3 : k0_chk3 v422), ∀ a x, ((![v422] : Fin 1 → IVec S16 32) a x).toNat < S2048.size a := fun v422 k0_hw3 => k0_hw3.2.2.2.2.2.2.2.1
theorem k0_idx27_inb : ∀ (v422 : IVec S16 32) (k0_hw3 : k0_chk3 v422), ∀ a x, ((![v422] : Fin 1 → IVec S16 32) a x).toNat < S2048.size a := fun v422 k0_hw3 => k0_hw3.2.2.2.2.2.2.2.2
def k0_off41 (k0_t3 : Fin k0_t3_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_189 : BitVec 32 := 0#32
  let c1_i32_191 : BitVec 32 := 1#32
  let arg32 : BitVec 32 := Scf.iv c0_i32_189 c1_i32_191 k0_t3
  let c16_i32_648 : BitVec 32 := 16#32
  let v419 : BitVec 32 := Scalar.muli arg32 c16_i32_648
  let v465 : Index := Scalar.indexCast v419
  ![7, 0, v465.toNat]
@[reducible] def k0_t4_loop : Scf.Loop 32 :=
  let c0_i32_194 : BitVec 32 := 0#32
  let c128_i32_195 : BitVec 32 := 128#32
  let v204 : BitVec 32 := Scalar.addi c0_i32_194 c128_i32_195
  let c1_i32_196 : BitVec 32 := 1#32
  ⟨c0_i32_194, v204, c1_i32_196⟩
def k0_off42 (k0_t4 : Fin k0_t4_loop.trips) : Fin 2 → Nat :=
  let c1_i32_649 : BitVec 32 := 1#32
  let v420 : Index := Scalar.indexCast c1_i32_649
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v421 : Index := Scalar.indexCast v419
  ![1, v421.toNat]
def k0_off43 (k0_t4 : Fin k0_t4_loop.trips) : Fin 2 → Nat :=
  let c1_i32_650 : BitVec 32 := 1#32
  let v424 : Index := Scalar.indexCast c1_i32_650
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v425 : Index := Scalar.indexCast v419
  ![1, v425.toNat]
def k0_off44 (k0_t4 : Fin k0_t4_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v430 : Index := Scalar.indexCast v419
  ![0, 1, v430.toNat]
def k0_off45 (k0_t4 : Fin k0_t4_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v435 : Index := Scalar.indexCast v419
  ![1, 1, v435.toNat]
def k0_off46 (k0_t4 : Fin k0_t4_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v440 : Index := Scalar.indexCast v419
  ![2, 1, v440.toNat]
def k0_off47 (k0_t4 : Fin k0_t4_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v445 : Index := Scalar.indexCast v419
  ![3, 1, v445.toNat]
def k0_off48 (k0_t4 : Fin k0_t4_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v450 : Index := Scalar.indexCast v419
  ![4, 1, v450.toNat]
def k0_off49 (k0_t4 : Fin k0_t4_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v455 : Index := Scalar.indexCast v419
  ![5, 1, v455.toNat]
def k0_off50 (k0_t4 : Fin k0_t4_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v460 : Index := Scalar.indexCast v419
  ![6, 1, v460.toNat]

def k0_chk4 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx28_inb : ∀ (v422 : IVec S16 32) (k0_hw4 : k0_chk4 v422), ∀ a x, ((![v422] : Fin 1 → IVec S16 32) a x).toNat < S2048.size a := fun v422 k0_hw4 => k0_hw4.1
theorem k0_idx29_inb : ∀ (v422 : IVec S16 32) (k0_hw4 : k0_chk4 v422), ∀ a x, ((![v422] : Fin 1 → IVec S16 32) a x).toNat < S2048.size a := fun v422 k0_hw4 => k0_hw4.2.1
theorem k0_idx30_inb : ∀ (v422 : IVec S16 32) (k0_hw4 : k0_chk4 v422), ∀ a x, ((![v422] : Fin 1 → IVec S16 32) a x).toNat < S2048.size a := fun v422 k0_hw4 => k0_hw4.2.2.1
theorem k0_idx31_inb : ∀ (v422 : IVec S16 32) (k0_hw4 : k0_chk4 v422), ∀ a x, ((![v422] : Fin 1 → IVec S16 32) a x).toNat < S2048.size a := fun v422 k0_hw4 => k0_hw4.2.2.2.1
theorem k0_idx32_inb : ∀ (v422 : IVec S16 32) (k0_hw4 : k0_chk4 v422), ∀ a x, ((![v422] : Fin 1 → IVec S16 32) a x).toNat < S2048.size a := fun v422 k0_hw4 => k0_hw4.2.2.2.2.1
theorem k0_idx33_inb : ∀ (v422 : IVec S16 32) (k0_hw4 : k0_chk4 v422), ∀ a x, ((![v422] : Fin 1 → IVec S16 32) a x).toNat < S2048.size a := fun v422 k0_hw4 => k0_hw4.2.2.2.2.2.1
theorem k0_idx34_inb : ∀ (v422 : IVec S16 32) (k0_hw4 : k0_chk4 v422), ∀ a x, ((![v422] : Fin 1 → IVec S16 32) a x).toNat < S2048.size a := fun v422 k0_hw4 => k0_hw4.2.2.2.2.2.2.1
theorem k0_idx35_inb : ∀ (v422 : IVec S16 32) (k0_hw4 : k0_chk4 v422), ∀ a x, ((![v422] : Fin 1 → IVec S16 32) a x).toNat < S2048.size a := fun v422 k0_hw4 => k0_hw4.2.2.2.2.2.2.2.1
theorem k0_idx36_inb : ∀ (v422 : IVec S16 32) (k0_hw4 : k0_chk4 v422), ∀ a x, ((![v422] : Fin 1 → IVec S16 32) a x).toNat < S2048.size a := fun v422 k0_hw4 => k0_hw4.2.2.2.2.2.2.2.2
def k0_off51 (k0_t4 : Fin k0_t4_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_194 : BitVec 32 := 0#32
  let c1_i32_196 : BitVec 32 := 1#32
  let arg32 : BitVec 32 := Scf.iv c0_i32_194 c1_i32_196 k0_t4
  let c16_i32_648 : BitVec 32 := 16#32
  let v419 : BitVec 32 := Scalar.muli arg32 c16_i32_648
  let v465 : Index := Scalar.indexCast v419
  ![7, 1, v465.toNat]
def k0_off52 (i : grid0.Coords) : Fin 4 → Nat :=
  let c1_i32_203 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_204 : BitVec 32 := 0#32
  let c0_i32_205 : BitVec 32 := 0#32
  ![1, v2.toNat, 0, 0]
@[reducible] def k0_t5_loop : Scf.Loop 32 :=
  let c0_i32_257 : BitVec 32 := 0#32
  let c128_i32_258 : BitVec 32 := 128#32
  let v235 : BitVec 32 := Scalar.addi c0_i32_257 c128_i32_258
  let c1_i32_259 : BitVec 32 := 1#32
  ⟨c0_i32_257, v235, c1_i32_259⟩
def k0_off53 (k0_t5 : Fin k0_t5_loop.trips) : Fin 2 → Nat :=
  let c0_i32_649 : BitVec 32 := 0#32
  let v420 : Index := Scalar.indexCast c0_i32_649
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v421 : Index := Scalar.indexCast v419
  ![0, v421.toNat]
def k0_off54 (k0_t5 : Fin k0_t5_loop.trips) : Fin 2 → Nat :=
  let c0_i32_650 : BitVec 32 := 0#32
  let v424 : Index := Scalar.indexCast c0_i32_650
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v425 : Index := Scalar.indexCast v419
  ![0, v425.toNat]
def k0_off55 (k0_t5 : Fin k0_t5_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v430 : Index := Scalar.indexCast v419
  ![0, 0, v430.toNat]
def k0_off56 (k0_t5 : Fin k0_t5_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v435 : Index := Scalar.indexCast v419
  ![1, 0, v435.toNat]
def k0_off57 (k0_t5 : Fin k0_t5_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v440 : Index := Scalar.indexCast v419
  ![2, 0, v440.toNat]
def k0_off58 (k0_t5 : Fin k0_t5_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v445 : Index := Scalar.indexCast v419
  ![3, 0, v445.toNat]
def k0_off59 (k0_t5 : Fin k0_t5_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v450 : Index := Scalar.indexCast v419
  ![4, 0, v450.toNat]
def k0_off60 (k0_t5 : Fin k0_t5_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v455 : Index := Scalar.indexCast v419
  ![5, 0, v455.toNat]
def k0_off61 (k0_t5 : Fin k0_t5_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v460 : Index := Scalar.indexCast v419
  ![6, 0, v460.toNat]

def k0_chk5 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx37_inb : ∀ (v422 : IVec S16 32) (k0_hw5 : k0_chk5 v422), ∀ a x, ((![v422] : Fin 1 → IVec S16 32) a x).toNat < S2048.size a := fun v422 k0_hw5 => k0_hw5.1
theorem k0_idx38_inb : ∀ (v422 : IVec S16 32) (k0_hw5 : k0_chk5 v422), ∀ a x, ((![v422] : Fin 1 → IVec S16 32) a x).toNat < S2048.size a := fun v422 k0_hw5 => k0_hw5.2.1
theorem k0_idx39_inb : ∀ (v422 : IVec S16 32) (k0_hw5 : k0_chk5 v422), ∀ a x, ((![v422] : Fin 1 → IVec S16 32) a x).toNat < S2048.size a := fun v422 k0_hw5 => k0_hw5.2.2.1
theorem k0_idx40_inb : ∀ (v422 : IVec S16 32) (k0_hw5 : k0_chk5 v422), ∀ a x, ((![v422] : Fin 1 → IVec S16 32) a x).toNat < S2048.size a := fun v422 k0_hw5 => k0_hw5.2.2.2.1
theorem k0_idx41_inb : ∀ (v422 : IVec S16 32) (k0_hw5 : k0_chk5 v422), ∀ a x, ((![v422] : Fin 1 → IVec S16 32) a x).toNat < S2048.size a := fun v422 k0_hw5 => k0_hw5.2.2.2.2.1
theorem k0_idx42_inb : ∀ (v422 : IVec S16 32) (k0_hw5 : k0_chk5 v422), ∀ a x, ((![v422] : Fin 1 → IVec S16 32) a x).toNat < S2048.size a := fun v422 k0_hw5 => k0_hw5.2.2.2.2.2.1
theorem k0_idx43_inb : ∀ (v422 : IVec S16 32) (k0_hw5 : k0_chk5 v422), ∀ a x, ((![v422] : Fin 1 → IVec S16 32) a x).toNat < S2048.size a := fun v422 k0_hw5 => k0_hw5.2.2.2.2.2.2.1
theorem k0_idx44_inb : ∀ (v422 : IVec S16 32) (k0_hw5 : k0_chk5 v422), ∀ a x, ((![v422] : Fin 1 → IVec S16 32) a x).toNat < S2048.size a := fun v422 k0_hw5 => k0_hw5.2.2.2.2.2.2.2.1
theorem k0_idx45_inb : ∀ (v422 : IVec S16 32) (k0_hw5 : k0_chk5 v422), ∀ a x, ((![v422] : Fin 1 → IVec S16 32) a x).toNat < S2048.size a := fun v422 k0_hw5 => k0_hw5.2.2.2.2.2.2.2.2
def k0_off62 (k0_t5 : Fin k0_t5_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_257 : BitVec 32 := 0#32
  let c1_i32_259 : BitVec 32 := 1#32
  let arg32 : BitVec 32 := Scf.iv c0_i32_257 c1_i32_259 k0_t5
  let c16_i32_648 : BitVec 32 := 16#32
  let v419 : BitVec 32 := Scalar.muli arg32 c16_i32_648
  let v465 : Index := Scalar.indexCast v419
  ![7, 0, v465.toNat]
@[reducible] def k0_t6_loop : Scf.Loop 32 :=
  let c0_i32_262 : BitVec 32 := 0#32
  let c128_i32_263 : BitVec 32 := 128#32
  let v236 : BitVec 32 := Scalar.addi c0_i32_262 c128_i32_263
  let c1_i32_264 : BitVec 32 := 1#32
  ⟨c0_i32_262, v236, c1_i32_264⟩
def k0_off63 (k0_t6 : Fin k0_t6_loop.trips) : Fin 2 → Nat :=
  let c1_i32_649 : BitVec 32 := 1#32
  let v420 : Index := Scalar.indexCast c1_i32_649
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v421 : Index := Scalar.indexCast v419
  ![1, v421.toNat]
def k0_off64 (k0_t6 : Fin k0_t6_loop.trips) : Fin 2 → Nat :=
  let c1_i32_650 : BitVec 32 := 1#32
  let v424 : Index := Scalar.indexCast c1_i32_650
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v425 : Index := Scalar.indexCast v419
  ![1, v425.toNat]
def k0_off65 (k0_t6 : Fin k0_t6_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v430 : Index := Scalar.indexCast v419
  ![0, 1, v430.toNat]
def k0_off66 (k0_t6 : Fin k0_t6_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v435 : Index := Scalar.indexCast v419
  ![1, 1, v435.toNat]
def k0_off67 (k0_t6 : Fin k0_t6_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v440 : Index := Scalar.indexCast v419
  ![2, 1, v440.toNat]
def k0_off68 (k0_t6 : Fin k0_t6_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v445 : Index := Scalar.indexCast v419
  ![3, 1, v445.toNat]
def k0_off69 (k0_t6 : Fin k0_t6_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v450 : Index := Scalar.indexCast v419
  ![4, 1, v450.toNat]
def k0_off70 (k0_t6 : Fin k0_t6_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v455 : Index := Scalar.indexCast v419
  ![5, 1, v455.toNat]
def k0_off71 (k0_t6 : Fin k0_t6_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v460 : Index := Scalar.indexCast v419
  ![6, 1, v460.toNat]

def k0_chk6 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx46_inb : ∀ (v422 : IVec S16 32) (k0_hw6 : k0_chk6 v422), ∀ a x, ((![v422] : Fin 1 → IVec S16 32) a x).toNat < S2048.size a := fun v422 k0_hw6 => k0_hw6.1
theorem k0_idx47_inb : ∀ (v422 : IVec S16 32) (k0_hw6 : k0_chk6 v422), ∀ a x, ((![v422] : Fin 1 → IVec S16 32) a x).toNat < S2048.size a := fun v422 k0_hw6 => k0_hw6.2.1
theorem k0_idx48_inb : ∀ (v422 : IVec S16 32) (k0_hw6 : k0_chk6 v422), ∀ a x, ((![v422] : Fin 1 → IVec S16 32) a x).toNat < S2048.size a := fun v422 k0_hw6 => k0_hw6.2.2.1
theorem k0_idx49_inb : ∀ (v422 : IVec S16 32) (k0_hw6 : k0_chk6 v422), ∀ a x, ((![v422] : Fin 1 → IVec S16 32) a x).toNat < S2048.size a := fun v422 k0_hw6 => k0_hw6.2.2.2.1
theorem k0_idx50_inb : ∀ (v422 : IVec S16 32) (k0_hw6 : k0_chk6 v422), ∀ a x, ((![v422] : Fin 1 → IVec S16 32) a x).toNat < S2048.size a := fun v422 k0_hw6 => k0_hw6.2.2.2.2.1
theorem k0_idx51_inb : ∀ (v422 : IVec S16 32) (k0_hw6 : k0_chk6 v422), ∀ a x, ((![v422] : Fin 1 → IVec S16 32) a x).toNat < S2048.size a := fun v422 k0_hw6 => k0_hw6.2.2.2.2.2.1
theorem k0_idx52_inb : ∀ (v422 : IVec S16 32) (k0_hw6 : k0_chk6 v422), ∀ a x, ((![v422] : Fin 1 → IVec S16 32) a x).toNat < S2048.size a := fun v422 k0_hw6 => k0_hw6.2.2.2.2.2.2.1
theorem k0_idx53_inb : ∀ (v422 : IVec S16 32) (k0_hw6 : k0_chk6 v422), ∀ a x, ((![v422] : Fin 1 → IVec S16 32) a x).toNat < S2048.size a := fun v422 k0_hw6 => k0_hw6.2.2.2.2.2.2.2.1
theorem k0_idx54_inb : ∀ (v422 : IVec S16 32) (k0_hw6 : k0_chk6 v422), ∀ a x, ((![v422] : Fin 1 → IVec S16 32) a x).toNat < S2048.size a := fun v422 k0_hw6 => k0_hw6.2.2.2.2.2.2.2.2
def k0_off72 (k0_t6 : Fin k0_t6_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_262 : BitVec 32 := 0#32
  let c1_i32_264 : BitVec 32 := 1#32
  let arg32 : BitVec 32 := Scf.iv c0_i32_262 c1_i32_264 k0_t6
  let c16_i32_648 : BitVec 32 := 16#32
  let v419 : BitVec 32 := Scalar.muli arg32 c16_i32_648
  let v465 : Index := Scalar.indexCast v419
  ![7, 1, v465.toNat]
def k0_off73 (i : grid0.Coords) : Fin 4 → Nat :=
  let c2_i32_271 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_272 : BitVec 32 := 0#32
  let c0_i32_273 : BitVec 32 := 0#32
  ![2, v2.toNat, 0, 0]
@[reducible] def k0_t7_loop : Scf.Loop 32 :=
  let c0_i32_325 : BitVec 32 := 0#32
  let c128_i32_326 : BitVec 32 := 128#32
  let v267 : BitVec 32 := Scalar.addi c0_i32_325 c128_i32_326
  let c1_i32_327 : BitVec 32 := 1#32
  ⟨c0_i32_325, v267, c1_i32_327⟩
def k0_off74 (k0_t7 : Fin k0_t7_loop.trips) : Fin 2 → Nat :=
  let c0_i32_649 : BitVec 32 := 0#32
  let v420 : Index := Scalar.indexCast c0_i32_649
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v421 : Index := Scalar.indexCast v419
  ![0, v421.toNat]
def k0_off75 (k0_t7 : Fin k0_t7_loop.trips) : Fin 2 → Nat :=
  let c0_i32_650 : BitVec 32 := 0#32
  let v424 : Index := Scalar.indexCast c0_i32_650
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v425 : Index := Scalar.indexCast v419
  ![0, v425.toNat]
def k0_off76 (k0_t7 : Fin k0_t7_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v430 : Index := Scalar.indexCast v419
  ![0, 0, v430.toNat]
def k0_off77 (k0_t7 : Fin k0_t7_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v435 : Index := Scalar.indexCast v419
  ![1, 0, v435.toNat]
def k0_off78 (k0_t7 : Fin k0_t7_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v440 : Index := Scalar.indexCast v419
  ![2, 0, v440.toNat]
def k0_off79 (k0_t7 : Fin k0_t7_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v445 : Index := Scalar.indexCast v419
  ![3, 0, v445.toNat]
def k0_off80 (k0_t7 : Fin k0_t7_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v450 : Index := Scalar.indexCast v419
  ![4, 0, v450.toNat]
def k0_off81 (k0_t7 : Fin k0_t7_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v455 : Index := Scalar.indexCast v419
  ![5, 0, v455.toNat]
def k0_off82 (k0_t7 : Fin k0_t7_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v460 : Index := Scalar.indexCast v419
  ![6, 0, v460.toNat]

def k0_chk7 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx55_inb : ∀ (v422 : IVec S16 32) (k0_hw7 : k0_chk7 v422), ∀ a x, ((![v422] : Fin 1 → IVec S16 32) a x).toNat < S2048.size a := fun v422 k0_hw7 => k0_hw7.1
theorem k0_idx56_inb : ∀ (v422 : IVec S16 32) (k0_hw7 : k0_chk7 v422), ∀ a x, ((![v422] : Fin 1 → IVec S16 32) a x).toNat < S2048.size a := fun v422 k0_hw7 => k0_hw7.2.1
theorem k0_idx57_inb : ∀ (v422 : IVec S16 32) (k0_hw7 : k0_chk7 v422), ∀ a x, ((![v422] : Fin 1 → IVec S16 32) a x).toNat < S2048.size a := fun v422 k0_hw7 => k0_hw7.2.2.1
theorem k0_idx58_inb : ∀ (v422 : IVec S16 32) (k0_hw7 : k0_chk7 v422), ∀ a x, ((![v422] : Fin 1 → IVec S16 32) a x).toNat < S2048.size a := fun v422 k0_hw7 => k0_hw7.2.2.2.1
theorem k0_idx59_inb : ∀ (v422 : IVec S16 32) (k0_hw7 : k0_chk7 v422), ∀ a x, ((![v422] : Fin 1 → IVec S16 32) a x).toNat < S2048.size a := fun v422 k0_hw7 => k0_hw7.2.2.2.2.1
theorem k0_idx60_inb : ∀ (v422 : IVec S16 32) (k0_hw7 : k0_chk7 v422), ∀ a x, ((![v422] : Fin 1 → IVec S16 32) a x).toNat < S2048.size a := fun v422 k0_hw7 => k0_hw7.2.2.2.2.2.1
theorem k0_idx61_inb : ∀ (v422 : IVec S16 32) (k0_hw7 : k0_chk7 v422), ∀ a x, ((![v422] : Fin 1 → IVec S16 32) a x).toNat < S2048.size a := fun v422 k0_hw7 => k0_hw7.2.2.2.2.2.2.1
theorem k0_idx62_inb : ∀ (v422 : IVec S16 32) (k0_hw7 : k0_chk7 v422), ∀ a x, ((![v422] : Fin 1 → IVec S16 32) a x).toNat < S2048.size a := fun v422 k0_hw7 => k0_hw7.2.2.2.2.2.2.2.1
theorem k0_idx63_inb : ∀ (v422 : IVec S16 32) (k0_hw7 : k0_chk7 v422), ∀ a x, ((![v422] : Fin 1 → IVec S16 32) a x).toNat < S2048.size a := fun v422 k0_hw7 => k0_hw7.2.2.2.2.2.2.2.2
def k0_off83 (k0_t7 : Fin k0_t7_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_325 : BitVec 32 := 0#32
  let c1_i32_327 : BitVec 32 := 1#32
  let arg32 : BitVec 32 := Scf.iv c0_i32_325 c1_i32_327 k0_t7
  let c16_i32_648 : BitVec 32 := 16#32
  let v419 : BitVec 32 := Scalar.muli arg32 c16_i32_648
  let v465 : Index := Scalar.indexCast v419
  ![7, 0, v465.toNat]
@[reducible] def k0_t8_loop : Scf.Loop 32 :=
  let c0_i32_330 : BitVec 32 := 0#32
  let c128_i32_331 : BitVec 32 := 128#32
  let v268 : BitVec 32 := Scalar.addi c0_i32_330 c128_i32_331
  let c1_i32_332 : BitVec 32 := 1#32
  ⟨c0_i32_330, v268, c1_i32_332⟩
def k0_off84 (k0_t8 : Fin k0_t8_loop.trips) : Fin 2 → Nat :=
  let c1_i32_649 : BitVec 32 := 1#32
  let v420 : Index := Scalar.indexCast c1_i32_649
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v421 : Index := Scalar.indexCast v419
  ![1, v421.toNat]
def k0_off85 (k0_t8 : Fin k0_t8_loop.trips) : Fin 2 → Nat :=
  let c1_i32_650 : BitVec 32 := 1#32
  let v424 : Index := Scalar.indexCast c1_i32_650
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v425 : Index := Scalar.indexCast v419
  ![1, v425.toNat]
def k0_off86 (k0_t8 : Fin k0_t8_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v430 : Index := Scalar.indexCast v419
  ![0, 1, v430.toNat]
def k0_off87 (k0_t8 : Fin k0_t8_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v435 : Index := Scalar.indexCast v419
  ![1, 1, v435.toNat]
def k0_off88 (k0_t8 : Fin k0_t8_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v440 : Index := Scalar.indexCast v419
  ![2, 1, v440.toNat]
def k0_off89 (k0_t8 : Fin k0_t8_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v445 : Index := Scalar.indexCast v419
  ![3, 1, v445.toNat]
def k0_off90 (k0_t8 : Fin k0_t8_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v450 : Index := Scalar.indexCast v419
  ![4, 1, v450.toNat]
def k0_off91 (k0_t8 : Fin k0_t8_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v455 : Index := Scalar.indexCast v419
  ![5, 1, v455.toNat]
def k0_off92 (k0_t8 : Fin k0_t8_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v460 : Index := Scalar.indexCast v419
  ![6, 1, v460.toNat]

def k0_chk8 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx64_inb : ∀ (v422 : IVec S16 32) (k0_hw8 : k0_chk8 v422), ∀ a x, ((![v422] : Fin 1 → IVec S16 32) a x).toNat < S2048.size a := fun v422 k0_hw8 => k0_hw8.1
theorem k0_idx65_inb : ∀ (v422 : IVec S16 32) (k0_hw8 : k0_chk8 v422), ∀ a x, ((![v422] : Fin 1 → IVec S16 32) a x).toNat < S2048.size a := fun v422 k0_hw8 => k0_hw8.2.1
theorem k0_idx66_inb : ∀ (v422 : IVec S16 32) (k0_hw8 : k0_chk8 v422), ∀ a x, ((![v422] : Fin 1 → IVec S16 32) a x).toNat < S2048.size a := fun v422 k0_hw8 => k0_hw8.2.2.1
theorem k0_idx67_inb : ∀ (v422 : IVec S16 32) (k0_hw8 : k0_chk8 v422), ∀ a x, ((![v422] : Fin 1 → IVec S16 32) a x).toNat < S2048.size a := fun v422 k0_hw8 => k0_hw8.2.2.2.1
theorem k0_idx68_inb : ∀ (v422 : IVec S16 32) (k0_hw8 : k0_chk8 v422), ∀ a x, ((![v422] : Fin 1 → IVec S16 32) a x).toNat < S2048.size a := fun v422 k0_hw8 => k0_hw8.2.2.2.2.1
theorem k0_idx69_inb : ∀ (v422 : IVec S16 32) (k0_hw8 : k0_chk8 v422), ∀ a x, ((![v422] : Fin 1 → IVec S16 32) a x).toNat < S2048.size a := fun v422 k0_hw8 => k0_hw8.2.2.2.2.2.1
theorem k0_idx70_inb : ∀ (v422 : IVec S16 32) (k0_hw8 : k0_chk8 v422), ∀ a x, ((![v422] : Fin 1 → IVec S16 32) a x).toNat < S2048.size a := fun v422 k0_hw8 => k0_hw8.2.2.2.2.2.2.1
theorem k0_idx71_inb : ∀ (v422 : IVec S16 32) (k0_hw8 : k0_chk8 v422), ∀ a x, ((![v422] : Fin 1 → IVec S16 32) a x).toNat < S2048.size a := fun v422 k0_hw8 => k0_hw8.2.2.2.2.2.2.2.1
theorem k0_idx72_inb : ∀ (v422 : IVec S16 32) (k0_hw8 : k0_chk8 v422), ∀ a x, ((![v422] : Fin 1 → IVec S16 32) a x).toNat < S2048.size a := fun v422 k0_hw8 => k0_hw8.2.2.2.2.2.2.2.2
def k0_off93 (k0_t8 : Fin k0_t8_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_330 : BitVec 32 := 0#32
  let c1_i32_332 : BitVec 32 := 1#32
  let arg32 : BitVec 32 := Scf.iv c0_i32_330 c1_i32_332 k0_t8
  let c16_i32_648 : BitVec 32 := 16#32
  let v419 : BitVec 32 := Scalar.muli arg32 c16_i32_648
  let v465 : Index := Scalar.indexCast v419
  ![7, 1, v465.toNat]
def k0_off94 (i : grid0.Coords) : Fin 4 → Nat :=
  let c3_i32_339 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_340 : BitVec 32 := 0#32
  let c0_i32_341 : BitVec 32 := 0#32
  ![3, v2.toNat, 0, 0]
@[reducible] def k0_t9_loop : Scf.Loop 32 :=
  let c0_i32_392 : BitVec 32 := 0#32
  let c128_i32_393 : BitVec 32 := 128#32
  let v299 : BitVec 32 := Scalar.addi c0_i32_392 c128_i32_393
  let c1_i32_394 : BitVec 32 := 1#32
  ⟨c0_i32_392, v299, c1_i32_394⟩
def k0_off95 (k0_t9 : Fin k0_t9_loop.trips) : Fin 2 → Nat :=
  let c0_i32_649 : BitVec 32 := 0#32
  let v420 : Index := Scalar.indexCast c0_i32_649
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v421 : Index := Scalar.indexCast v419
  ![0, v421.toNat]
def k0_off96 (k0_t9 : Fin k0_t9_loop.trips) : Fin 2 → Nat :=
  let c0_i32_650 : BitVec 32 := 0#32
  let v424 : Index := Scalar.indexCast c0_i32_650
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v425 : Index := Scalar.indexCast v419
  ![0, v425.toNat]
def k0_off97 (k0_t9 : Fin k0_t9_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v430 : Index := Scalar.indexCast v419
  ![0, 0, v430.toNat]
def k0_off98 (k0_t9 : Fin k0_t9_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v435 : Index := Scalar.indexCast v419
  ![1, 0, v435.toNat]
def k0_off99 (k0_t9 : Fin k0_t9_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v440 : Index := Scalar.indexCast v419
  ![2, 0, v440.toNat]
def k0_off100 (k0_t9 : Fin k0_t9_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v445 : Index := Scalar.indexCast v419
  ![3, 0, v445.toNat]
def k0_off101 (k0_t9 : Fin k0_t9_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v450 : Index := Scalar.indexCast v419
  ![4, 0, v450.toNat]
def k0_off102 (k0_t9 : Fin k0_t9_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v455 : Index := Scalar.indexCast v419
  ![5, 0, v455.toNat]
def k0_off103 (k0_t9 : Fin k0_t9_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v460 : Index := Scalar.indexCast v419
  ![6, 0, v460.toNat]

def k0_chk9 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx73_inb : ∀ (v422 : IVec S16 32) (k0_hw9 : k0_chk9 v422), ∀ a x, ((![v422] : Fin 1 → IVec S16 32) a x).toNat < S2048.size a := fun v422 k0_hw9 => k0_hw9.1
theorem k0_idx74_inb : ∀ (v422 : IVec S16 32) (k0_hw9 : k0_chk9 v422), ∀ a x, ((![v422] : Fin 1 → IVec S16 32) a x).toNat < S2048.size a := fun v422 k0_hw9 => k0_hw9.2.1
theorem k0_idx75_inb : ∀ (v422 : IVec S16 32) (k0_hw9 : k0_chk9 v422), ∀ a x, ((![v422] : Fin 1 → IVec S16 32) a x).toNat < S2048.size a := fun v422 k0_hw9 => k0_hw9.2.2.1
theorem k0_idx76_inb : ∀ (v422 : IVec S16 32) (k0_hw9 : k0_chk9 v422), ∀ a x, ((![v422] : Fin 1 → IVec S16 32) a x).toNat < S2048.size a := fun v422 k0_hw9 => k0_hw9.2.2.2.1
theorem k0_idx77_inb : ∀ (v422 : IVec S16 32) (k0_hw9 : k0_chk9 v422), ∀ a x, ((![v422] : Fin 1 → IVec S16 32) a x).toNat < S2048.size a := fun v422 k0_hw9 => k0_hw9.2.2.2.2.1
theorem k0_idx78_inb : ∀ (v422 : IVec S16 32) (k0_hw9 : k0_chk9 v422), ∀ a x, ((![v422] : Fin 1 → IVec S16 32) a x).toNat < S2048.size a := fun v422 k0_hw9 => k0_hw9.2.2.2.2.2.1
theorem k0_idx79_inb : ∀ (v422 : IVec S16 32) (k0_hw9 : k0_chk9 v422), ∀ a x, ((![v422] : Fin 1 → IVec S16 32) a x).toNat < S2048.size a := fun v422 k0_hw9 => k0_hw9.2.2.2.2.2.2.1
theorem k0_idx80_inb : ∀ (v422 : IVec S16 32) (k0_hw9 : k0_chk9 v422), ∀ a x, ((![v422] : Fin 1 → IVec S16 32) a x).toNat < S2048.size a := fun v422 k0_hw9 => k0_hw9.2.2.2.2.2.2.2.1
theorem k0_idx81_inb : ∀ (v422 : IVec S16 32) (k0_hw9 : k0_chk9 v422), ∀ a x, ((![v422] : Fin 1 → IVec S16 32) a x).toNat < S2048.size a := fun v422 k0_hw9 => k0_hw9.2.2.2.2.2.2.2.2
def k0_off104 (k0_t9 : Fin k0_t9_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_392 : BitVec 32 := 0#32
  let c1_i32_394 : BitVec 32 := 1#32
  let arg32 : BitVec 32 := Scf.iv c0_i32_392 c1_i32_394 k0_t9
  let c16_i32_648 : BitVec 32 := 16#32
  let v419 : BitVec 32 := Scalar.muli arg32 c16_i32_648
  let v465 : Index := Scalar.indexCast v419
  ![7, 0, v465.toNat]
@[reducible] def k0_t10_loop : Scf.Loop 32 :=
  let c0_i32_397 : BitVec 32 := 0#32
  let c128_i32_398 : BitVec 32 := 128#32
  let v300 : BitVec 32 := Scalar.addi c0_i32_397 c128_i32_398
  let c1_i32_399 : BitVec 32 := 1#32
  ⟨c0_i32_397, v300, c1_i32_399⟩
def k0_off105 (k0_t10 : Fin k0_t10_loop.trips) : Fin 2 → Nat :=
  let c1_i32_649 : BitVec 32 := 1#32
  let v420 : Index := Scalar.indexCast c1_i32_649
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v421 : Index := Scalar.indexCast v419
  ![1, v421.toNat]
def k0_off106 (k0_t10 : Fin k0_t10_loop.trips) : Fin 2 → Nat :=
  let c1_i32_650 : BitVec 32 := 1#32
  let v424 : Index := Scalar.indexCast c1_i32_650
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v425 : Index := Scalar.indexCast v419
  ![1, v425.toNat]
def k0_off107 (k0_t10 : Fin k0_t10_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v430 : Index := Scalar.indexCast v419
  ![0, 1, v430.toNat]
def k0_off108 (k0_t10 : Fin k0_t10_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v435 : Index := Scalar.indexCast v419
  ![1, 1, v435.toNat]
def k0_off109 (k0_t10 : Fin k0_t10_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v440 : Index := Scalar.indexCast v419
  ![2, 1, v440.toNat]
def k0_off110 (k0_t10 : Fin k0_t10_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v445 : Index := Scalar.indexCast v419
  ![3, 1, v445.toNat]
def k0_off111 (k0_t10 : Fin k0_t10_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v450 : Index := Scalar.indexCast v419
  ![4, 1, v450.toNat]
def k0_off112 (k0_t10 : Fin k0_t10_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v455 : Index := Scalar.indexCast v419
  ![5, 1, v455.toNat]
def k0_off113 (k0_t10 : Fin k0_t10_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v460 : Index := Scalar.indexCast v419
  ![6, 1, v460.toNat]

def k0_chk10 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx82_inb : ∀ (v422 : IVec S16 32) (k0_hw10 : k0_chk10 v422), ∀ a x, ((![v422] : Fin 1 → IVec S16 32) a x).toNat < S2048.size a := fun v422 k0_hw10 => k0_hw10.1
theorem k0_idx83_inb : ∀ (v422 : IVec S16 32) (k0_hw10 : k0_chk10 v422), ∀ a x, ((![v422] : Fin 1 → IVec S16 32) a x).toNat < S2048.size a := fun v422 k0_hw10 => k0_hw10.2.1
theorem k0_idx84_inb : ∀ (v422 : IVec S16 32) (k0_hw10 : k0_chk10 v422), ∀ a x, ((![v422] : Fin 1 → IVec S16 32) a x).toNat < S2048.size a := fun v422 k0_hw10 => k0_hw10.2.2.1
theorem k0_idx85_inb : ∀ (v422 : IVec S16 32) (k0_hw10 : k0_chk10 v422), ∀ a x, ((![v422] : Fin 1 → IVec S16 32) a x).toNat < S2048.size a := fun v422 k0_hw10 => k0_hw10.2.2.2.1
theorem k0_idx86_inb : ∀ (v422 : IVec S16 32) (k0_hw10 : k0_chk10 v422), ∀ a x, ((![v422] : Fin 1 → IVec S16 32) a x).toNat < S2048.size a := fun v422 k0_hw10 => k0_hw10.2.2.2.2.1
theorem k0_idx87_inb : ∀ (v422 : IVec S16 32) (k0_hw10 : k0_chk10 v422), ∀ a x, ((![v422] : Fin 1 → IVec S16 32) a x).toNat < S2048.size a := fun v422 k0_hw10 => k0_hw10.2.2.2.2.2.1
theorem k0_idx88_inb : ∀ (v422 : IVec S16 32) (k0_hw10 : k0_chk10 v422), ∀ a x, ((![v422] : Fin 1 → IVec S16 32) a x).toNat < S2048.size a := fun v422 k0_hw10 => k0_hw10.2.2.2.2.2.2.1
theorem k0_idx89_inb : ∀ (v422 : IVec S16 32) (k0_hw10 : k0_chk10 v422), ∀ a x, ((![v422] : Fin 1 → IVec S16 32) a x).toNat < S2048.size a := fun v422 k0_hw10 => k0_hw10.2.2.2.2.2.2.2.1
theorem k0_idx90_inb : ∀ (v422 : IVec S16 32) (k0_hw10 : k0_chk10 v422), ∀ a x, ((![v422] : Fin 1 → IVec S16 32) a x).toNat < S2048.size a := fun v422 k0_hw10 => k0_hw10.2.2.2.2.2.2.2.2
def k0_off114 (k0_t10 : Fin k0_t10_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_397 : BitVec 32 := 0#32
  let c1_i32_399 : BitVec 32 := 1#32
  let arg32 : BitVec 32 := Scf.iv c0_i32_397 c1_i32_399 k0_t10
  let c16_i32_648 : BitVec 32 := 16#32
  let v419 : BitVec 32 := Scalar.muli arg32 c16_i32_648
  let v465 : Index := Scalar.indexCast v419
  ![7, 1, v465.toNat]
def k0_off115 (i : grid0.Coords) : Fin 4 → Nat :=
  let c4_i32_406 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_407 : BitVec 32 := 0#32
  let c0_i32_408 : BitVec 32 := 0#32
  ![4, v2.toNat, 0, 0]
@[reducible] def k0_t11_loop : Scf.Loop 32 :=
  let c0_i32_459 : BitVec 32 := 0#32
  let c128_i32_460 : BitVec 32 := 128#32
  let v331 : BitVec 32 := Scalar.addi c0_i32_459 c128_i32_460
  let c1_i32_461 : BitVec 32 := 1#32
  ⟨c0_i32_459, v331, c1_i32_461⟩
def k0_off116 (k0_t11 : Fin k0_t11_loop.trips) : Fin 2 → Nat :=
  let c0_i32_649 : BitVec 32 := 0#32
  let v420 : Index := Scalar.indexCast c0_i32_649
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v421 : Index := Scalar.indexCast v419
  ![0, v421.toNat]
def k0_off117 (k0_t11 : Fin k0_t11_loop.trips) : Fin 2 → Nat :=
  let c0_i32_650 : BitVec 32 := 0#32
  let v424 : Index := Scalar.indexCast c0_i32_650
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v425 : Index := Scalar.indexCast v419
  ![0, v425.toNat]
def k0_off118 (k0_t11 : Fin k0_t11_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v430 : Index := Scalar.indexCast v419
  ![0, 0, v430.toNat]
def k0_off119 (k0_t11 : Fin k0_t11_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v435 : Index := Scalar.indexCast v419
  ![1, 0, v435.toNat]
def k0_off120 (k0_t11 : Fin k0_t11_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v440 : Index := Scalar.indexCast v419
  ![2, 0, v440.toNat]
def k0_off121 (k0_t11 : Fin k0_t11_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v445 : Index := Scalar.indexCast v419
  ![3, 0, v445.toNat]
def k0_off122 (k0_t11 : Fin k0_t11_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v450 : Index := Scalar.indexCast v419
  ![4, 0, v450.toNat]
def k0_off123 (k0_t11 : Fin k0_t11_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v455 : Index := Scalar.indexCast v419
  ![5, 0, v455.toNat]
def k0_off124 (k0_t11 : Fin k0_t11_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v460 : Index := Scalar.indexCast v419
  ![6, 0, v460.toNat]

def k0_chk11 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx91_inb : ∀ (v422 : IVec S16 32) (k0_hw11 : k0_chk11 v422), ∀ a x, ((![v422] : Fin 1 → IVec S16 32) a x).toNat < S2048.size a := fun v422 k0_hw11 => k0_hw11.1
theorem k0_idx92_inb : ∀ (v422 : IVec S16 32) (k0_hw11 : k0_chk11 v422), ∀ a x, ((![v422] : Fin 1 → IVec S16 32) a x).toNat < S2048.size a := fun v422 k0_hw11 => k0_hw11.2.1
theorem k0_idx93_inb : ∀ (v422 : IVec S16 32) (k0_hw11 : k0_chk11 v422), ∀ a x, ((![v422] : Fin 1 → IVec S16 32) a x).toNat < S2048.size a := fun v422 k0_hw11 => k0_hw11.2.2.1
theorem k0_idx94_inb : ∀ (v422 : IVec S16 32) (k0_hw11 : k0_chk11 v422), ∀ a x, ((![v422] : Fin 1 → IVec S16 32) a x).toNat < S2048.size a := fun v422 k0_hw11 => k0_hw11.2.2.2.1
theorem k0_idx95_inb : ∀ (v422 : IVec S16 32) (k0_hw11 : k0_chk11 v422), ∀ a x, ((![v422] : Fin 1 → IVec S16 32) a x).toNat < S2048.size a := fun v422 k0_hw11 => k0_hw11.2.2.2.2.1
theorem k0_idx96_inb : ∀ (v422 : IVec S16 32) (k0_hw11 : k0_chk11 v422), ∀ a x, ((![v422] : Fin 1 → IVec S16 32) a x).toNat < S2048.size a := fun v422 k0_hw11 => k0_hw11.2.2.2.2.2.1
theorem k0_idx97_inb : ∀ (v422 : IVec S16 32) (k0_hw11 : k0_chk11 v422), ∀ a x, ((![v422] : Fin 1 → IVec S16 32) a x).toNat < S2048.size a := fun v422 k0_hw11 => k0_hw11.2.2.2.2.2.2.1
theorem k0_idx98_inb : ∀ (v422 : IVec S16 32) (k0_hw11 : k0_chk11 v422), ∀ a x, ((![v422] : Fin 1 → IVec S16 32) a x).toNat < S2048.size a := fun v422 k0_hw11 => k0_hw11.2.2.2.2.2.2.2.1
theorem k0_idx99_inb : ∀ (v422 : IVec S16 32) (k0_hw11 : k0_chk11 v422), ∀ a x, ((![v422] : Fin 1 → IVec S16 32) a x).toNat < S2048.size a := fun v422 k0_hw11 => k0_hw11.2.2.2.2.2.2.2.2
def k0_off125 (k0_t11 : Fin k0_t11_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_459 : BitVec 32 := 0#32
  let c1_i32_461 : BitVec 32 := 1#32
  let arg32 : BitVec 32 := Scf.iv c0_i32_459 c1_i32_461 k0_t11
  let c16_i32_648 : BitVec 32 := 16#32
  let v419 : BitVec 32 := Scalar.muli arg32 c16_i32_648
  let v465 : Index := Scalar.indexCast v419
  ![7, 0, v465.toNat]
@[reducible] def k0_t12_loop : Scf.Loop 32 :=
  let c0_i32_464 : BitVec 32 := 0#32
  let c128_i32_465 : BitVec 32 := 128#32
  let v332 : BitVec 32 := Scalar.addi c0_i32_464 c128_i32_465
  let c1_i32_466 : BitVec 32 := 1#32
  ⟨c0_i32_464, v332, c1_i32_466⟩
def k0_off126 (k0_t12 : Fin k0_t12_loop.trips) : Fin 2 → Nat :=
  let c1_i32_649 : BitVec 32 := 1#32
  let v420 : Index := Scalar.indexCast c1_i32_649
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v421 : Index := Scalar.indexCast v419
  ![1, v421.toNat]
def k0_off127 (k0_t12 : Fin k0_t12_loop.trips) : Fin 2 → Nat :=
  let c1_i32_650 : BitVec 32 := 1#32
  let v424 : Index := Scalar.indexCast c1_i32_650
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v425 : Index := Scalar.indexCast v419
  ![1, v425.toNat]
def k0_off128 (k0_t12 : Fin k0_t12_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v430 : Index := Scalar.indexCast v419
  ![0, 1, v430.toNat]
def k0_off129 (k0_t12 : Fin k0_t12_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v435 : Index := Scalar.indexCast v419
  ![1, 1, v435.toNat]
def k0_off130 (k0_t12 : Fin k0_t12_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v440 : Index := Scalar.indexCast v419
  ![2, 1, v440.toNat]
def k0_off131 (k0_t12 : Fin k0_t12_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v445 : Index := Scalar.indexCast v419
  ![3, 1, v445.toNat]
def k0_off132 (k0_t12 : Fin k0_t12_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v450 : Index := Scalar.indexCast v419
  ![4, 1, v450.toNat]
def k0_off133 (k0_t12 : Fin k0_t12_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v455 : Index := Scalar.indexCast v419
  ![5, 1, v455.toNat]
def k0_off134 (k0_t12 : Fin k0_t12_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v460 : Index := Scalar.indexCast v419
  ![6, 1, v460.toNat]

def k0_chk12 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx100_inb : ∀ (v422 : IVec S16 32) (k0_hw12 : k0_chk12 v422), ∀ a x, ((![v422] : Fin 1 → IVec S16 32) a x).toNat < S2048.size a := fun v422 k0_hw12 => k0_hw12.1
theorem k0_idx101_inb : ∀ (v422 : IVec S16 32) (k0_hw12 : k0_chk12 v422), ∀ a x, ((![v422] : Fin 1 → IVec S16 32) a x).toNat < S2048.size a := fun v422 k0_hw12 => k0_hw12.2.1
theorem k0_idx102_inb : ∀ (v422 : IVec S16 32) (k0_hw12 : k0_chk12 v422), ∀ a x, ((![v422] : Fin 1 → IVec S16 32) a x).toNat < S2048.size a := fun v422 k0_hw12 => k0_hw12.2.2.1
theorem k0_idx103_inb : ∀ (v422 : IVec S16 32) (k0_hw12 : k0_chk12 v422), ∀ a x, ((![v422] : Fin 1 → IVec S16 32) a x).toNat < S2048.size a := fun v422 k0_hw12 => k0_hw12.2.2.2.1
theorem k0_idx104_inb : ∀ (v422 : IVec S16 32) (k0_hw12 : k0_chk12 v422), ∀ a x, ((![v422] : Fin 1 → IVec S16 32) a x).toNat < S2048.size a := fun v422 k0_hw12 => k0_hw12.2.2.2.2.1
theorem k0_idx105_inb : ∀ (v422 : IVec S16 32) (k0_hw12 : k0_chk12 v422), ∀ a x, ((![v422] : Fin 1 → IVec S16 32) a x).toNat < S2048.size a := fun v422 k0_hw12 => k0_hw12.2.2.2.2.2.1
theorem k0_idx106_inb : ∀ (v422 : IVec S16 32) (k0_hw12 : k0_chk12 v422), ∀ a x, ((![v422] : Fin 1 → IVec S16 32) a x).toNat < S2048.size a := fun v422 k0_hw12 => k0_hw12.2.2.2.2.2.2.1
theorem k0_idx107_inb : ∀ (v422 : IVec S16 32) (k0_hw12 : k0_chk12 v422), ∀ a x, ((![v422] : Fin 1 → IVec S16 32) a x).toNat < S2048.size a := fun v422 k0_hw12 => k0_hw12.2.2.2.2.2.2.2.1
theorem k0_idx108_inb : ∀ (v422 : IVec S16 32) (k0_hw12 : k0_chk12 v422), ∀ a x, ((![v422] : Fin 1 → IVec S16 32) a x).toNat < S2048.size a := fun v422 k0_hw12 => k0_hw12.2.2.2.2.2.2.2.2
def k0_off135 (k0_t12 : Fin k0_t12_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_464 : BitVec 32 := 0#32
  let c1_i32_466 : BitVec 32 := 1#32
  let arg32 : BitVec 32 := Scf.iv c0_i32_464 c1_i32_466 k0_t12
  let c16_i32_648 : BitVec 32 := 16#32
  let v419 : BitVec 32 := Scalar.muli arg32 c16_i32_648
  let v465 : Index := Scalar.indexCast v419
  ![7, 1, v465.toNat]
def k0_off136 (i : grid0.Coords) : Fin 4 → Nat :=
  let c5_i32_473 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_474 : BitVec 32 := 0#32
  let c0_i32_475 : BitVec 32 := 0#32
  ![5, v2.toNat, 0, 0]
@[reducible] def k0_t13_loop : Scf.Loop 32 :=
  let c0_i32_526 : BitVec 32 := 0#32
  let c128_i32_527 : BitVec 32 := 128#32
  let v363 : BitVec 32 := Scalar.addi c0_i32_526 c128_i32_527
  let c1_i32_528 : BitVec 32 := 1#32
  ⟨c0_i32_526, v363, c1_i32_528⟩
def k0_off137 (k0_t13 : Fin k0_t13_loop.trips) : Fin 2 → Nat :=
  let c0_i32_649 : BitVec 32 := 0#32
  let v420 : Index := Scalar.indexCast c0_i32_649
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v421 : Index := Scalar.indexCast v419
  ![0, v421.toNat]
def k0_off138 (k0_t13 : Fin k0_t13_loop.trips) : Fin 2 → Nat :=
  let c0_i32_650 : BitVec 32 := 0#32
  let v424 : Index := Scalar.indexCast c0_i32_650
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v425 : Index := Scalar.indexCast v419
  ![0, v425.toNat]
def k0_off139 (k0_t13 : Fin k0_t13_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v430 : Index := Scalar.indexCast v419
  ![0, 0, v430.toNat]
def k0_off140 (k0_t13 : Fin k0_t13_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v435 : Index := Scalar.indexCast v419
  ![1, 0, v435.toNat]
def k0_off141 (k0_t13 : Fin k0_t13_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v440 : Index := Scalar.indexCast v419
  ![2, 0, v440.toNat]
def k0_off142 (k0_t13 : Fin k0_t13_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v445 : Index := Scalar.indexCast v419
  ![3, 0, v445.toNat]
def k0_off143 (k0_t13 : Fin k0_t13_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v450 : Index := Scalar.indexCast v419
  ![4, 0, v450.toNat]
def k0_off144 (k0_t13 : Fin k0_t13_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v455 : Index := Scalar.indexCast v419
  ![5, 0, v455.toNat]
def k0_off145 (k0_t13 : Fin k0_t13_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v460 : Index := Scalar.indexCast v419
  ![6, 0, v460.toNat]

def k0_chk13 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx109_inb : ∀ (v422 : IVec S16 32) (k0_hw13 : k0_chk13 v422), ∀ a x, ((![v422] : Fin 1 → IVec S16 32) a x).toNat < S2048.size a := fun v422 k0_hw13 => k0_hw13.1
theorem k0_idx110_inb : ∀ (v422 : IVec S16 32) (k0_hw13 : k0_chk13 v422), ∀ a x, ((![v422] : Fin 1 → IVec S16 32) a x).toNat < S2048.size a := fun v422 k0_hw13 => k0_hw13.2.1
theorem k0_idx111_inb : ∀ (v422 : IVec S16 32) (k0_hw13 : k0_chk13 v422), ∀ a x, ((![v422] : Fin 1 → IVec S16 32) a x).toNat < S2048.size a := fun v422 k0_hw13 => k0_hw13.2.2.1
theorem k0_idx112_inb : ∀ (v422 : IVec S16 32) (k0_hw13 : k0_chk13 v422), ∀ a x, ((![v422] : Fin 1 → IVec S16 32) a x).toNat < S2048.size a := fun v422 k0_hw13 => k0_hw13.2.2.2.1
theorem k0_idx113_inb : ∀ (v422 : IVec S16 32) (k0_hw13 : k0_chk13 v422), ∀ a x, ((![v422] : Fin 1 → IVec S16 32) a x).toNat < S2048.size a := fun v422 k0_hw13 => k0_hw13.2.2.2.2.1
theorem k0_idx114_inb : ∀ (v422 : IVec S16 32) (k0_hw13 : k0_chk13 v422), ∀ a x, ((![v422] : Fin 1 → IVec S16 32) a x).toNat < S2048.size a := fun v422 k0_hw13 => k0_hw13.2.2.2.2.2.1
theorem k0_idx115_inb : ∀ (v422 : IVec S16 32) (k0_hw13 : k0_chk13 v422), ∀ a x, ((![v422] : Fin 1 → IVec S16 32) a x).toNat < S2048.size a := fun v422 k0_hw13 => k0_hw13.2.2.2.2.2.2.1
theorem k0_idx116_inb : ∀ (v422 : IVec S16 32) (k0_hw13 : k0_chk13 v422), ∀ a x, ((![v422] : Fin 1 → IVec S16 32) a x).toNat < S2048.size a := fun v422 k0_hw13 => k0_hw13.2.2.2.2.2.2.2.1
theorem k0_idx117_inb : ∀ (v422 : IVec S16 32) (k0_hw13 : k0_chk13 v422), ∀ a x, ((![v422] : Fin 1 → IVec S16 32) a x).toNat < S2048.size a := fun v422 k0_hw13 => k0_hw13.2.2.2.2.2.2.2.2
def k0_off146 (k0_t13 : Fin k0_t13_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_526 : BitVec 32 := 0#32
  let c1_i32_528 : BitVec 32 := 1#32
  let arg32 : BitVec 32 := Scf.iv c0_i32_526 c1_i32_528 k0_t13
  let c16_i32_648 : BitVec 32 := 16#32
  let v419 : BitVec 32 := Scalar.muli arg32 c16_i32_648
  let v465 : Index := Scalar.indexCast v419
  ![7, 0, v465.toNat]
@[reducible] def k0_t14_loop : Scf.Loop 32 :=
  let c0_i32_531 : BitVec 32 := 0#32
  let c128_i32_532 : BitVec 32 := 128#32
  let v364 : BitVec 32 := Scalar.addi c0_i32_531 c128_i32_532
  let c1_i32_533 : BitVec 32 := 1#32
  ⟨c0_i32_531, v364, c1_i32_533⟩
def k0_off147 (k0_t14 : Fin k0_t14_loop.trips) : Fin 2 → Nat :=
  let c1_i32_649 : BitVec 32 := 1#32
  let v420 : Index := Scalar.indexCast c1_i32_649
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v421 : Index := Scalar.indexCast v419
  ![1, v421.toNat]
def k0_off148 (k0_t14 : Fin k0_t14_loop.trips) : Fin 2 → Nat :=
  let c1_i32_650 : BitVec 32 := 1#32
  let v424 : Index := Scalar.indexCast c1_i32_650
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v425 : Index := Scalar.indexCast v419
  ![1, v425.toNat]
def k0_off149 (k0_t14 : Fin k0_t14_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v430 : Index := Scalar.indexCast v419
  ![0, 1, v430.toNat]
def k0_off150 (k0_t14 : Fin k0_t14_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v435 : Index := Scalar.indexCast v419
  ![1, 1, v435.toNat]
def k0_off151 (k0_t14 : Fin k0_t14_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v440 : Index := Scalar.indexCast v419
  ![2, 1, v440.toNat]
def k0_off152 (k0_t14 : Fin k0_t14_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v445 : Index := Scalar.indexCast v419
  ![3, 1, v445.toNat]
def k0_off153 (k0_t14 : Fin k0_t14_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v450 : Index := Scalar.indexCast v419
  ![4, 1, v450.toNat]
def k0_off154 (k0_t14 : Fin k0_t14_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v455 : Index := Scalar.indexCast v419
  ![5, 1, v455.toNat]
def k0_off155 (k0_t14 : Fin k0_t14_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v460 : Index := Scalar.indexCast v419
  ![6, 1, v460.toNat]

def k0_chk14 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx118_inb : ∀ (v422 : IVec S16 32) (k0_hw14 : k0_chk14 v422), ∀ a x, ((![v422] : Fin 1 → IVec S16 32) a x).toNat < S2048.size a := fun v422 k0_hw14 => k0_hw14.1
theorem k0_idx119_inb : ∀ (v422 : IVec S16 32) (k0_hw14 : k0_chk14 v422), ∀ a x, ((![v422] : Fin 1 → IVec S16 32) a x).toNat < S2048.size a := fun v422 k0_hw14 => k0_hw14.2.1
theorem k0_idx120_inb : ∀ (v422 : IVec S16 32) (k0_hw14 : k0_chk14 v422), ∀ a x, ((![v422] : Fin 1 → IVec S16 32) a x).toNat < S2048.size a := fun v422 k0_hw14 => k0_hw14.2.2.1
theorem k0_idx121_inb : ∀ (v422 : IVec S16 32) (k0_hw14 : k0_chk14 v422), ∀ a x, ((![v422] : Fin 1 → IVec S16 32) a x).toNat < S2048.size a := fun v422 k0_hw14 => k0_hw14.2.2.2.1
theorem k0_idx122_inb : ∀ (v422 : IVec S16 32) (k0_hw14 : k0_chk14 v422), ∀ a x, ((![v422] : Fin 1 → IVec S16 32) a x).toNat < S2048.size a := fun v422 k0_hw14 => k0_hw14.2.2.2.2.1
theorem k0_idx123_inb : ∀ (v422 : IVec S16 32) (k0_hw14 : k0_chk14 v422), ∀ a x, ((![v422] : Fin 1 → IVec S16 32) a x).toNat < S2048.size a := fun v422 k0_hw14 => k0_hw14.2.2.2.2.2.1
theorem k0_idx124_inb : ∀ (v422 : IVec S16 32) (k0_hw14 : k0_chk14 v422), ∀ a x, ((![v422] : Fin 1 → IVec S16 32) a x).toNat < S2048.size a := fun v422 k0_hw14 => k0_hw14.2.2.2.2.2.2.1
theorem k0_idx125_inb : ∀ (v422 : IVec S16 32) (k0_hw14 : k0_chk14 v422), ∀ a x, ((![v422] : Fin 1 → IVec S16 32) a x).toNat < S2048.size a := fun v422 k0_hw14 => k0_hw14.2.2.2.2.2.2.2.1
theorem k0_idx126_inb : ∀ (v422 : IVec S16 32) (k0_hw14 : k0_chk14 v422), ∀ a x, ((![v422] : Fin 1 → IVec S16 32) a x).toNat < S2048.size a := fun v422 k0_hw14 => k0_hw14.2.2.2.2.2.2.2.2
def k0_off156 (k0_t14 : Fin k0_t14_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_531 : BitVec 32 := 0#32
  let c1_i32_533 : BitVec 32 := 1#32
  let arg32 : BitVec 32 := Scf.iv c0_i32_531 c1_i32_533 k0_t14
  let c16_i32_648 : BitVec 32 := 16#32
  let v419 : BitVec 32 := Scalar.muli arg32 c16_i32_648
  let v465 : Index := Scalar.indexCast v419
  ![7, 1, v465.toNat]
def k0_off157 (i : grid0.Coords) : Fin 4 → Nat :=
  let c6_i32_540 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_541 : BitVec 32 := 0#32
  let c0_i32_542 : BitVec 32 := 0#32
  ![6, v2.toNat, 0, 0]
@[reducible] def k0_t15_loop : Scf.Loop 32 :=
  let c0_i32_593 : BitVec 32 := 0#32
  let c128_i32_594 : BitVec 32 := 128#32
  let v395 : BitVec 32 := Scalar.addi c0_i32_593 c128_i32_594
  let c1_i32_595 : BitVec 32 := 1#32
  ⟨c0_i32_593, v395, c1_i32_595⟩
def k0_off158 (k0_t15 : Fin k0_t15_loop.trips) : Fin 2 → Nat :=
  let c0_i32_649 : BitVec 32 := 0#32
  let v420 : Index := Scalar.indexCast c0_i32_649
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v421 : Index := Scalar.indexCast v419
  ![0, v421.toNat]
def k0_off159 (k0_t15 : Fin k0_t15_loop.trips) : Fin 2 → Nat :=
  let c0_i32_650 : BitVec 32 := 0#32
  let v424 : Index := Scalar.indexCast c0_i32_650
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v425 : Index := Scalar.indexCast v419
  ![0, v425.toNat]
def k0_off160 (k0_t15 : Fin k0_t15_loop.trips) : Fin 3 → Nat :=
  let c0_i32_651 : BitVec 32 := 0#32
  let v428 : Index := Scalar.indexCast c0_i32_651
  let c0_i32_652 : BitVec 32 := 0#32
  let v429 : Index := Scalar.indexCast c0_i32_652
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v430 : Index := Scalar.indexCast v419
  ![0, 0, v430.toNat]
def k0_off161 (k0_t15 : Fin k0_t15_loop.trips) : Fin 3 → Nat :=
  let c1_i32_653 : BitVec 32 := 1#32
  let v433 : Index := Scalar.indexCast c1_i32_653
  let c0_i32_654 : BitVec 32 := 0#32
  let v434 : Index := Scalar.indexCast c0_i32_654
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v435 : Index := Scalar.indexCast v419
  ![1, 0, v435.toNat]
def k0_off162 (k0_t15 : Fin k0_t15_loop.trips) : Fin 3 → Nat :=
  let c2_i32_655 : BitVec 32 := 2#32
  let v438 : Index := Scalar.indexCast c2_i32_655
  let c0_i32_656 : BitVec 32 := 0#32
  let v439 : Index := Scalar.indexCast c0_i32_656
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v440 : Index := Scalar.indexCast v419
  ![2, 0, v440.toNat]
def k0_off163 (k0_t15 : Fin k0_t15_loop.trips) : Fin 3 → Nat :=
  let c3_i32_657 : BitVec 32 := 3#32
  let v443 : Index := Scalar.indexCast c3_i32_657
  let c0_i32_658 : BitVec 32 := 0#32
  let v444 : Index := Scalar.indexCast c0_i32_658
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v445 : Index := Scalar.indexCast v419
  ![3, 0, v445.toNat]
def k0_off164 (k0_t15 : Fin k0_t15_loop.trips) : Fin 3 → Nat :=
  let c4_i32_659 : BitVec 32 := 4#32
  let v448 : Index := Scalar.indexCast c4_i32_659
  let c0_i32_660 : BitVec 32 := 0#32
  let v449 : Index := Scalar.indexCast c0_i32_660
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v450 : Index := Scalar.indexCast v419
  ![4, 0, v450.toNat]
def k0_off165 (k0_t15 : Fin k0_t15_loop.trips) : Fin 3 → Nat :=
  let c5_i32_661 : BitVec 32 := 5#32
  let v453 : Index := Scalar.indexCast c5_i32_661
  let c0_i32_662 : BitVec 32 := 0#32
  let v454 : Index := Scalar.indexCast c0_i32_662
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v455 : Index := Scalar.indexCast v419
  ![5, 0, v455.toNat]
def k0_off166 (k0_t15 : Fin k0_t15_loop.trips) : Fin 3 → Nat :=
  let c6_i32_663 : BitVec 32 := 6#32
  let v458 : Index := Scalar.indexCast c6_i32_663
  let c0_i32_664 : BitVec 32 := 0#32
  let v459 : Index := Scalar.indexCast c0_i32_664
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v460 : Index := Scalar.indexCast v419
  ![6, 0, v460.toNat]

def k0_chk15 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx127_inb : ∀ (v422 : IVec S16 32) (k0_hw15 : k0_chk15 v422), ∀ a x, ((![v422] : Fin 1 → IVec S16 32) a x).toNat < S2048.size a := fun v422 k0_hw15 => k0_hw15.1
theorem k0_idx128_inb : ∀ (v422 : IVec S16 32) (k0_hw15 : k0_chk15 v422), ∀ a x, ((![v422] : Fin 1 → IVec S16 32) a x).toNat < S2048.size a := fun v422 k0_hw15 => k0_hw15.2.1
theorem k0_idx129_inb : ∀ (v422 : IVec S16 32) (k0_hw15 : k0_chk15 v422), ∀ a x, ((![v422] : Fin 1 → IVec S16 32) a x).toNat < S2048.size a := fun v422 k0_hw15 => k0_hw15.2.2.1
theorem k0_idx130_inb : ∀ (v422 : IVec S16 32) (k0_hw15 : k0_chk15 v422), ∀ a x, ((![v422] : Fin 1 → IVec S16 32) a x).toNat < S2048.size a := fun v422 k0_hw15 => k0_hw15.2.2.2.1
theorem k0_idx131_inb : ∀ (v422 : IVec S16 32) (k0_hw15 : k0_chk15 v422), ∀ a x, ((![v422] : Fin 1 → IVec S16 32) a x).toNat < S2048.size a := fun v422 k0_hw15 => k0_hw15.2.2.2.2.1
theorem k0_idx132_inb : ∀ (v422 : IVec S16 32) (k0_hw15 : k0_chk15 v422), ∀ a x, ((![v422] : Fin 1 → IVec S16 32) a x).toNat < S2048.size a := fun v422 k0_hw15 => k0_hw15.2.2.2.2.2.1
theorem k0_idx133_inb : ∀ (v422 : IVec S16 32) (k0_hw15 : k0_chk15 v422), ∀ a x, ((![v422] : Fin 1 → IVec S16 32) a x).toNat < S2048.size a := fun v422 k0_hw15 => k0_hw15.2.2.2.2.2.2.1
theorem k0_idx134_inb : ∀ (v422 : IVec S16 32) (k0_hw15 : k0_chk15 v422), ∀ a x, ((![v422] : Fin 1 → IVec S16 32) a x).toNat < S2048.size a := fun v422 k0_hw15 => k0_hw15.2.2.2.2.2.2.2.1
theorem k0_idx135_inb : ∀ (v422 : IVec S16 32) (k0_hw15 : k0_chk15 v422), ∀ a x, ((![v422] : Fin 1 → IVec S16 32) a x).toNat < S2048.size a := fun v422 k0_hw15 => k0_hw15.2.2.2.2.2.2.2.2
def k0_off167 (k0_t15 : Fin k0_t15_loop.trips) : Fin 3 → Nat :=
  let c7_i32_665 : BitVec 32 := 7#32
  let v463 : Index := Scalar.indexCast c7_i32_665
  let c0_i32_666 : BitVec 32 := 0#32
  let v464 : Index := Scalar.indexCast c0_i32_666
  let c0_i32_593 : BitVec 32 := 0#32
  let c1_i32_595 : BitVec 32 := 1#32
  let arg32 : BitVec 32 := Scf.iv c0_i32_593 c1_i32_595 k0_t15
  let c16_i32_648 : BitVec 32 := 16#32
  let v419 : BitVec 32 := Scalar.muli arg32 c16_i32_648
  let v465 : Index := Scalar.indexCast v419
  ![7, 0, v465.toNat]
@[reducible] def k0_t16_loop : Scf.Loop 32 :=
  let c0_i32_598 : BitVec 32 := 0#32
  let c128_i32_599 : BitVec 32 := 128#32
  let v396 : BitVec 32 := Scalar.addi c0_i32_598 c128_i32_599
  let c1_i32_600 : BitVec 32 := 1#32
  ⟨c0_i32_598, v396, c1_i32_600⟩
def k0_off168 (k0_t16 : Fin k0_t16_loop.trips) : Fin 2 → Nat :=
  let c1_i32_649 : BitVec 32 := 1#32
  let v420 : Index := Scalar.indexCast c1_i32_649
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v421 : Index := Scalar.indexCast v419
  ![1, v421.toNat]
def k0_off169 (k0_t16 : Fin k0_t16_loop.trips) : Fin 2 → Nat :=
  let c1_i32_650 : BitVec 32 := 1#32
  let v424 : Index := Scalar.indexCast c1_i32_650
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v425 : Index := Scalar.indexCast v419
  ![1, v425.toNat]
def k0_off170 (k0_t16 : Fin k0_t16_loop.trips) : Fin 3 → Nat :=
  let c0_i32_651 : BitVec 32 := 0#32
  let v428 : Index := Scalar.indexCast c0_i32_651
  let c1_i32_652 : BitVec 32 := 1#32
  let v429 : Index := Scalar.indexCast c1_i32_652
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v430 : Index := Scalar.indexCast v419
  ![0, 1, v430.toNat]
def k0_off171 (k0_t16 : Fin k0_t16_loop.trips) : Fin 3 → Nat :=
  let c1_i32_653 : BitVec 32 := 1#32
  let v433 : Index := Scalar.indexCast c1_i32_653
  let c1_i32_654 : BitVec 32 := 1#32
  let v434 : Index := Scalar.indexCast c1_i32_654
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v435 : Index := Scalar.indexCast v419
  ![1, 1, v435.toNat]
def k0_off172 (k0_t16 : Fin k0_t16_loop.trips) : Fin 3 → Nat :=
  let c2_i32_655 : BitVec 32 := 2#32
  let v438 : Index := Scalar.indexCast c2_i32_655
  let c1_i32_656 : BitVec 32 := 1#32
  let v439 : Index := Scalar.indexCast c1_i32_656
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v440 : Index := Scalar.indexCast v419
  ![2, 1, v440.toNat]
def k0_off173 (k0_t16 : Fin k0_t16_loop.trips) : Fin 3 → Nat :=
  let c3_i32_657 : BitVec 32 := 3#32
  let v443 : Index := Scalar.indexCast c3_i32_657
  let c1_i32_658 : BitVec 32 := 1#32
  let v444 : Index := Scalar.indexCast c1_i32_658
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v445 : Index := Scalar.indexCast v419
  ![3, 1, v445.toNat]
def k0_off174 (k0_t16 : Fin k0_t16_loop.trips) : Fin 3 → Nat :=
  let c4_i32_659 : BitVec 32 := 4#32
  let v448 : Index := Scalar.indexCast c4_i32_659
  let c1_i32_660 : BitVec 32 := 1#32
  let v449 : Index := Scalar.indexCast c1_i32_660
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v450 : Index := Scalar.indexCast v419
  ![4, 1, v450.toNat]
def k0_off175 (k0_t16 : Fin k0_t16_loop.trips) : Fin 3 → Nat :=
  let c5_i32_661 : BitVec 32 := 5#32
  let v453 : Index := Scalar.indexCast c5_i32_661
  let c1_i32_662 : BitVec 32 := 1#32
  let v454 : Index := Scalar.indexCast c1_i32_662
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v455 : Index := Scalar.indexCast v419
  ![5, 1, v455.toNat]
def k0_off176 (k0_t16 : Fin k0_t16_loop.trips) : Fin 3 → Nat :=
  let c6_i32_663 : BitVec 32 := 6#32
  let v458 : Index := Scalar.indexCast c6_i32_663
  let c1_i32_664 : BitVec 32 := 1#32
  let v459 : Index := Scalar.indexCast c1_i32_664
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v460 : Index := Scalar.indexCast v419
  ![6, 1, v460.toNat]

def k0_chk16 (v422 : IVec S16 32) : Prop :=
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a) ∧
  (∀ a x, ((![v422] : Fin 1 → IVec S16 32) a x).toNat < S2048.size a)
theorem k0_idx136_inb : ∀ (v422 : IVec S16 32) (k0_hw16 : k0_chk16 v422), ∀ a x, ((![v422] : Fin 1 → IVec S16 32) a x).toNat < S2048.size a := fun v422 k0_hw16 => k0_hw16.1
theorem k0_idx137_inb : ∀ (v422 : IVec S16 32) (k0_hw16 : k0_chk16 v422), ∀ a x, ((![v422] : Fin 1 → IVec S16 32) a x).toNat < S2048.size a := fun v422 k0_hw16 => k0_hw16.2.1
theorem k0_idx138_inb : ∀ (v422 : IVec S16 32) (k0_hw16 : k0_chk16 v422), ∀ a x, ((![v422] : Fin 1 → IVec S16 32) a x).toNat < S2048.size a := fun v422 k0_hw16 => k0_hw16.2.2.1
theorem k0_idx139_inb : ∀ (v422 : IVec S16 32) (k0_hw16 : k0_chk16 v422), ∀ a x, ((![v422] : Fin 1 → IVec S16 32) a x).toNat < S2048.size a := fun v422 k0_hw16 => k0_hw16.2.2.2.1
theorem k0_idx140_inb : ∀ (v422 : IVec S16 32) (k0_hw16 : k0_chk16 v422), ∀ a x, ((![v422] : Fin 1 → IVec S16 32) a x).toNat < S2048.size a := fun v422 k0_hw16 => k0_hw16.2.2.2.2.1
theorem k0_idx141_inb : ∀ (v422 : IVec S16 32) (k0_hw16 : k0_chk16 v422), ∀ a x, ((![v422] : Fin 1 → IVec S16 32) a x).toNat < S2048.size a := fun v422 k0_hw16 => k0_hw16.2.2.2.2.2.1
theorem k0_idx142_inb : ∀ (v422 : IVec S16 32) (k0_hw16 : k0_chk16 v422), ∀ a x, ((![v422] : Fin 1 → IVec S16 32) a x).toNat < S2048.size a := fun v422 k0_hw16 => k0_hw16.2.2.2.2.2.2.1
theorem k0_idx143_inb : ∀ (v422 : IVec S16 32) (k0_hw16 : k0_chk16 v422), ∀ a x, ((![v422] : Fin 1 → IVec S16 32) a x).toNat < S2048.size a := fun v422 k0_hw16 => k0_hw16.2.2.2.2.2.2.2.1
theorem k0_idx144_inb : ∀ (v422 : IVec S16 32) (k0_hw16 : k0_chk16 v422), ∀ a x, ((![v422] : Fin 1 → IVec S16 32) a x).toNat < S2048.size a := fun v422 k0_hw16 => k0_hw16.2.2.2.2.2.2.2.2
def k0_off177 (k0_t16 : Fin k0_t16_loop.trips) : Fin 3 → Nat :=
  let c7_i32_665 : BitVec 32 := 7#32
  let v463 : Index := Scalar.indexCast c7_i32_665
  let c1_i32_666 : BitVec 32 := 1#32
  let v464 : Index := Scalar.indexCast c1_i32_666
  let c0_i32_598 : BitVec 32 := 0#32
  let c1_i32_600 : BitVec 32 := 1#32
  let arg32 : BitVec 32 := Scf.iv c0_i32_598 c1_i32_600 k0_t16
  let c16_i32_648 : BitVec 32 := 16#32
  let v419 : BitVec 32 := Scalar.muli arg32 c16_i32_648
  let v465 : Index := Scalar.indexCast v419
  ![7, 1, v465.toNat]
def k0_off178 (i : grid0.Coords) : Fin 4 → Nat :=
  let c7_i32_607 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_608 : BitVec 32 := 0#32
  let c0_i32_609 : BitVec 32 := 0#32
  ![7, v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S9x512x128 : Shape := ⟨3, ![9, 512, 128]⟩
abbrev S2048 : Shape := ⟨1, ![2048]⟩
abbrev S8x2048 : Shape := ⟨2, ![8, 2048]⟩
abbrev S512x2048 : Shape := ⟨2, ![512, 2048]⟩
abbrev S512x9x128 : Shape := ⟨3, ![512, 9, 128]⟩
abbrev S_ : Shape := ⟨0, ![]⟩
abbrev S2048x1 : Shape := ⟨2, ![2048, 1]⟩
abbrev S2048x9x128 : Shape := ⟨3, ![2048, 9, 128]⟩
abbrev S512x2048x1 : Shape := ⟨3, ![512, 2048, 1]⟩
abbrev S8x512x2048 : Shape := ⟨3, ![8, 512, 2048]⟩
abbrev S2048x9x8x16 : Shape := ⟨4, ![2048, 9, 8, 16]⟩
abbrev S2048x8x9x16 : Shape := ⟨4, ![2048, 8, 9, 16]⟩
abbrev S2048x8x144 : Shape := ⟨3, ![2048, 8, 144]⟩
abbrev S8x2048x144 : Shape := ⟨3, ![8, 2048, 144]⟩
abbrev S8x2048x256 : Shape := ⟨3, ![8, 2048, 256]⟩
abbrev S8x2048x2x128 : Shape := ⟨4, ![8, 2048, 2, 128]⟩

abbrev nBuf : Space → Nat
  | .hbm => 60
  | .vmem => 0
  | .smem => 0
  | _ => 0

abbrev bufTy : (tb : Table) → Fin (tcTables nBuf tb) → BufTy
  | .hbm, ⟨0, _⟩ => ⟨S9x512x128, .f32⟩
  | .hbm, ⟨1, _⟩ => ⟨S9x512x128, .f32⟩
  | .hbm, ⟨2, _⟩ => ⟨S2048, .f32⟩
  | .hbm, ⟨3, _⟩ => ⟨S8x2048, .f32⟩
  | .hbm, ⟨4, _⟩ => ⟨S2048, .i32⟩
  | .hbm, ⟨5, _⟩ => ⟨S512x2048, .i32⟩
  | .hbm, ⟨6, _⟩ => ⟨S512x9x128, .f32⟩
  | .hbm, ⟨7, _⟩ => ⟨S512x9x128, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S2048x9x128, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x9x128, .f32⟩
  | .hbm, ⟨26, _⟩ => ⟨S_, .i32⟩
  | .hbm, ⟨27, _⟩ => ⟨S512x2048, .i32⟩
  | .hbm, ⟨28, _⟩ => ⟨S512x2048, .i1⟩
  | .hbm, ⟨29, _⟩ => ⟨S_, .i32⟩
  | .hbm, ⟨30, _⟩ => ⟨S512x2048, .i32⟩
  | .hbm, ⟨31, _⟩ => ⟨S512x2048, .i32⟩
  | .hbm, ⟨32, _⟩ => ⟨S512x2048, .i32⟩
  | .hbm, ⟨33, _⟩ => ⟨S512x2048x1, .i32⟩
  | .hbm, ⟨34, _⟩ => ⟨S512x2048, .f32⟩
  | .hbm, ⟨35, _⟩ => ⟨S_, .i32⟩
  | .hbm, ⟨36, _⟩ => ⟨S512x2048, .i32⟩
  | .hbm, ⟨37, _⟩ => ⟨S512x2048, .i1⟩
  | .hbm, ⟨38, _⟩ => ⟨S_, .i32⟩
  | .hbm, ⟨39, _⟩ => ⟨S512x2048, .i32⟩
  | .hbm, ⟨40, _⟩ => ⟨S512x2048, .i32⟩
  | .hbm, ⟨41, _⟩ => ⟨S512x2048, .i32⟩
  | .hbm, ⟨42, _⟩ => ⟨S512x2048x1, .i32⟩
  | .hbm, ⟨43, _⟩ => ⟨S8x512x2048, .f32⟩
  | .hbm, ⟨44, _⟩ => ⟨S2048x9x8x16, .f32⟩
  | .hbm, ⟨45, _⟩ => ⟨S2048x8x9x16, .f32⟩
  | .hbm, ⟨46, _⟩ => ⟨S2048x8x144, .f32⟩
  | .hbm, ⟨47, _⟩ => ⟨S8x2048x144, .f32⟩
  | .hbm, ⟨48, _⟩ => ⟨S_, .i32⟩
  | .hbm, ⟨49, _⟩ => ⟨S_, .f32⟩
  | .hbm, ⟨50, _⟩ => ⟨S8x2048x256, .f32⟩
  | .hbm, ⟨51, _⟩ => ⟨S8x2048x2x128, .f32⟩
  | .hbm, ⟨52, _⟩ => ⟨S2048x9x8x16, .f32⟩
  | .hbm, ⟨53, _⟩ => ⟨S2048x8x9x16, .f32⟩
  | .hbm, ⟨54, _⟩ => ⟨S2048x8x144, .f32⟩
  | .hbm, ⟨55, _⟩ => ⟨S8x2048x144, .f32⟩
  | .hbm, ⟨56, _⟩ => ⟨S_, .i32⟩
  | .hbm, ⟨57, _⟩ => ⟨S_, .f32⟩
  | .hbm, ⟨58, _⟩ => ⟨S8x2048x256, .f32⟩
  | .hbm, ⟨59, _⟩ => ⟨S8x2048x2x128, .f32⟩
  | _, _ => ⟨S9x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Proj.lean ====
abbrev S512x9x128 : Shape := ⟨3, ![512, 9, 128]⟩
abbrev S3x128x128 : Shape := ⟨3, ![3, 128, 128]⟩
abbrev S128 : Shape := ⟨1, ![128]⟩
abbrev S9 : Shape := ⟨1, ![9]⟩
abbrev S1x512x9x128 : Shape := ⟨4, ![1, 512, 9, 128]⟩
abbrev S3x512x9x128 : Shape := ⟨4, ![3, 512, 9, 128]⟩
abbrev S3x9x512x128 : Shape := ⟨4, ![3, 9, 512, 128]⟩
abbrev S_ : Shape := ⟨0, ![]⟩
abbrev S9x1 : Shape := ⟨2, ![9, 1]⟩
abbrev S9x128x128 : Shape := ⟨3, ![9, 128, 128]⟩
abbrev S1x9x128x128 : Shape := ⟨4, ![1, 9, 128, 128]⟩
abbrev S3x9x128x128 : Shape := ⟨4, ![3, 9, 128, 128]⟩
abbrev S1x128 : Shape := ⟨2, ![1, 128]⟩
abbrev S3x128 : Shape := ⟨2, ![3, 128]⟩
abbrev S3x1x128 : Shape := ⟨3, ![3, 1, 128]⟩
abbrev S1x1x512x128 : Shape := ⟨4, ![1, 1, 512, 128]⟩
abbrev S1x1x128x128 : Shape := ⟨4, ![1, 1, 128, 128]⟩
abbrev S1x1x128 : Shape := ⟨3, ![1, 1, 128]⟩
abbrev S512x128 : Shape := ⟨2, ![512, 128]⟩
abbrev S128x128 : Shape := ⟨2, ![128, 128]⟩

abbrev nBuf : Space → Nat
  | .hbm => 52
  | .vmem => 8
  | .smem => 0
  | _ => 0

abbrev bufTy : (tb : Table) → Fin (tcTables nBuf tb) → BufTy
  | .hbm, ⟨0, _⟩ => ⟨S512x9x128, .f32⟩
  | .hbm, ⟨1, _⟩ => ⟨S512x9x128, .f32⟩
  | .hbm, ⟨2, _⟩ => ⟨S512x9x128, .f32⟩
  | .hbm, ⟨3, _⟩ => ⟨S3x128x128, .f32⟩
  | .hbm, ⟨4, _⟩ => ⟨S128, .f32⟩
  | .hbm, ⟨5, _⟩ => ⟨S3x128x128, .f32⟩
  | .hbm, ⟨6, _⟩ => ⟨S128, .f32⟩
  | .hbm, ⟨7, _⟩ => ⟨S3x128x128, .f32⟩
  | .hbm, ⟨8, _⟩ => ⟨S128, .f32⟩
  | .hbm, ⟨9, _⟩ => ⟨S9, .i32⟩
  | .hbm, ⟨10, _⟩ => ⟨S1x512x9x128, .f32⟩
  | .hbm, ⟨11, _⟩ => ⟨S1x512x9x128, .f32⟩
  | .hbm, ⟨12, _⟩ => ⟨S1x512x9x128, .f32⟩
  | .hbm, ⟨13, _⟩ => ⟨S3x512x9x128, .f32⟩
  | .hbm, ⟨14, _⟩ => ⟨S3x9x512x128, .f32⟩
  | .hbm, ⟨15, _⟩ => ⟨S_, .i32⟩
  | .hbm, ⟨16, _⟩ => ⟨S9, .i32⟩
  | .hbm, ⟨17, _⟩ => ⟨S9, .i1⟩
  | .hbm, ⟨18, _⟩ => ⟨S_, .i32⟩
  | .hbm, ⟨19, _⟩ => ⟨S9, .i32⟩
  | .hbm, ⟨20, _⟩ => ⟨S9, .i32⟩
  | .hbm, ⟨21, _⟩ => ⟨S9, .i32⟩
  | .hbm, ⟨22, _⟩ => ⟨S9x1, .i32⟩
  | .hbm, ⟨23, _⟩ => ⟨S9x128x128, .f32⟩
  | .hbm, ⟨24, _⟩ => ⟨S_, .i32⟩
  | .hbm, ⟨25, _⟩ => ⟨S9, .i32⟩
  | .hbm, ⟨26, _⟩ => ⟨S9, .i1⟩
  | .hbm, ⟨27, _⟩ => ⟨S_, .i32⟩
  | .hbm, ⟨28, _⟩ => ⟨S9, .i32⟩
  | .hbm, ⟨29, _⟩ => ⟨S9, .i32⟩
  | .hbm, ⟨30, _⟩ => ⟨S9, .i32⟩
  | .hbm, ⟨31, _⟩ => ⟨S9x1, .i32⟩
  | .hbm, ⟨32, _⟩ => ⟨S9x128x128, .f32⟩
  | .hbm, ⟨33, _⟩ => ⟨S_, .i32⟩
  | .hbm, ⟨34, _⟩ => ⟨S9, .i32⟩
  | .hbm, ⟨35, _⟩ => ⟨S9, .i1⟩
  | .hbm, ⟨36, _⟩ => ⟨S_, .i32⟩
  | .hbm, ⟨37, _⟩ => ⟨S9, .i32⟩
  | .hbm, ⟨38, _⟩ => ⟨S9, .i32⟩
  | .hbm, ⟨39, _⟩ => ⟨S9, .i32⟩
  | .hbm, ⟨40, _⟩ => ⟨S9x1, .i32⟩
  | .hbm, ⟨41, _⟩ => ⟨S9x128x128, .f32⟩
  | .hbm, ⟨42, _⟩ => ⟨S1x9x128x128, .f32⟩
  | .hbm, ⟨43, _⟩ => ⟨S1x9x128x128, .f32⟩
  | .hbm, ⟨44, _⟩ => ⟨S1x9x128x128, .f32⟩
  | .hbm, ⟨45, _⟩ => ⟨S3x9x128x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S3x128, .f32⟩
  | .hbm, ⟨50, _⟩ => ⟨S3x1x128, .f32⟩
  | .hbm, ⟨51, _⟩ => ⟨S3x9x512x128, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x1x512x128, .f32⟩
  | .local _ .vmem, ⟨7, _⟩ => ⟨S1x1x512x128, .f32⟩
  | _, _ => ⟨S512x9x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S512x9x128 : Shape := ⟨3, ![512, 9, 128]⟩
abbrev S3x128x128 : Shape := ⟨3, ![3, 128, 128]⟩
abbrev S128 : Shape := ⟨1, ![128]⟩
abbrev S9 : Shape := ⟨1, ![9]⟩
abbrev S_ : Shape := ⟨0, ![]⟩
abbrev S9x1 : Shape := ⟨2, ![9, 1]⟩
abbrev S9x128x128 : Shape := ⟨3, ![9, 128, 128]⟩
abbrev S9x128x512 : Shape := ⟨3, ![9, 128, 512]⟩
abbrev S1x9x1 : Shape := ⟨3, ![1, 9, 1]⟩
abbrev S1x1x128 : Shape := ⟨3, ![1, 1, 128]⟩
abbrev S1x512x9x128 : Shape := ⟨4, ![1, 512, 9, 128]⟩
abbrev S3x512x9x128 : Shape := ⟨4, ![3, 512, 9, 128]⟩
abbrev S3x9x512x128 : Shape := ⟨4, ![3, 9, 512, 128]⟩

abbrev nBuf : Space → Nat
  | .hbm => 74
  | .vmem => 0
  | .smem => 0
  | _ => 0

abbrev bufTy : (tb : Table) → Fin (tcTables nBuf tb) → BufTy
  | .hbm, ⟨0, _⟩ => ⟨S512x9x128, .f32⟩
  | .hbm, ⟨1, _⟩ => ⟨S512x9x128, .f32⟩
  | .hbm, ⟨2, _⟩ => ⟨S512x9x128, .f32⟩
  | .hbm, ⟨3, _⟩ => ⟨S3x128x128, .f32⟩
  | .hbm, ⟨4, _⟩ => ⟨S128, .f32⟩
  | .hbm, ⟨5, _⟩ => ⟨S3x128x128, .f32⟩
  | .hbm, ⟨6, _⟩ => ⟨S128, .f32⟩
  | .hbm, ⟨7, _⟩ => ⟨S3x128x128, .f32⟩
  | .hbm, ⟨8, _⟩ => ⟨S128, .f32⟩
  | .hbm, ⟨9, _⟩ => ⟨S9, .i32⟩
  | .hbm, ⟨10, _⟩ => ⟨S9, .i1⟩
  | .hbm, ⟨11, _⟩ => ⟨S9, .i32⟩
  | .hbm, ⟨12, _⟩ => ⟨S9, .i1⟩
  | .hbm, ⟨13, _⟩ => ⟨S9, .i32⟩
  | .hbm, ⟨14, _⟩ => ⟨S9, .i1⟩
  | .hbm, ⟨15, _⟩ => ⟨S_, .i32⟩
  | .hbm, ⟨16, _⟩ => ⟨S9, .i32⟩
  | .hbm, ⟨17, _⟩ => ⟨S9, .i32⟩
  | .hbm, ⟨18, _⟩ => ⟨S9, .i32⟩
  | .hbm, ⟨19, _⟩ => ⟨S9x1, .i32⟩
  | .hbm, ⟨20, _⟩ => ⟨S9x128x128, .f32⟩
  | .hbm, ⟨21, _⟩ => ⟨S9x128x512, .f32⟩
  | .hbm, ⟨22, _⟩ => ⟨S512x9x128, .f32⟩
  | .hbm, ⟨23, _⟩ => ⟨S9, .i32⟩
  | .hbm, ⟨24, _⟩ => ⟨S1x9x1, .i32⟩
  | .hbm, ⟨25, _⟩ => ⟨S_, .i32⟩
  | .hbm, ⟨26, _⟩ => ⟨S1x9x1, .i32⟩
  | .hbm, ⟨27, _⟩ => ⟨S1x9x1, .i1⟩
  | .hbm, ⟨28, _⟩ => ⟨S1x1x128, .f32⟩
  | .hbm, ⟨29, _⟩ => ⟨S512x9x128, .f32⟩
  | .hbm, ⟨30, _⟩ => ⟨S512x9x128, .f32⟩
  | .hbm, ⟨31, _⟩ => ⟨S512x9x128, .i1⟩
  | .hbm, ⟨32, _⟩ => ⟨S512x9x128, .f32⟩
  | .hbm, ⟨33, _⟩ => ⟨S_, .i32⟩
  | .hbm, ⟨34, _⟩ => ⟨S9, .i32⟩
  | .hbm, ⟨35, _⟩ => ⟨S9, .i32⟩
  | .hbm, ⟨36, _⟩ => ⟨S9, .i32⟩
  | .hbm, ⟨37, _⟩ => ⟨S9x1, .i32⟩
  | .hbm, ⟨38, _⟩ => ⟨S9x128x128, .f32⟩
  | .hbm, ⟨39, _⟩ => ⟨S9x128x512, .f32⟩
  | .hbm, ⟨40, _⟩ => ⟨S512x9x128, .f32⟩
  | .hbm, ⟨41, _⟩ => ⟨S9, .i32⟩
  | .hbm, ⟨42, _⟩ => ⟨S1x9x1, .i32⟩
  | .hbm, ⟨43, _⟩ => ⟨S_, .i32⟩
  | .hbm, ⟨44, _⟩ => ⟨S1x9x1, .i32⟩
  | .hbm, ⟨45, _⟩ => ⟨S1x9x1, .i1⟩
  | .hbm, ⟨46, _⟩ => ⟨S1x1x128, .f32⟩
  | .hbm, ⟨47, _⟩ => ⟨S512x9x128, .f32⟩
  | .hbm, ⟨48, _⟩ => ⟨S512x9x128, .f32⟩
  | .hbm, ⟨49, _⟩ => ⟨S512x9x128, .i1⟩
  | .hbm, ⟨50, _⟩ => ⟨S512x9x128, .f32⟩
  | .hbm, ⟨51, _⟩ => ⟨S_, .i32⟩
  | .hbm, ⟨52, _⟩ => ⟨S9, .i32⟩
  | .hbm, ⟨53, _⟩ => ⟨S9, .i32⟩
  | .hbm, ⟨54, _⟩ => ⟨S9, .i32⟩
  | .hbm, ⟨55, _⟩ => ⟨S9x1, .i32⟩
  | .hbm, ⟨56, _⟩ => ⟨S9x128x128, .f32⟩
  | .hbm, ⟨57, _⟩ => ⟨S9x128x512, .f32⟩
  | .hbm, ⟨58, _⟩ => ⟨S512x9x128, .f32⟩
  | .hbm, ⟨59, _⟩ => ⟨S9, .i32⟩
  | .hbm, ⟨60, _⟩ => ⟨S1x9x1, .i32⟩
  | .hbm, ⟨61, _⟩ => ⟨S_, .i32⟩
  | .hbm, ⟨62, _⟩ => ⟨S1x9x1, .i32⟩
  | .hbm, ⟨63, _⟩ => ⟨S1x9x1, .i1⟩
  | .hbm, ⟨64, _⟩ => ⟨S1x1x128, .f32⟩
  | .hbm, ⟨65, _⟩ => ⟨S512x9x128, .f32⟩
  | .hbm, ⟨66, _⟩ => ⟨S512x9x128, .f32⟩
  | .hbm, ⟨67, _⟩ => ⟨S512x9x128, .i1⟩
  | .hbm, ⟨68, _⟩ => ⟨S512x9x128, .f32⟩
  | .hbm, ⟨69, _⟩ => ⟨S1x512x9x128, .f32⟩
  | .hbm, ⟨70, _⟩ => ⟨S1x512x9x128, .f32⟩
  | .hbm, ⟨71, _⟩ => ⟨S1x512x9x128, .f32⟩
  | .hbm, ⟨72, _⟩ => ⟨S3x512x9x128, .f32⟩
  | .hbm, ⟨73, _⟩ => ⟨S3x9x512x128, .f32⟩
  | _, _ => ⟨S512x9x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_6 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_v0 : Ref sig .tc := ⟨.hbm, 31, rfl⟩
abbrev main_v14 : Ref sig .tc := ⟨.hbm, 32, rfl⟩
abbrev main_c_7 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Out.lean ====
abbrev S8x512x144 : Shape := ⟨3, ![8, 512, 144]⟩
abbrev S128 : Shape := ⟨1, ![128]⟩
abbrev S2x128 : Shape := ⟨2, ![2, 128]⟩
abbrev S3x128x128 : Shape := ⟨3, ![3, 128, 128]⟩
abbrev S9 : Shape := ⟨1, ![9]⟩
abbrev S8x512x9x16 : Shape := ⟨4, ![8, 512, 9, 16]⟩
abbrev S9x512x8x16 : Shape := ⟨4, ![9, 512, 8, 16]⟩
abbrev S9x512x128 : Shape := ⟨3, ![9, 512, 128]⟩
abbrev S_ : Shape := ⟨0, ![]⟩
abbrev S9x1 : Shape := ⟨2, ![9, 1]⟩
abbrev S9x128x128 : Shape := ⟨3, ![9, 128, 128]⟩
abbrev S1x128 : Shape := ⟨2, ![1, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S512x9x128 : Shape := ⟨3, ![512, 9, 128]⟩

abbrev nBuf : Space → Nat
  | .hbm => 24
  | .vmem => 7
  | .smem => 0
  | _ => 0

abbrev bufTy : (tb : Table) → Fin (tcTables nBuf tb) → BufTy
  | .hbm, ⟨0, _⟩ => ⟨S8x512x144, .f32⟩
  | .hbm, ⟨1, _⟩ => ⟨S128, .f32⟩
  | .hbm, ⟨2, _⟩ => ⟨S128, .f32⟩
  | .hbm, ⟨3, _⟩ => ⟨S2x128, .f32⟩
  | .hbm, ⟨4, _⟩ => ⟨S3x128x128, .f32⟩
  | .hbm, ⟨5, _⟩ => ⟨S128, .f32⟩
  | .hbm, ⟨6, _⟩ => ⟨S9, .i32⟩
  | .hbm, ⟨7, _⟩ => ⟨S8x512x9x16, .f32⟩
  | .hbm, ⟨8, _⟩ => ⟨S9x512x8x16, .f32⟩
  | .hbm, ⟨9, _⟩ => ⟨S9x512x128, .f32⟩
  | .hbm, ⟨10, _⟩ => ⟨S_, .i32⟩
  | .hbm, ⟨11, _⟩ => ⟨S9, .i32⟩
  | .hbm, ⟨12, _⟩ => ⟨S9, .i1⟩
  | .hbm, ⟨13, _⟩ => ⟨S_, .i32⟩
  | .hbm, ⟨14, _⟩ => ⟨S9, .i32⟩
  | .hbm, ⟨15, _⟩ => ⟨S9, .i32⟩
  | .hbm, ⟨16, _⟩ => ⟨S9, .i32⟩
  | .hbm, ⟨17, _⟩ => ⟨S9x1, .i32⟩
  | .hbm, ⟨18, _⟩ => ⟨S9x128x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S9x512x128, .f32⟩
  | .hbm, ⟨23, _⟩ => ⟨S512x9x128, .f32⟩
  | .local _ .vmem, ⟨0, _⟩ => ⟨S9x512x128, .f32⟩
  | .local _ .vmem, ⟨1, _⟩ => ⟨S9x128x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S2x128, .f32⟩
  | .local _ .vmem, ⟨6, _⟩ => ⟨S9x512x128, .f32⟩
  | _, _ => ⟨S8x512x144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OutRefIdeal.lean ====
abbrev S8x512x144 : Shape := ⟨3, ![8, 512, 144]⟩
abbrev S128 : Shape := ⟨1, ![128]⟩
abbrev S2x128 : Shape := ⟨2, ![2, 128]⟩
abbrev S3x128x128 : Shape := ⟨3, ![3, 128, 128]⟩
abbrev S9 : Shape := ⟨1, ![9]⟩
abbrev S512x8x144 : Shape := ⟨3, ![512, 8, 144]⟩
abbrev S512x8x9x16 : Shape := ⟨4, ![512, 8, 9, 16]⟩
abbrev S512x9x8x16 : Shape := ⟨4, ![512, 9, 8, 16]⟩
abbrev S512x9x128 : Shape := ⟨3, ![512, 9, 128]⟩
abbrev S512x1x128 : Shape := ⟨3, ![512, 1, 128]⟩
abbrev S_ : Shape := ⟨0, ![]⟩
abbrev S512x1 : Shape := ⟨2, ![512, 1]⟩
abbrev S512x1x1 : Shape := ⟨3, ![512, 1, 1]⟩
abbrev S1x1x128 : Shape := ⟨3, ![1, 1, 128]⟩
abbrev S512x3x128 : Shape := ⟨3, ![512, 3, 128]⟩
abbrev S512x128 : Shape := ⟨2, ![512, 128]⟩
abbrev S1x128 : Shape := ⟨2, ![1, 128]⟩
abbrev S512x5x128 : Shape := ⟨3, ![512, 5, 128]⟩
abbrev S9x1 : Shape := ⟨2, ![9, 1]⟩
abbrev S9x128x128 : Shape := ⟨3, ![9, 128, 128]⟩
abbrev S9x128x512 : Shape := ⟨3, ![9, 128, 512]⟩
abbrev S1x9x1 : Shape := ⟨3, ![1, 9, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x512x144, .f32⟩
  | .hbm, ⟨1, _⟩ => ⟨S128, .f32⟩
  | .hbm, ⟨2, _⟩ => ⟨S128, .f32⟩
  | .hbm, ⟨3, _⟩ => ⟨S2x128, .f32⟩
  | .hbm, ⟨4, _⟩ => ⟨S3x128x128, .f32⟩
  | .hbm, ⟨5, _⟩ => ⟨S128, .f32⟩
  | .hbm, ⟨6, _⟩ => ⟨S9, .i32⟩
  | .hbm, ⟨7, _⟩ => ⟨S9, .i1⟩
  | .hbm, ⟨8, _⟩ => ⟨S512x8x144, .f32⟩
  | .hbm, ⟨9, _⟩ => ⟨S512x8x9x16, .f32⟩
  | .hbm, ⟨10, _⟩ => ⟨S512x9x8x16, .f32⟩
  | .hbm, ⟨11, _⟩ => ⟨S512x9x128, .f32⟩
  | .hbm, ⟨12, _⟩ => ⟨S512x1x128, .f32⟩
  | .hbm, ⟨13, _⟩ => ⟨S_, .f32⟩
  | .hbm, ⟨14, _⟩ => ⟨S512x1, .f32⟩
  | .hbm, ⟨15, _⟩ => ⟨S512x1x1, .f32⟩
  | .hbm, ⟨16, _⟩ => ⟨S_, .f32⟩
  | .hbm, ⟨17, _⟩ => ⟨S512x1x1, .f32⟩
  | .hbm, ⟨18, _⟩ => ⟨S512x1x1, .f32⟩
  | .hbm, ⟨19, _⟩ => ⟨S512x1x128, .f32⟩
  | .hbm, ⟨20, _⟩ => ⟨S512x1x128, .f32⟩
  | .hbm, ⟨21, _⟩ => ⟨S512x1x128, .f32⟩
  | .hbm, ⟨22, _⟩ => ⟨S512x1x128, .f32⟩
  | .hbm, ⟨23, _⟩ => ⟨S512x1x128, .f32⟩
  | .hbm, ⟨24, _⟩ => ⟨S_, .f32⟩
  | .hbm, ⟨25, _⟩ => ⟨S512x1, .f32⟩
  | .hbm, ⟨26, _⟩ => ⟨S512x1x1, .f32⟩
  | .hbm, ⟨27, _⟩ => ⟨S_, .f32⟩
  | .hbm, ⟨28, _⟩ => ⟨S512x1x1, .f32⟩
  | .hbm, ⟨29, _⟩ => ⟨S512x1x1, .f32⟩
  | .hbm, ⟨30, _⟩ => ⟨S512x1x128, .f32⟩
  | .hbm, ⟨31, _⟩ => ⟨S512x1x128, .f32⟩
  | .hbm, ⟨32, _⟩ => ⟨S_, .f32⟩
  | .hbm, ⟨33, _⟩ => ⟨S512x1x1, .f32⟩
  | .hbm, ⟨34, _⟩ => ⟨S512x1x1, .f32⟩
  | .hbm, ⟨35, _⟩ => ⟨S512x1x1, .f32⟩
  | .hbm, ⟨36, _⟩ => ⟨S512x1x128, .f32⟩
  | .hbm, ⟨37, _⟩ => ⟨S512x1x128, .f32⟩
  | .hbm, ⟨38, _⟩ => ⟨S1x1x128, .f32⟩
  | .hbm, ⟨39, _⟩ => ⟨S512x1x128, .f32⟩
  | .hbm, ⟨40, _⟩ => ⟨S512x1x128, .f32⟩
  | .hbm, ⟨41, _⟩ => ⟨S1x1x128, .f32⟩
  | .hbm, ⟨42, _⟩ => ⟨S512x1x128, .f32⟩
  | .hbm, ⟨43, _⟩ => ⟨S512x1x128, .f32⟩
  | .hbm, ⟨44, _⟩ => ⟨S512x3x128, .f32⟩
  | .hbm, ⟨45, _⟩ => ⟨S512x3x128, .f32⟩
  | .hbm, ⟨46, _⟩ => ⟨S_, .f32⟩
  | .hbm, ⟨47, _⟩ => ⟨S512x128, .f32⟩
  | .hbm, ⟨48, _⟩ => ⟨S512x1x128, .f32⟩
  | .hbm, ⟨49, _⟩ => ⟨S_, .f32⟩
  | .hbm, ⟨50, _⟩ => ⟨S512x1, .f32⟩
  | .hbm, ⟨51, _⟩ => ⟨S512x1x1, .f32⟩
  | .hbm, ⟨52, _⟩ => ⟨S_, .f32⟩
  | .hbm, ⟨53, _⟩ => ⟨S512x1x1, .f32⟩
  | .hbm, ⟨54, _⟩ => ⟨S512x1x1, .f32⟩
  | .hbm, ⟨55, _⟩ => ⟨S_, .f32⟩
  | .hbm, ⟨56, _⟩ => ⟨S512x1x1, .f32⟩
  | .hbm, ⟨57, _⟩ => ⟨S512x1x1, .f32⟩
  | .hbm, ⟨58, _⟩ => ⟨S512x1x1, .f32⟩
  | .hbm, ⟨59, _⟩ => ⟨S512x3x128, .f32⟩
  | .hbm, ⟨60, _⟩ => ⟨S512x3x128, .f32⟩
  | .hbm, ⟨61, _⟩ => ⟨S1x128, .f32⟩
  | .hbm, ⟨62, _⟩ => ⟨S128, .f32⟩
  | .hbm, ⟨63, _⟩ => ⟨S1x1x128, .f32⟩
  | .hbm, ⟨64, _⟩ => ⟨S512x3x128, .f32⟩
  | .hbm, ⟨65, _⟩ => ⟨S512x3x128, .f32⟩
  | .hbm, ⟨66, _⟩ => ⟨S512x5x128, .f32⟩
  | .hbm, ⟨67, _⟩ => ⟨S512x5x128, .f32⟩
  | .hbm, ⟨68, _⟩ => ⟨S_, .f32⟩
  | .hbm, ⟨69, _⟩ => ⟨S512x128, .f32⟩
  | .hbm, ⟨70, _⟩ => ⟨S512x1x128, .f32⟩
  | .hbm, ⟨71, _⟩ => ⟨S_, .f32⟩
  | .hbm, ⟨72, _⟩ => ⟨S512x1, .f32⟩
  | .hbm, ⟨73, _⟩ => ⟨S512x1x1, .f32⟩
  | .hbm, ⟨74, _⟩ => ⟨S_, .f32⟩
  | .hbm, ⟨75, _⟩ => ⟨S512x1x1, .f32⟩
  | .hbm, ⟨76, _⟩ => ⟨S512x1x1, .f32⟩
  | .hbm, ⟨77, _⟩ => ⟨S_, .f32⟩
  | .hbm, ⟨78, _⟩ => ⟨S512x1x1, .f32⟩
  | .hbm, ⟨79, _⟩ => ⟨S512x1x1, .f32⟩
  | .hbm, ⟨80, _⟩ => ⟨S512x1x1, .f32⟩
  | .hbm, ⟨81, _⟩ => ⟨S512x5x128, .f32⟩
  | .hbm, ⟨82, _⟩ => ⟨S512x5x128, .f32⟩
  | .hbm, ⟨83, _⟩ => ⟨S1x128, .f32⟩
  | .hbm, ⟨84, _⟩ => ⟨S128, .f32⟩
  | .hbm, ⟨85, _⟩ => ⟨S1x1x128, .f32⟩
  | .hbm, ⟨86, _⟩ => ⟨S512x5x128, .f32⟩
  | .hbm, ⟨87, _⟩ => ⟨S512x5x128, .f32⟩
  | .hbm, ⟨88, _⟩ => ⟨S512x9x128, .f32⟩
  | .hbm, ⟨89, _⟩ => ⟨S_, .i32⟩
  | .hbm, ⟨90, _⟩ => ⟨S9, .i32⟩
  | .hbm, ⟨91, _⟩ => ⟨S9, .i32⟩
  | .hbm, ⟨92, _⟩ => ⟨S9, .i32⟩
  | .hbm, ⟨93, _⟩ => ⟨S9x1, .i32⟩
  | .hbm, ⟨94, _⟩ => ⟨S9x128x128, .f32⟩
  | .hbm, ⟨95, _⟩ => ⟨S9x128x512, .f32⟩
  | .hbm, ⟨96, _⟩ => ⟨S512x9x128, .f32⟩
  | .hbm, ⟨97, _⟩ => ⟨S9, .i32⟩
  | .hbm, ⟨98, _⟩ => ⟨S1x9x1, .i32⟩
  | .hbm, ⟨99, _⟩ => ⟨S_, .i32⟩
  | .hbm, ⟨100, _⟩ => ⟨S1x9x1, .i32⟩
  | .hbm, ⟨101, _⟩ => ⟨S1x9x1, .i1⟩
  | .hbm, ⟨102, _⟩ => ⟨S1x1x128, .f32⟩
  | .hbm, ⟨103, _⟩ => ⟨S512x9x128, .f32⟩
  | .hbm, ⟨104, _⟩ => ⟨S512x9x128, .f32⟩
  | .hbm, ⟨105, _⟩ => ⟨S512x9x128, .i1⟩
  | .hbm, ⟨106, _⟩ => ⟨S512x9x128, .f32⟩
  | _, _ => ⟨S8x512x144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call0_v0 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== Attn.lean ====
abbrev S9x512x128 : Shape := ⟨3, ![9, 512, 128]⟩
abbrev S8x2048x256 : Shape := ⟨3, ![8, 2048, 256]⟩
abbrev S8x512x2048 : Shape := ⟨3, ![8, 512, 2048]⟩
abbrev S512x2048 : Shape := ⟨2, ![512, 2048]⟩
abbrev S2048 : Shape := ⟨1, ![2048]⟩
abbrev S9x512x8x16 : Shape := ⟨4, ![9, 512, 8, 16]⟩
abbrev S8x512x9x16 : Shape := ⟨4, ![8, 512, 9, 16]⟩
abbrev S8x512x144 : Shape := ⟨3, ![8, 512, 144]⟩
abbrev S_ : Shape := ⟨0, ![]⟩
abbrev S8x512x256 : Shape := ⟨3, ![8, 512, 256]⟩
abbrev S1x2048 : Shape := ⟨2, ![1, 2048]⟩
abbrev S1x512x256 : Shape := ⟨3, ![1, 512, 256]⟩
abbrev S1x2048x256 : Shape := ⟨3, ![1, 2048, 256]⟩
abbrev S1x512x2048 : Shape := ⟨3, ![1, 512, 2048]⟩
abbrev S512x256 : Shape := ⟨2, ![512, 256]⟩
abbrev S2048x256 : Shape := ⟨2, ![2048, 256]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S9x512x128, .f32⟩
  | .hbm, ⟨1, _⟩ => ⟨S8x2048x256, .f32⟩
  | .hbm, ⟨2, _⟩ => ⟨S8x2048x256, .f32⟩
  | .hbm, ⟨3, _⟩ => ⟨S8x512x2048, .f32⟩
  | .hbm, ⟨4, _⟩ => ⟨S512x2048, .f32⟩
  | .hbm, ⟨5, _⟩ => ⟨S2048, .i32⟩
  | .hbm, ⟨6, _⟩ => ⟨S9x512x8x16, .f32⟩
  | .hbm, ⟨7, _⟩ => ⟨S8x512x9x16, .f32⟩
  | .hbm, ⟨8, _⟩ => ⟨S8x512x144, .f32⟩
  | .hbm, ⟨9, _⟩ => ⟨S_, .i32⟩
  | .hbm, ⟨10, _⟩ => ⟨S_, .f32⟩
  | .hbm, ⟨11, _⟩ => ⟨S8x512x256, .f32⟩
  | .hbm, ⟨12, _⟩ => ⟨S1x2048, .i32⟩
  | .hbm, ⟨13, _⟩ => ⟨S8x512x256, .f32⟩
  | .hbm, ⟨14, _⟩ => ⟨S8x512x144, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x512x2048, .f32⟩
  | .local _ .vmem, ⟨7, _⟩ => ⟨S1x512x2048, .f32⟩
  | .local _ .vmem, ⟨8, _⟩ => ⟨S512x2048, .f32⟩
  | .local _ .vmem, ⟨9, _⟩ => ⟨S1x2048, .i32⟩
  | .local _ .vmem, ⟨10, _⟩ => ⟨S1x512x256, .f32⟩
  | .local _ .vmem, ⟨11, _⟩ => ⟨S1x512x256, .f32⟩
  | _, _ => ⟨S9x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S9x512x128 : Shape := ⟨3, ![9, 512, 128]⟩
abbrev S8x2048x256 : Shape := ⟨3, ![8, 2048, 256]⟩
abbrev S8x512x2048 : Shape := ⟨3, ![8, 512, 2048]⟩
abbrev S512x2048 : Shape := ⟨2, ![512, 2048]⟩
abbrev S2048 : Shape := ⟨1, ![2048]⟩
abbrev S512x9x128 : Shape := ⟨3, ![512, 9, 128]⟩
abbrev S512x9x8x16 : Shape := ⟨4, ![512, 9, 8, 16]⟩
abbrev S512x8x9x16 : Shape := ⟨4, ![512, 8, 9, 16]⟩
abbrev S512x8x144 : Shape := ⟨3, ![512, 8, 144]⟩
abbrev S8x512x144 : Shape := ⟨3, ![8, 512, 144]⟩
abbrev S8x2048x144 : Shape := ⟨3, ![8, 2048, 144]⟩
abbrev S_ : Shape := ⟨0, ![]⟩
abbrev S8x144x2048 : Shape := ⟨3, ![8, 144, 2048]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S8x512x2048x1 : Shape := ⟨4, ![8, 512, 2048, 1]⟩
abbrev S8x512x2048x8 : Shape := ⟨4, ![8, 512, 2048, 8]⟩
abbrev S8x512x8 : Shape := ⟨3, ![8, 512, 8]⟩
abbrev S1x512x2048 : Shape := ⟨3, ![1, 512, 2048]⟩

abbrev nBuf : Space → Nat
  | .hbm => 77
  | .vmem => 0
  | .smem => 0
  | _ => 0

abbrev bufTy : (tb : Table) → Fin (tcTables nBuf tb) → BufTy
  | .hbm, ⟨0, _⟩ => ⟨S9x512x128, .f32⟩
  | .hbm, ⟨1, _⟩ => ⟨S8x2048x256, .f32⟩
  | .hbm, ⟨2, _⟩ => ⟨S8x2048x256, .f32⟩
  | .hbm, ⟨3, _⟩ => ⟨S8x512x2048, .f32⟩
  | .hbm, ⟨4, _⟩ => ⟨S512x2048, .f32⟩
  | .hbm, ⟨5, _⟩ => ⟨S2048, .i32⟩
  | .hbm, ⟨6, _⟩ => ⟨S512x9x128, .f32⟩
  | .hbm, ⟨7, _⟩ => ⟨S512x9x8x16, .f32⟩
  | .hbm, ⟨8, _⟩ => ⟨S512x8x9x16, .f32⟩
  | .hbm, ⟨9, _⟩ => ⟨S512x8x144, .f32⟩
  | .hbm, ⟨10, _⟩ => ⟨S8x512x144, .f32⟩
  | .hbm, ⟨11, _⟩ => ⟨S8x2048x144, .f32⟩
  | .hbm, ⟨12, _⟩ => ⟨S8x2048x144, .f32⟩
  | .hbm, ⟨13, _⟩ => ⟨S_, .f32⟩
  | .hbm, ⟨14, _⟩ => ⟨S8x512x144, .f32⟩
  | .hbm, ⟨15, _⟩ => ⟨S8x512x144, .f32⟩
  | .hbm, ⟨16, _⟩ => ⟨S8x144x2048, .f32⟩
  | .hbm, ⟨17, _⟩ => ⟨S8x512x2048, .f32⟩
  | .hbm, ⟨18, _⟩ => ⟨S8x512x2048, .f32⟩
  | .hbm, ⟨19, _⟩ => ⟨S2048x1, .i32⟩
  | .hbm, ⟨20, _⟩ => ⟨S8, .i32⟩
  | .hbm, ⟨21, _⟩ => ⟨S1x8, .i32⟩
  | .hbm, ⟨22, _⟩ => ⟨S2048x8, .i32⟩
  | .hbm, ⟨23, _⟩ => ⟨S2048x8, .i32⟩
  | .hbm, ⟨24, _⟩ => ⟨S2048x8, .i1⟩
  | .hbm, ⟨25, _⟩ => ⟨S8x512x2048x1, .f32⟩
  | .hbm, ⟨26, _⟩ => ⟨S_, .f32⟩
  | .hbm, ⟨27, _⟩ => ⟨S_, .f32⟩
  | .hbm, ⟨28, _⟩ => ⟨S8x512x2048x8, .i1⟩
  | .hbm, ⟨29, _⟩ => ⟨S8x512x2048x8, .f32⟩
  | .hbm, ⟨30, _⟩ => ⟨S8x512x2048x8, .f32⟩
  | .hbm, ⟨31, _⟩ => ⟨S8x512x2048x8, .f32⟩
  | .hbm, ⟨32, _⟩ => ⟨S_, .f32⟩
  | .hbm, ⟨33, _⟩ => ⟨S8x512x8, .f32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S8x512x2048, .f32⟩
  | .hbm, ⟨43, _⟩ => ⟨S8x512x2048, .f32⟩
  | .hbm, ⟨44, _⟩ => ⟨S8x512x2048, .f32⟩
  | .hbm, ⟨45, _⟩ => ⟨S1x512x2048, .f32⟩
  | .hbm, ⟨46, _⟩ => ⟨S8x512x2048, .f32⟩
  | .hbm, ⟨47, _⟩ => ⟨S8x512x2048, .f32⟩
  | .hbm, ⟨48, _⟩ => ⟨S8x512x2048x1, .f32⟩
  | .hbm, ⟨49, _⟩ => ⟨S_, .f32⟩
  | .hbm, ⟨50, _⟩ => ⟨S_, .f32⟩
  | .hbm, ⟨51, _⟩ => ⟨S8x512x2048x8, .i1⟩
  | .hbm, ⟨52, _⟩ => ⟨S8x512x2048x8, .f32⟩
  | .hbm, ⟨53, _⟩ => ⟨S8x512x2048x8, .f32⟩
  | .hbm, ⟨54, _⟩ => ⟨S8x512x2048x8, .f32⟩
  | .hbm, ⟨55, _⟩ => ⟨S_, .f32⟩
  | .hbm, ⟨56, _⟩ => ⟨S8x512x8, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S8x512x2048, .f32⟩
  | .hbm, ⟨66, _⟩ => ⟨S_, .f32⟩
  | .hbm, ⟨67, _⟩ => ⟨S8x512x2048, .f32⟩
  | .hbm, ⟨68, _⟩ => ⟨S8x512x2048, .f32⟩
  | .hbm, ⟨69, _⟩ => ⟨S_, .f32⟩
  | .hbm, ⟨70, _⟩ => ⟨S8x512x2048, .f32⟩
  | .hbm, ⟨71, _⟩ => ⟨S8x512x2048, .f32⟩
  | .hbm, ⟨72, _⟩ => ⟨S8x512x2048, .f32⟩
  | .hbm, ⟨73, _⟩ => ⟨S1x512x2048, .f32⟩
  | .hbm, ⟨74, _⟩ => ⟨S8x512x2048, .f32⟩
  | .hbm, ⟨75, _⟩ => ⟨S8x512x2048, .f32⟩
  | .hbm, ⟨76, _⟩ => ⟨S8x512x144, .f32⟩
  | _, _ => ⟨S9x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Proof.KProg.lean ====
/-
  The SparseCore kernel's body as a program of repeated pieces — a copy with its wait, one chunk of a row, one
  indirect gather, one group of two rows — and the theorem that the printed body is that program.
-/
module

public import proofs.«01_k».proof.Proof.Gen.Kernel
public import Idealize.ShloMosaic.Lib.SparseCore

@[expose] public section

set_option maxRecDepth 100000

noncomputable section

namespace Cert.Proof.KRun

open Cert.Kernel Cert.Kernel.Gen
open Cert.Kernel.Facts
open Idealize.ShloMosaic
open Idealize.SL.Sem

variable {F : FTy → Type} [FloatOps F]

/-! ## The memrefs -/

abbrev envM : Memref sig .scVector .hbm S2048 .f32 := Memref.whole main_arg2_scv
abbrev biasM : Memref sig .scVector .hbm S16384 .f32 := Memref.whole main_v8_scv
abbrev emtM : Memref sig .scVector .hbm S512x2048 .i32 := Memref.whole main_arg5_scv
abbrev ktM : Memref sig .scVector .hbm S4096x2x128 .f32 := Memref.whole main_v9_scv
abbrev vtM : Memref sig .scVector .hbm S4096x2x128 .f32 := Memref.whole main_v10_scv
abbrev aiM : Memref sig .scVector .hbm S2048 .i32 := Memref.whole main_arg4_scv
abbrev envO : Memref sig .scVector .hbm S512x2048 .f32 := Memref.whole main_v11_0_scv
abbrev biasO : Memref sig .scVector .hbm S8x512x2048 .f32 := Memref.whole main_v11_1_scv
abbrev khO : Memref sig .scVector .hbm S8x2048x2x128 .f32 := Memref.whole main_v11_2_scv
abbrev vhO : Memref sig .scVector .hbm S8x2048x2x128 .f32 := Memref.whole main_v11_3_scv
abbrev envT : Memref sig .scVector .vmem S2048 .f32 := Memref.whole cc0_scratch0
/-- The references of the eight bias tables. -/
abbrev bRef : Fin 8 → Ref sig .scVector
  | 0 => cc0_scratch1 | 1 => cc0_scratch2 | 2 => cc0_scratch3 | 3 => cc0_scratch4
  | 4 => cc0_scratch5 | 5 => cc0_scratch6 | 6 => cc0_scratch7 | 7 => cc0_scratch8
/-- The eight bias tables of a subcore. -/
def biasT : Fin 8 → Memref sig .scVector .vmem S2048 .f32
  | 0 => Memref.whole cc0_scratch1 | 1 => Memref.whole cc0_scratch2 | 2 => Memref.whole cc0_scratch3 | 3 => Memref.whole cc0_scratch4
  | 4 => Memref.whole cc0_scratch5 | 5 => Memref.whole cc0_scratch6 | 6 => Memref.whole cc0_scratch7 | 7 => Memref.whole cc0_scratch8
abbrev idxB : Memref sig .scVector .vmem S2x2048 .i32 := Memref.whole cc0_scratch9
abbrev envB : Memref sig .scVector .vmem S2x2048 .f32 := Memref.whole cc0_scratch10
abbrev biasB : Memref sig .scVector .vmem S8x2x2048 .f32 := Memref.whole cc0_scratch11
abbrev aiB : Memref sig .scVector .vmem S64 .i32 := Memref.whole cc0_scratch12
abbrev hidB : Memref sig .scVector .vmem S8x64 .i32 := Memref.whole cc0_scratch13
abbrev rowK : Memref sig .scVector .vmem S64x2x128 .f32 := Memref.whole cc0_scratch14
abbrev rowV : Memref sig .scVector .vmem S64x2x128 .f32 := Memref.whole cc0_scratch15

/-- The semaphore of the `n`-th copy that waits for itself. -/
abbrev sm (n : ℕ) (h : n < 90 := by omega) : DmaSem sig := (SemArray.consecutive (4 + n) S_ (show (4 + n) + S_.numel ≤ _ by have : S_.numel = 1 := rfl; show 4 + n + S_.numel ≤ 94; omega) : DmaSems sig S_).sem

/-! ## The pieces, each before the rest of the body -/

variable (i : grid0.Coords)

abbrev PR : Type 1 := Prog (TpuEff nD τ sig (Elt F) Λ₀ (.scVector ((i 0).castLE hcore0) ((i 1).castLE hsub0))) PUnit

/-- One copy and its wait. -/
def copy {sp sp' : Space} {s : Shape} {e : EltTy} (src : Memref sig .scVector sp s e) (dst : Memref sig .scVector sp' s e) (sem : DmaSem sig)
    (hs : src.view.WordExact) (hd : dst.view.WordExact) (hT : DmaTarget.Typed (nD := nD) (τ := τ) (p := .scVector ((i 0).castLE hcore0) ((i 1).castLE hsub0)) sp (.dma sem) (.here dst)) (k : PR (F := F) i) : PR (F := F) i :=
  Prog.lift (.enqueueDma src (.here dst) (.dma sem) hs hd hT) >>= fun _ => Prog.lift (.waitDma2 sem src dst hs hd) >>= fun _ => k

theorem hid_inb (h c : ℕ) (hh : h < 8) (hc : c < 4) : ∀ a, (![h, 16 * c] : Fin 2 → ℕ) a + S1x16.size a ≤ S8x64.size a := by
  intro a
  match a with
  | 0 => show h + 1 ≤ 8; omega
  | 1 => show 16 * c + 16 ≤ 64; omega
theorem ai_inb (c : ℕ) (hc : c < 4) : ∀ a, (![16 * c] : Fin 1 → ℕ) a + S16.size a ≤ S64.size a := by
  intro a
  match a with
  | 0 => show 16 * c + 16 ≤ 64; omega

/-- Sixteen entries of head `h`'s row list: the chunk `c` of the atoms' list, moved to the head's rows. -/
def hidStep (h c : ℕ) (hh : h < 8) (hc : c < 4) (k : PR (F := F) i) : PR (F := F) i :=
  Prog.lift (.load aiB (Rect.unit (s := S64) ![16 * c] S16.size (ai_inb c hc)).toLoadRect (View.loadsAt_vmem h_S16)) >>= fun v =>
  Prog.lift (.load hidB (Rect.unit (s := S8x64) ![h, 16 * c] S1x16.size (hid_inb h c hh hc)).toLoadRect (View.loadsAt_vmem h_S1x16)) >>= fun _ =>
  Prog.lift (.store hidB (Rect.unit (s := S8x64) ![h, 16 * c] S1x16.size (hid_inb h c hh hc))
    (shapeCast S1x16 (addi (v : Vec F S16 .i32) (broadcast S16 (BitVec.ofNat 32 (512 * h))) : IVec S16 32) shapeCasts_S16_S1x16) Finset.univ
    (View.stores_vmem_bits_univ h_S1x16 rfl) (.inl rfl)) >>= fun _ => k
def hidRow (h : ℕ) (hh : h < 8) (k : PR (F := F) i) : PR (F := F) i :=
  hidStep i h 0 hh (by omega) (hidStep i h 1 hh (by omega) (hidStep i h 2 hh (by omega) (hidStep i h 3 hh (by omega) k)))
def hidAll (k : PR (F := F) i) : PR (F := F) i :=
  hidRow i 0 (by omega) (hidRow i 1 (by omega) (hidRow i 2 (by omega) (hidRow i 3 (by omega)
    (hidRow i 4 (by omega) (hidRow i 5 (by omega) (hidRow i 6 (by omega) (hidRow i 7 (by omega) k)))))))

theorem hrow_inb (h : ℕ) (hh : h < 8) : ∀ a, (![h, 0] : Fin 2 → ℕ) a + S1x64.size a ≤ S8x64.size a := by
  intro a
  match a with
  | 0 => show h + 1 ≤ 8; omega
  | 1 => show 0 + 64 ≤ 64; omega
/-- Head `h`'s row list. -/
abbrev hrow (h : ℕ) (hh : h < 8) : Memref sig .scVector .vmem S64 .i32 :=
  (hidB.slice (Rect.unit (s := S8x64) ![h, 0] S1x64.size (hrow_inb h hh)) (fun _ => rfl)).squeeze S64 squeezes_S1x64_S64
/-- All of a table, as the gathers name it. -/
abbrev allT (t : Memref sig .scVector .hbm S4096x2x128 .f32) : Memref sig .scVector .hbm S4096x2x128 .f32 :=
  t.slice (Rect.unit (s := S4096x2x128) ![0, 0, 0] S4096x2x128.size inb_S4096x2x128_S4096x2x128_0_0_0) (fun _ => rfl)

/-- One indirect gather, started: the rows of table `t` that head `h`'s row list names. -/
def fire (t : Memref sig .scVector .hbm S4096x2x128 .f32) (h : ℕ) (hh : h < 8) (dst : Memref sig .scVector .vmem S64x2x128 .f32) (sem : DmaSem sig) (k : PR (F := F) i) : PR (F := F) i :=
  SparseCore.enqueueIndirectGather (p := .scVector ((i 0).castLE hcore0) ((i 1).castLE hsub0)) rfl (allT t) dst gathers_S4096x2x128_S64x2x128 (hrow h hh) rfl sem
    (View.wordExact_bits rfl) rfl (Or.inl rfl) >>= fun _ => k
/-- The wait for it. -/
def await (t : Memref sig .scVector .hbm S4096x2x128 .f32) (dst : Memref sig .scVector .vmem S64x2x128 .f32) (sem : DmaSem sig) (k : PR (F := F) i) : PR (F := F) i :=
  SparseCore.waitIndirectGather (p := .scVector ((i 0).castLE hcore0) ((i 1).castLE hsub0)) sem (allT t) dst (View.wordExact_bits rfl) (View.wordExact_bits rfl) >>= fun _ => k

/-- The tile's number, as the kernel computes it. -/
abbrev widW : BitVec 32 := Scalar.addi (Scalar.muli (BitVec.ofNat 32 (i 1).val) 2#32) (BitVec.ofNat 32 (i 0).val)
/-- Where head `h`'s rows of this tile lie. -/
def offK (h : ℕ) : Fin 4 → ℕ := ![h, (Scalar.muli (widW i) 64#32).toNat, 0, 0]
/-- Where rows `w` and `w + 1` of this tile lie in head `h`'s bias. -/
def offH (h : ℕ) (w : BitVec 32) : Fin 3 → ℕ := ![h, (Scalar.addi (Scalar.muli (widW i) 16#32) w).toNat, 0]

theorem offK_eq (h : ℕ) : offK i h = ![h, 128 * (i 1).val + 64 * (i 0).val, 0, 0] := by
  have h1 := k0_off1_eq i
  have e : (Scalar.muli (widW i) 64#32).toNat = 128 * (i 1).val + 64 * (i 0).val := congrFun h1 0
  unfold offK; rw [e]
theorem offH_eq (h : ℕ) (r : Fin 8) : offH i h (BitVec.ofNat 32 (2 * r.val)) = ![h, 32 * (i 1).val + 16 * (i 0).val + 2 * r.val, 0] := by
  have h1 := k0_off2_eq i r
  have e : (Scalar.addi (Scalar.muli (widW i) 16#32) (BitVec.ofNat 32 (2 * r.val))).toNat = 32 * (i 1).val + 16 * (i 0).val + 2 * r.val := congrFun h1 0
  unfold offH; rw [e]
theorem offK_inb (h : ℕ) (hh : h < 8) : ∀ a, offK i h a + S1x64x2x128.size a ≤ S8x2048x2x128.size a := by
  have h0 : (i 0).val < 2 := (i 0).isLt
  have h1 : (i 1).val < 16 := (i 1).isLt
  rw [offK_eq]
  intro a
  match a with
  | 0 => show h + 1 ≤ 8; omega
  | 1 => show 128 * (i 1).val + 64 * (i 0).val + 64 ≤ 2048; omega
  | 2 => show 0 + 2 ≤ 2; omega
  | 3 => show 0 + 128 ≤ 128; omega
theorem offH_inb (h : ℕ) (hh : h < 8) (r : Fin 8) : ∀ a, offH i h (BitVec.ofNat 32 (2 * r.val)) a + S1x2x2048.size a ≤ S8x512x2048.size a := by
  have h0 : (i 0).val < 2 := (i 0).isLt
  have h1 : (i 1).val < 16 := (i 1).isLt
  rw [offH_eq]
  intro a
  match a with
  | 0 => show h + 1 ≤ 8; omega
  | 1 => show 32 * (i 1).val + 16 * (i 0).val + 2 * r.val + 2 ≤ 512; omega
  | 2 => show 0 + 2048 ≤ 2048; omega

/-- This tile's rows of head `h`, in a row output. -/
abbrev kRows (o : Memref sig .scVector .hbm S8x2048x2x128 .f32) (h : ℕ) (hh : h < 8) : Memref sig .scVector .hbm S64x2x128 .f32 :=
  (o.slice (Rect.unit (s := S8x2048x2x128) (offK i h) S1x64x2x128.size (offK_inb i h hh)) (fun _ => rfl)).squeeze S64x2x128 squeezes_S1x64x2x128_S64x2x128
/-- The gathered rows of head `h` on their way out, -/
def outRow (src : Memref sig .scVector .vmem S64x2x128 .f32) (o : Memref sig .scVector .hbm S8x2048x2x128 .f32) (h : ℕ) (hh : h < 8) (sem : DmaSem sig) (k : PR (F := F) i) : PR (F := F) i :=
  Prog.lift (.enqueueDma src (.here (kRows i o h hh)) (.dma sem) (View.wordExact_bits rfl) ((View.wordExact_bits rfl).reshape _ _) ⟨Or.inl rfl, trivial⟩) >>= fun _ => k
/-- and the wait for them. -/
def outWait (src : Memref sig .scVector .vmem S64x2x128 .f32) (o : Memref sig .scVector .hbm S8x2048x2x128 .f32) (h : ℕ) (hh : h < 8) (sem : DmaSem sig) (k : PR (F := F) i) : PR (F := F) i :=
  Prog.lift (.waitDma2 sem src (kRows i o h hh) (View.wordExact_bits rfl) ((View.wordExact_bits rfl).reshape _ _)) >>= fun _ => k

/-! ## A row of indices, sixteen at a time -/

/-- The loop over a row's 128 chunks. -/
abbrev rowLoop : Scf.Loop 32 := ⟨0#32, Scalar.addi 0#32 128#32, 1#32⟩
theorem rowLoop_ok : rowLoop.OK := k0_t1_ok
theorem rowLoop_trips : rowLoop.trips = 128 := by decide +kernel
/-- The first column of chunk `t`, as the kernel computes it. -/
abbrev colW (t : Fin rowLoop.trips) : Index := Scalar.indexCast (Scalar.muli (Scf.iv 0#32 1#32 t) 16#32)
def off2 (r : ℕ) (t : Fin rowLoop.trips) : Fin 2 → ℕ := ![r, (colW t).toNat]
def off3 (h r : ℕ) (t : Fin rowLoop.trips) : Fin 3 → ℕ := ![h, r, (colW t).toNat]
theorem colW_eq (t : Fin rowLoop.trips) : (colW t).toNat = 16 * t.val := congrFun (k0_off3_eq t) 1
theorem off2_eq (r : ℕ) (t : Fin rowLoop.trips) : off2 r t = ![r, 16 * t.val] := by unfold off2; rw [colW_eq]
theorem off3_eq (h r : ℕ) (t : Fin rowLoop.trips) : off3 h r t = ![h, r, 16 * t.val] := by unfold off3; rw [colW_eq]
theorem off2_inb (r : ℕ) (hr : r < 2) (t : Fin rowLoop.trips) : ∀ a, off2 r t a + S1x16.size a ≤ S2x2048.size a := by
  have ht : t.val < 128 := rowLoop_trips ▸ t.isLt
  rw [off2_eq]
  intro a
  match a with
  | 0 => show r + 1 ≤ 2; omega
  | 1 => show 16 * t.val + 16 ≤ 2048; omega
theorem off3_inb (h r : ℕ) (hh : h < 8) (hr : r < 2) (t : Fin rowLoop.trips) : ∀ a, off3 h r t a + S1x1x16.size a ≤ S8x2x2048.size a := by
  have ht : t.val < 128 := rowLoop_trips ▸ t.isLt
  rw [off3_eq]
  intro a
  match a with
  | 0 => show h + 1 ≤ 8; omega
  | 1 => show r + 1 ≤ 2; omega
  | 2 => show 16 * t.val + 16 ≤ 2048; omega

/-- Sixteen entries of head `h`'s bias. -/
def biasStep (h r : ℕ) (hh : h < 8) (hr : r < 2) (t : Fin rowLoop.trips) (v : Vec F S16 .i32) (hv : ∀ a x, ((![v] : Fin 1 → IVec S16 32) a x).toNat < S2048.size a) (k : PR (F := F) i) : PR (F := F) i :=
  SparseCore.vectorLoadIdx (biasT ⟨h, hh⟩) ![v] hv (View.loads_vmem h_S2048) >>= fun x =>
  Prog.lift (.load biasB (Rect.unit (s := S8x2x2048) (off3 h r t) S1x1x16.size (off3_inb h r hh hr t)).toLoadRect (View.loadsAt_vmem h_S1x1x16)) >>= fun _ =>
  Prog.lift (.store biasB (Rect.unit (s := S8x2x2048) (off3 h r t) S1x1x16.size (off3_inb h r hh hr t)) (shapeCast S1x1x16 x shapeCasts_S16_S1x1x16) Finset.univ
    (View.stores_vmem_bits_univ h_S1x1x16 rfl) (.inl rfl)) >>= fun _ => k

/-- One chunk: its indices, their envelope, their eight biases. -/
def chunk (r : ℕ) (hr : r < 2) (t : Fin rowLoop.trips) : PR (F := F) i :=
  Prog.lift (.load idxB (Rect.unit (s := S2x2048) (off2 r t) S1x16.size (off2_inb r hr t)).toLoadRect (View.loadsAt_vmem h_S1x16)) >>= fun ld =>
  Prog.lift (TpuEff.assume (k0_chk1 (shapeCast S16 ld shapeCasts_S1x16_S16)) (k0_chk1.dec _)) >>= fun hw =>
  SparseCore.vectorLoadIdx envT ![shapeCast S16 ld shapeCasts_S1x16_S16] hw.down.1 (View.loads_vmem h_S2048) >>= fun x =>
  Prog.lift (.load envB (Rect.unit (s := S2x2048) (off2 r t) S1x16.size (off2_inb r hr t)).toLoadRect (View.loadsAt_vmem h_S1x16)) >>= fun _ =>
  Prog.lift (.store envB (Rect.unit (s := S2x2048) (off2 r t) S1x16.size (off2_inb r hr t)) (shapeCast S1x16 x shapeCasts_S16_S1x16) Finset.univ
    (View.stores_vmem_bits_univ h_S1x16 rfl) (.inl rfl)) >>= fun _ =>
  biasStep i 0 r (by omega) hr t _ hw.down.1 <| biasStep i 1 r (by omega) hr t _ hw.down.1 <|
  biasStep i 2 r (by omega) hr t _ hw.down.1 <| biasStep i 3 r (by omega) hr t _ hw.down.1 <|
  biasStep i 4 r (by omega) hr t _ hw.down.1 <| biasStep i 5 r (by omega) hr t _ hw.down.1 <|
  biasStep i 6 r (by omega) hr t _ hw.down.1 <| biasStep i 7 r (by omega) hr t _ hw.down.1 <| .ret ⟨⟩

/-- One row's chunks. -/
def row (r : ℕ) (hr : r < 2) : PR (F := F) i := Scf.Loop.for rowLoop rowLoop_ok ⟨⟩ fun t _ => chunk i r hr t

/-! ## The tables, and a group of two rows -/

theorem b_inb (h : ℕ) (hh : h < 8) : ∀ a, (![2048 * h] : Fin 1 → ℕ) a + S2048.size a ≤ S16384.size a := by
  intro a
  match a with
  | 0 => show 2048 * h + 2048 ≤ 16384; omega
abbrev bSrc (h : ℕ) (hh : h < 8) : Memref sig .scVector .hbm S2048 .f32 := biasM.slice (Rect.unit (s := S16384) ![2048 * h] S2048.size (b_inb h hh)) (fun _ => rfl)
def tab (h : ℕ) (hh : h < 8) (k : PR (F := F) i) : PR (F := F) i :=
  copy i (bSrc h hh) (biasT ⟨h, hh⟩) (sm (2 + h)) (View.wordExact_bits rfl) (View.wordExact_bits rfl) ⟨Or.inl rfl, trivial⟩ k
def tabs (k : PR (F := F) i) : PR (F := F) i :=
  copy i envM envT (sm 1) (View.wordExact_bits rfl) (View.wordExact_bits rfl) ⟨Or.inl rfl, trivial⟩ <|
  tab i 0 (by omega) <| tab i 1 (by omega) <| tab i 2 (by omega) <| tab i 3 (by omega) <|
  tab i 4 (by omega) <| tab i 5 (by omega) <| tab i 6 (by omega) <| tab i 7 (by omega) k

/-- The rows of group `g`, in an array of this tile's rows. -/
abbrev g2 {e : EltTy} (o : Memref sig .scVector .hbm S512x2048 e) (g : Fin 8) : Memref sig .scVector .hbm S2x2048 e :=
  o.slice (Rect.unit (s := S512x2048) (k0_off2 i (BitVec.ofNat 32 (2 * g.val))) S2x2048.size (k0_off2_inb i g)) (fun _ => rfl)
theorem h2_inb (h : ℕ) (hh : h < 8) : ∀ a, (![h, 0, 0] : Fin 3 → ℕ) a + S1x2x2048.size a ≤ S8x2x2048.size a := by
  intro a
  match a with
  | 0 => show h + 1 ≤ 8; omega
  | 1 => show 0 + 2 ≤ 2; omega
  | 2 => show 0 + 2048 ≤ 2048; omega
abbrev bRows (h : ℕ) (hh : h < 8) : Memref sig .scVector .vmem S2x2048 .f32 :=
  (biasB.slice (Rect.unit (s := S8x2x2048) ![h, 0, 0] S1x2x2048.size (h2_inb h hh)) (fun _ => rfl)).squeeze S2x2048 squeezes_S1x2x2048_S2x2048
abbrev bOut (h : ℕ) (hh : h < 8) (g : Fin 8) : Memref sig .scVector .hbm S2x2048 .f32 :=
  (biasO.slice (Rect.unit (s := S8x512x2048) (offH i h (BitVec.ofNat 32 (2 * g.val))) S1x2x2048.size (offH_inb i h hh g)) (fun _ => rfl)).squeeze S2x2048 squeezes_S1x2x2048_S2x2048
def biasOut (h : ℕ) (hh : h < 8) (g : Fin 8) (k : PR (F := F) i) : PR (F := F) i :=
  copy i (bRows h hh) (bOut i h hh g) (sm (12 + 10 * g.val + h)) ((View.wordExact_bits rfl).reshape _ _) ((View.wordExact_bits rfl).reshape _ _) ⟨Or.inl rfl, trivial⟩ k

abbrev gK : DmaSem sig := (SemArray.consecutive 0 S_ (by decide) : DmaSems sig S_).sem
abbrev gV : DmaSem sig := (SemArray.consecutive 1 S_ (by decide) : DmaSems sig S_).sem
abbrev oK : DmaSem sig := (SemArray.consecutive 2 S_ (by decide) : DmaSems sig S_).sem
abbrev oV : DmaSem sig := (SemArray.consecutive 3 S_ (by decide) : DmaSems sig S_).sem

/-- Group `g`: its two rows computed; head `g`'s gathered rows started out; the two rows copied out. -/
def grp (g : Fin 8) (k : PR (F := F) i) : PR (F := F) i :=
  copy i (g2 i emtM g) idxB (sm (10 + 10 * g.val)) (View.wordExact_bits rfl) (View.wordExact_bits rfl) ⟨Or.inl rfl, trivial⟩ <|
  row i 0 (by omega) >>= fun _ => row i 1 (by omega) >>= fun _ =>
  await i ktM rowK gK <| outRow i rowK khO g.val g.isLt oK <|
  await i vtM rowV gV <| outRow i rowV vhO g.val g.isLt oV <|
  copy i envB (g2 i envO g) (sm (11 + 10 * g.val)) (View.wordExact_bits rfl) (View.wordExact_bits rfl) ⟨Or.inl rfl, trivial⟩ <|
  biasOut i 0 (by omega) g <| biasOut i 1 (by omega) g <| biasOut i 2 (by omega) g <| biasOut i 3 (by omega) g <|
  biasOut i 4 (by omega) g <| biasOut i 5 (by omega) g <| biasOut i 6 (by omega) g <| biasOut i 7 (by omega) g k

/-- Between groups `g` and `g + 1`: the rows of head `g` are out, and the gathers of head `g + 1` start. -/
def next (g : ℕ) (hg : g < 7) (k : PR (F := F) i) : PR (F := F) i :=
  outWait i rowK khO g (by omega) oK <| fire i ktM (g + 1) (by omega) rowK gK <|
  outWait i rowV vhO g (by omega) oV <| fire i vtM (g + 1) (by omega) rowV gV k

/-- The body. -/
def prog : PR (F := F) i :=
  copy i (aiM.slice (Rect.unit (s := S2048) (k0_off1 i) S64.size (k0_off1_inb i)) (fun _ => rfl)) aiB (sm 0) (View.wordExact_bits rfl) (View.wordExact_bits rfl) ⟨Or.inl rfl, trivial⟩ <|
  hidAll i <| fire i ktM 0 (by omega) rowK gK <| fire i vtM 0 (by omega) rowV gV <| tabs i <|
  grp i 0 <| next i 0 (by omega) <| grp i 1 <| next i 1 (by omega) <| grp i 2 <| next i 2 (by omega) <|
  grp i 3 <| next i 3 (by omega) <| grp i 4 <| next i 4 (by omega) <| grp i 5 <| next i 5 (by omega) <|
  grp i 6 <| next i 6 (by omega) <| grp i 7 <|
  outWait i rowK khO 7 (by omega) oK <| outWait i rowV vhO 7 (by omega) oV <| .ret ⟨⟩

end Cert.Proof.KRun
end
-- ==== Proof.KPure.lean ====
/-
  What the pieces of the body leave in their buffers: the views' index maps, and one lemma per piece saying how its
  write advances what the buffer holds.
-/
module

public import proofs.«01_k».proof.Proof.KProg
public import Idealize.ShloMosaic.Lib.ValueLayout
public import Idealize.ShloMosaic.Lib.Pipeline.ValueKit.Geometry
public import Idealize.ShloMosaic.Lib.SparseCore.Stream

@[expose] public section

set_option maxRecDepth 16384

noncomputable section

namespace Cert.Proof.KRun

open Cert.Kernel Cert.Kernel.Gen
open Cert.Kernel.Facts
open Idealize.ShloMosaic
open Idealize.ShloMosaic.ValueIdx
open Idealize.SL.Sem

variable {F : FTy → Type} [FloatOps F]

/-! ## Indices by their coordinates -/

theorem ext1 {a : ℕ} {x y : (⟨1, ![a]⟩ : Shape).Idx} (h0 : (x 0).val = (y 0).val) : x = y :=
  funext fun d => match d with | ⟨0, _⟩ => Fin.ext h0
theorem ext2 {a b : ℕ} {x y : (⟨2, ![a, b]⟩ : Shape).Idx} (h0 : (x 0).val = (y 0).val) (h1 : (x 1).val = (y 1).val) : x = y :=
  funext fun d => match d with | ⟨0, _⟩ => Fin.ext h0 | ⟨1, _⟩ => Fin.ext h1
theorem ext3 {a b c : ℕ} {x y : (⟨3, ![a, b, c]⟩ : Shape).Idx} (h0 : (x 0).val = (y 0).val) (h1 : (x 1).val = (y 1).val)
    (h2 : (x 2).val = (y 2).val) : x = y :=
  funext fun d => match d with | ⟨0, _⟩ => Fin.ext h0 | ⟨1, _⟩ => Fin.ext h1 | ⟨2, _⟩ => Fin.ext h2
theorem ext4 {a b c e : ℕ} {x y : (⟨4, ![a, b, c, e]⟩ : Shape).Idx} (h0 : (x 0).val = (y 0).val) (h1 : (x 1).val = (y 1).val)
    (h2 : (x 2).val = (y 2).val) (h3 : (x 3).val = (y 3).val) : x = y :=
  funext fun d => match d with | ⟨0, _⟩ => Fin.ext h0 | ⟨1, _⟩ => Fin.ext h1 | ⟨2, _⟩ => Fin.ext h2 | ⟨3, _⟩ => Fin.ext h3

/-- Entry `n` of a list of 2048, -/
def at1 (n : ℕ) : S2048.Idx := ix1 ⟨n % 2048, Nat.mod_lt _ (by decide)⟩
/-- entry `n` of the eight bias tables end to end, -/
def atB (n : ℕ) : S16384.Idx := ix1 ⟨n % 16384, Nat.mod_lt _ (by decide)⟩
/-- and place `(p, q)` of row `n` of a table of rows. -/
def atT (n : ℕ) (p : Fin 2) (q : Fin 128) : S4096x2x128.Idx := ix3 ⟨n % 4096, Nat.mod_lt _ (by decide)⟩ p q

/-- A unit-stride rectangle's place of an index, its offsets in closed form. -/
theorem emb_unit {s : Shape} {off off' size : Fin s.rank → ℕ} {inb} (h : off = off') (y : (Rect.unit off size inb).shape.Idx) (a : Fin s.rank) :
    ((Rect.unit off size inb).emb y a).val = off' a + (y a).val := by
  subst h; exact ValueKit.rect_emb_unit_val off size inb y a

/-- A write through a view of all of its elements: they hold what was written, the others what they held. -/
theorem write_at {sig : RefSig} {κ : Kind} {sp : Space} {s : Shape} {e : EltTy} {Val : EltTy → Type} (v : View sig κ sp s e) (f : v.ty.Contents Val) (w : s.Idx → Val e) (y : s.Idx) :
    v.write Val f w Finset.univ (v.emb y) = _root_.cast (congrArg Val v.elt_eq.symm) (w y) :=
  View.write_emb_of_mem f w (Finset.mem_univ y)
theorem write_off {sig : RefSig} {κ : Kind} {sp : Space} {s : Shape} {e : EltTy} {Val : EltTy → Type} (v : View sig κ sp s e) (f : v.ty.Contents Val) (w : s.Idx → Val e) {i : v.ty.Idx} (h : ∀ y, v.emb y ≠ i) :
    v.write Val f w Finset.univ i = f i :=
  View.write_of_not_mem f w _ fun hm => by
    obtain ⟨y, -, hy⟩ := Finset.mem_map.mp hm
    exact h y hy

/-! ## The row buffers' chunks -/

abbrev v2 (r : ℕ) (hr : r < 2) (t : Fin rowLoop.trips) {e : EltTy} (m : Memref sig .scVector .vmem S2x2048 e) : View sig .scVector .vmem S1x16 e :=
  m.access (Rect.unit (s := S2x2048) (off2 r t) S1x16.size (off2_inb r hr t))
abbrev v3 (h r : ℕ) (hh : h < 8) (hr : r < 2) (t : Fin rowLoop.trips) : View sig .scVector .vmem S1x1x16 .f32 :=
  biasB.access (Rect.unit (s := S8x2x2048) (off3 h r t) S1x1x16.size (off3_inb h r hh hr t))

theorem r2_emb (r : ℕ) (hr : r < 2) (t : Fin rowLoop.trips) (y : S1x16.Idx) :
    ((Rect.unit (s := S2x2048) (off2 r t) S1x16.size (off2_inb r hr t)).emb y 0).val = r
      ∧ ((Rect.unit (s := S2x2048) (off2 r t) S1x16.size (off2_inb r hr t)).emb y 1).val = 16 * t.val + (y 1).val := by
  have h0 : (y 0).val < 1 := (y 0).isLt
  constructor
  · refine (emb_unit (s := S2x2048) (size := S1x16.size) (inb := off2_inb r hr t) (off2_eq r t) y 0).trans ?_; show r + (y 0).val = r; omega
  · exact emb_unit (s := S2x2048) (size := S1x16.size) (inb := off2_inb r hr t) (off2_eq r t) y 1
theorem r3_emb (h r : ℕ) (hh : h < 8) (hr : r < 2) (t : Fin rowLoop.trips) (y : S1x1x16.Idx) :
    ((Rect.unit (s := S8x2x2048) (off3 h r t) S1x1x16.size (off3_inb h r hh hr t)).emb y 0).val = h
      ∧ ((Rect.unit (s := S8x2x2048) (off3 h r t) S1x1x16.size (off3_inb h r hh hr t)).emb y 1).val = r
      ∧ ((Rect.unit (s := S8x2x2048) (off3 h r t) S1x1x16.size (off3_inb h r hh hr t)).emb y 2).val = 16 * t.val + (y 2).val := by
  have h0 : (y 0).val < 1 := (y 0).isLt
  have h1 : (y 1).val < 1 := (y 1).isLt
  refine ⟨?_, ?_, ?_⟩
  · refine (emb_unit (s := S8x2x2048) (size := S1x1x16.size) (inb := off3_inb h r hh hr t) (off3_eq h r t) y 0).trans ?_; show h + (y 0).val = h; omega
  · refine (emb_unit (s := S8x2x2048) (size := S1x1x16.size) (inb := off3_inb h r hh hr t) (off3_eq h r t) y 1).trans ?_; show r + (y 1).val = r; omega
  · exact emb_unit (s := S8x2x2048) (size := S1x1x16.size) (inb := off3_inb h r hh hr t) (off3_eq h r t) y 2

/-- The indices a chunk loads. -/
theorem chunk_idx (fI : S2x2048.Idx → Elt F .i32) (r : ℕ) (hr : r < 2) (t : Fin rowLoop.trips) (j : S16.Idx) (x : S2x2048.Idx)
    (h0 : (x 0).val = r) (h1 : (x 1).val = 16 * t.val + (j 0).val) :
    shapeCast S16 ((v2 r hr t idxB).read (Elt F) fI) shapeCasts_S1x16_S16 j = fI x := by
  have hj : (j 0).val < 16 := (j 0).isLt
  rw [shapeCast_apply (s := S1x16) (t := S16) _ _ j (ix2 (0 : Fin 1) (j 0)) (by
    rw [Shape.rowMajor_val_two, Shape.rowMajor_val_one]
    show 0 * 16 + (j 0).val = (j 0).val
    omega)]
  show fI ((Rect.unit (s := S2x2048) (off2 r t) S1x16.size (off2_inb r hr t)).emb (ix2 (0 : Fin 1) (j 0))) = fI x
  obtain ⟨e0, e1⟩ := r2_emb r hr t (ix2 (0 : Fin 1) (j 0))
  exact congrArg fI (ext2 (e0.trans h0.symm) (e1.trans h1.symm))

/-- The envelope buffer, rows before `r` and the first `n` chunks of row `r` done. -/
def EB (fE : S2048.Idx → Elt F .f32) (fI : S2x2048.Idx → Elt F .i32) (r n : ℕ) (f : S2x2048.Idx → Elt F .f32) : Prop :=
  ∀ x : S2x2048.Idx, ((x 0).val < r ∨ (x 0).val = r ∧ (x 1).val < 16 * n) → f x = fE (at1 (fI x).toNat)
/-- The bias buffer, rows before `r`, the first `n` chunks of row `r`, and that row's next chunk of the heads before `h` done. -/
def BB (fB : Fin 8 → S2048.Idx → Elt F .f32) (fI : S2x2048.Idx → Elt F .i32) (r n h : ℕ) (f : S8x2x2048.Idx → Elt F .f32) : Prop :=
  ∀ x : S8x2x2048.Idx, ((x 1).val < r ∨ (x 1).val = r ∧ ((x 2).val < 16 * n ∨ (x 0).val < h ∧ (x 2).val < 16 * n + 16)) →
    f x = fB (x 0) (at1 (fI (ix2 (x 1) (x 2))).toNat)

omit [FloatOps F] in
theorem BB_next {fB : Fin 8 → S2048.Idx → Elt F .f32} {fI : S2x2048.Idx → Elt F .i32} {r n : ℕ} {f : S8x2x2048.Idx → Elt F .f32}
    (hf : BB fB fI r n 8 f) : BB fB fI r (n + 1) 0 f := fun x hx => hf x (by
  have h0 : (x 0).val < 8 := (x 0).isLt
  omega)
omit [FloatOps F] in
theorem BB_row {fB : Fin 8 → S2048.Idx → Elt F .f32} {fI : S2x2048.Idx → Elt F .i32} {r : ℕ} {f : S8x2x2048.Idx → Elt F .f32}
    (hf : BB fB fI r 128 0 f) : BB fB fI (r + 1) 0 0 f := fun x hx => hf x (by
  have h0 : (x 2).val < 2048 := (x 2).isLt
  omega)
omit [FloatOps F] in
theorem EB_row {fE : S2048.Idx → Elt F .f32} {fI : S2x2048.Idx → Elt F .i32} {r : ℕ} {f : S2x2048.Idx → Elt F .f32}
    (hf : EB fE fI r 128 f) : EB fE fI (r + 1) 0 f := fun x hx => hf x (by
  have h0 : (x 1).val < 2048 := (x 1).isLt
  omega)

omit [FloatOps F] in
/-- Entry `w` of a list, an index in range. -/
theorem loadIdx_at (fE : S2048.Idx → Elt F .f32) (v : IVec S16 32) (hv : ∀ a x, ((![v] : Fin 1 → IVec S16 32) a x).toNat < S2048.size a) (j : S16.Idx) :
    loadIdx (e := .f32) (s := S2048) (t := S16) fE ![v] hv j = fE (at1 (v j).toNat) := by
  have h := hv 0 j
  show fE _ = fE _
  refine congrArg fE (ext1 ?_)
  show (v j).toNat = (v j).toNat % 2048
  exact (Nat.mod_eq_of_lt h).symm

/-- One chunk of the envelope. -/
theorem EB_step {fE : S2048.Idx → Elt F .f32} {fI : S2x2048.Idx → Elt F .i32} {r : ℕ} {hr : r < 2} {t : Fin rowLoop.trips} {f : S2x2048.Idx → Elt F .f32}
    (hv) (hf : EB fE fI r t.val f) :
    EB fE fI r (t.val + 1) ((v2 r hr t envB).write (Elt F) f (shapeCast S1x16 (loadIdx (e := .f32) (s := S2048) (t := S16) fE
      ![shapeCast S16 ((v2 r hr t idxB).read (Elt F) fI) shapeCasts_S1x16_S16] hv) shapeCasts_S16_S1x16) Finset.univ) := by
  intro x hx
  by_cases hm : (x 0).val = r ∧ 16 * t.val ≤ (x 1).val
  · have hlt : (x 1).val - 16 * t.val < 16 := by omega
    have hy : (v2 r hr t envB).emb (ix2 (0 : Fin 1) (⟨(x 1).val - 16 * t.val, hlt⟩ : Fin 16)) = x := by
      obtain ⟨e0, e1⟩ := r2_emb r hr t (ix2 (0 : Fin 1) (⟨(x 1).val - 16 * t.val, hlt⟩ : Fin 16))
      refine ext2 (e0.trans hm.1.symm) (e1.trans ?_)
      show 16 * t.val + ((x 1).val - 16 * t.val) = (x 1).val
      omega
    have hw := write_at (Val := Elt F) (v2 r hr t envB) f (shapeCast S1x16 (loadIdx (e := .f32) (s := S2048) (t := S16) fE
      ![shapeCast S16 ((v2 r hr t idxB).read (Elt F) fI) shapeCasts_S1x16_S16] hv) shapeCasts_S16_S1x16) (ix2 (0 : Fin 1) (⟨(x 1).val - 16 * t.val, hlt⟩ : Fin 16))
    rw [hy] at hw
    refine hw.trans ((cast_eq _ _).trans ?_)
    rw [shapeCast_apply (s := S16) (t := S1x16) _ _ _ (ix1 (⟨(x 1).val - 16 * t.val, hlt⟩ : Fin 16)) (by
      rw [Shape.rowMajor_val_two, Shape.rowMajor_val_one]
      show (x 1).val - 16 * t.val = 0 * 16 + ((x 1).val - 16 * t.val)
      omega), loadIdx_at, chunk_idx fI r hr t _ x hm.1 (by show (x 1).val = 16 * t.val + ((x 1).val - 16 * t.val); omega)]
  · have hne : ∀ y, (v2 r hr t envB).emb y ≠ x := fun y hy => hm (by
      obtain ⟨e0, e1⟩ := r2_emb r hr t y
      have e : (Rect.unit (s := S2x2048) (off2 r t) S1x16.size (off2_inb r hr t)).emb y = x := hy
      rw [e] at e0 e1; omega)
    exact (write_off (Val := Elt F) (v2 r hr t envB) f _ hne).trans (hf x (by omega))

/-- One chunk of one head's bias. -/
theorem BB_step {fB : Fin 8 → S2048.Idx → Elt F .f32} {fI : S2x2048.Idx → Elt F .i32} {h r : ℕ} {hh : h < 8} {hr : r < 2} {t : Fin rowLoop.trips} {f : S8x2x2048.Idx → Elt F .f32}
    (hv) (hf : BB fB fI r t.val h f) :
    BB fB fI r t.val (h + 1) ((v3 h r hh hr t).write (Elt F) f (shapeCast S1x1x16 (loadIdx (e := .f32) (s := S2048) (t := S16) (fB ⟨h, hh⟩)
      ![shapeCast S16 ((v2 r hr t idxB).read (Elt F) fI) shapeCasts_S1x16_S16] hv) shapeCasts_S16_S1x1x16) Finset.univ) := by
  intro x hx
  by_cases hm : (x 0).val = h ∧ (x 1).val = r ∧ 16 * t.val ≤ (x 2).val ∧ (x 2).val < 16 * t.val + 16
  · have hlt : (x 2).val - 16 * t.val < 16 := by omega
    have hy : (v3 h r hh hr t).emb (ix3 (0 : Fin 1) (0 : Fin 1) (⟨(x 2).val - 16 * t.val, hlt⟩ : Fin 16)) = x := by
      obtain ⟨e0, e1, e2⟩ := r3_emb h r hh hr t (ix3 (0 : Fin 1) (0 : Fin 1) (⟨(x 2).val - 16 * t.val, hlt⟩ : Fin 16))
      refine ext3 (e0.trans hm.1.symm) (e1.trans hm.2.1.symm) (e2.trans ?_)
      show 16 * t.val + ((x 2).val - 16 * t.val) = (x 2).val
      omega
    have hw := write_at (Val := Elt F) (v3 h r hh hr t) f (shapeCast S1x1x16 (loadIdx (e := .f32) (s := S2048) (t := S16) (fB ⟨h, hh⟩)
      ![shapeCast S16 ((v2 r hr t idxB).read (Elt F) fI) shapeCasts_S1x16_S16] hv) shapeCasts_S16_S1x1x16) (ix3 (0 : Fin 1) (0 : Fin 1) (⟨(x 2).val - 16 * t.val, hlt⟩ : Fin 16))
    rw [hy] at hw
    refine hw.trans ((cast_eq _ _).trans ?_)
    rw [shapeCast_apply (s := S16) (t := S1x1x16) _ _ _ (ix1 (⟨(x 2).val - 16 * t.val, hlt⟩ : Fin 16)) (by
      rw [Shape.rowMajor_val_three, Shape.rowMajor_val_one]
      show (x 2).val - 16 * t.val = (0 * 1 + 0) * 16 + ((x 2).val - 16 * t.val)
      omega), loadIdx_at, chunk_idx fI r hr t _ (ix2 (x 1) (x 2)) hm.2.1 (by show (x 2).val = 16 * t.val + ((x 2).val - 16 * t.val); omega)]
    rw [show (⟨h, hh⟩ : Fin 8) = x 0 from Fin.ext hm.1.symm]
  · have hne : ∀ y, (v3 h r hh hr t).emb y ≠ x := fun y hy => hm (by
      obtain ⟨e0, e1, e2⟩ := r3_emb h r hh hr t y
      have e : (Rect.unit (s := S8x2x2048) (off3 h r t) S1x1x16.size (off3_inb h r hh hr t)).emb y = x := hy
      have hy2 : (y 2).val < 16 := (y 2).isLt
      rw [e] at e0 e1 e2; omega)
    exact (write_off (Val := Elt F) (v3 h r hh hr t) f _ hne).trans (hf x (by omega))

end Cert.Proof.KRun
end
-- ==== Proof.KPure2.lean ====
/-
  What the copies and the gathers leave: the row lists of the heads, the gathered rows, and the tile's part of the four
  outputs, each as far as the body has come.
-/
module

public import proofs.«01_k».proof.Proof.KPure

@[expose] public section

set_option maxRecDepth 16384

noncomputable section

namespace Cert.Proof.KRun

open Cert.Kernel Cert.Kernel.Gen
open Cert.Kernel.Facts
open Idealize.ShloMosaic
open Idealize.ShloMosaic.ValueIdx
open Idealize.SL.Sem

variable {F : FTy → Type} [FloatOps F]

/-! ## Reading through a view what was written through a part of it -/

section Sub
variable {sig : RefSig} {κ : Kind} {sp : Space} {s s' : Shape} {e : EltTy} {Val : EltTy → Type} (v : View sig κ sp s e) (r : Rect s)

theorem read_sub_at (f : v.ty.Contents Val) (w : r.shape.Idx → Val e) (y : r.shape.Idx) {x : s.Idx} (hx : r.emb y = x) :
    v.read Val ((v.slice r).write Val f w Finset.univ) x = w y := by
  subst hx
  exact congrFun (View.read_write_univ (v := v.slice r) f w) y
theorem read_sub_off (f : v.ty.Contents Val) (w : r.shape.Idx → Val e) {x : s.Idx} (hx : ∀ y, r.emb y ≠ x) :
    v.read Val ((v.slice r).write Val f w Finset.univ) x = v.read Val f x := by
  refine View.read_congr_at (v := v) x (write_off (v.slice r) f w fun y hy => hx y ?_)
  exact v.emb.injective hy
theorem read_squ_at (h : s'.numel = r.shape.numel) (f : v.ty.Contents Val) (w : s'.Idx → Val e) (y : s'.Idx) {x : s.Idx} (hx : r.emb (Shape.reshapeEquiv h y) = x) :
    v.read Val (((v.slice r).reshape s' h).write Val f w Finset.univ) x = w y := by
  subst hx
  exact congrFun (View.read_write_univ (v := (v.slice r).reshape s' h) f w) y
theorem read_squ_off (h : s'.numel = r.shape.numel) (f : v.ty.Contents Val) (w : s'.Idx → Val e) {x : s.Idx} (hx : ∀ y, r.emb (Shape.reshapeEquiv h y) ≠ x) :
    v.read Val (((v.slice r).reshape s' h).write Val f w Finset.univ) x = v.read Val f x := by
  refine View.read_congr_at (v := v) x (write_off ((v.slice r).reshape s' h) f w fun y hy => hx y ?_)
  exact v.emb.injective hy
end Sub

variable (i : grid0.Coords)

/-- The tile's first row of an array of 512 rows, -/
abbrev b16 : ℕ := 32 * (i 1).val + 16 * (i 0).val
/-- and its first of the 2048 atoms. -/
abbrev b64 : ℕ := 128 * (i 1).val + 64 * (i 0).val
theorem b16_le : b16 i + 16 ≤ 512 := by
  have h0 : (i 0).val < 2 := (i 0).isLt
  have h1 : (i 1).val < 16 := (i 1).isLt
  unfold b16; omega
theorem b64_le : b64 i + 64 ≤ 2048 := by
  have h0 : (i 0).val < 2 := (i 0).isLt
  have h1 : (i 1).val < 16 := (i 1).isLt
  unfold b64; omega

/-! ## The places -/

abbrev rG (g : Fin 8) : Rect S512x2048 := Rect.unit (s := S512x2048) (k0_off2 i (BitVec.ofNat 32 (2 * g.val))) S2x2048.size (k0_off2_inb i g)
theorem rG_emb (g : Fin 8) (y : S2x2048.Idx) :
    ((rG i g).emb y 0).val = b16 i + 2 * g.val + (y 0).val ∧ ((rG i g).emb y 1).val = (y 1).val := by
  refine ⟨emb_unit (s := S512x2048) (size := S2x2048.size) (inb := k0_off2_inb i g) (k0_off2_eq i g) y 0, ?_⟩
  refine (emb_unit (s := S512x2048) (size := S2x2048.size) (inb := k0_off2_inb i g) (k0_off2_eq i g) y 1).trans ?_
  show 0 + (y 1).val = _; omega

abbrev rH (h : ℕ) (hh : h < 8) (g : Fin 8) : Rect S8x512x2048 :=
  Rect.unit (s := S8x512x2048) (offH i h (BitVec.ofNat 32 (2 * g.val))) S1x2x2048.size (offH_inb i h hh g)
theorem squ2 (y : S2x2048.Idx) : Shape.reshapeEquiv squeezes_S1x2x2048_S2x2048.numel_eq y = ix3 (0 : Fin 1) (y 0) (y 1) := by
  have e : y = ix2 (y 0) (y 1) := ext2 rfl rfl
  exact (congrArg _ e).trans (ValueIdx.reshapeEquiv_ix2_1ab (a := 2) (b := 2048) _ (y 0) (y 1))
theorem rH_emb (h : ℕ) (hh : h < 8) (g : Fin 8) (y : S2x2048.Idx) :
    ((rH i h hh g).emb (Shape.reshapeEquiv squeezes_S1x2x2048_S2x2048.numel_eq y) 0).val = h
      ∧ ((rH i h hh g).emb (Shape.reshapeEquiv squeezes_S1x2x2048_S2x2048.numel_eq y) 1).val = b16 i + 2 * g.val + (y 0).val
      ∧ ((rH i h hh g).emb (Shape.reshapeEquiv squeezes_S1x2x2048_S2x2048.numel_eq y) 2).val = (y 1).val := by
  rw [squ2 y]
  refine ⟨?_, ?_, ?_⟩
  · exact (emb_unit (s := S8x512x2048) (size := S1x2x2048.size) (inb := offH_inb i h hh g) (offH_eq i h g) (ix3 (0 : Fin 1) (y 0) (y 1)) 0)
  · exact (emb_unit (s := S8x512x2048) (size := S1x2x2048.size) (inb := offH_inb i h hh g) (offH_eq i h g) (ix3 (0 : Fin 1) (y 0) (y 1)) 1)
  · refine (emb_unit (s := S8x512x2048) (size := S1x2x2048.size) (inb := offH_inb i h hh g) (offH_eq i h g) (ix3 (0 : Fin 1) (y 0) (y 1)) 2).trans ?_
    show 0 + (y 1).val = _; omega

abbrev rB (h : ℕ) (hh : h < 8) : Rect S8x2x2048 := Rect.unit (s := S8x2x2048) ![h, 0, 0] S1x2x2048.size (h2_inb h hh)
theorem rB_emb (h : ℕ) (hh : h < 8) (y : S2x2048.Idx) : (rB h hh).emb (Shape.reshapeEquiv squeezes_S1x2x2048_S2x2048.numel_eq y) = ix3 (⟨h, hh⟩ : Fin 8) (y 0) (y 1) := by
  rw [squ2 y]
  refine ext3 ?_ ?_ ?_
  · exact (emb_unit (s := S8x2x2048) (size := S1x2x2048.size) (inb := h2_inb h hh) rfl (ix3 (0 : Fin 1) (y 0) (y 1)) 0)
  · refine (emb_unit (s := S8x2x2048) (size := S1x2x2048.size) (inb := h2_inb h hh) rfl (ix3 (0 : Fin 1) (y 0) (y 1)) 1).trans ?_
    show 0 + (y 0).val = _; exact Nat.zero_add _
  · refine (emb_unit (s := S8x2x2048) (size := S1x2x2048.size) (inb := h2_inb h hh) rfl (ix3 (0 : Fin 1) (y 0) (y 1)) 2).trans ?_
    show 0 + (y 1).val = _; exact Nat.zero_add _

abbrev rK (h : ℕ) (hh : h < 8) : Rect S8x2048x2x128 := Rect.unit (s := S8x2048x2x128) (offK i h) S1x64x2x128.size (offK_inb i h hh)
theorem squ3 (y : S64x2x128.Idx) : Shape.reshapeEquiv squeezes_S1x64x2x128_S64x2x128.numel_eq y = ix4 (0 : Fin 1) (y 0) (y 1) (y 2) := by
  have e : y = ix3 (y 0) (y 1) (y 2) := ext3 rfl rfl rfl
  exact (congrArg _ e).trans (ValueIdx.reshapeEquiv_ix3_1abc (a := 64) (b := 2) (c := 128) _ (y 0) (y 1) (y 2))
theorem rK_emb (h : ℕ) (hh : h < 8) (y : S64x2x128.Idx) :
    ((rK i h hh).emb (Shape.reshapeEquiv squeezes_S1x64x2x128_S64x2x128.numel_eq y) 0).val = h
      ∧ ((rK i h hh).emb (Shape.reshapeEquiv squeezes_S1x64x2x128_S64x2x128.numel_eq y) 1).val = b64 i + (y 0).val
      ∧ ((rK i h hh).emb (Shape.reshapeEquiv squeezes_S1x64x2x128_S64x2x128.numel_eq y) 2).val = (y 1).val
      ∧ ((rK i h hh).emb (Shape.reshapeEquiv squeezes_S1x64x2x128_S64x2x128.numel_eq y) 3).val = (y 2).val := by
  rw [squ3 y]
  refine ⟨?_, ?_, ?_, ?_⟩
  · exact (emb_unit (s := S8x2048x2x128) (size := S1x64x2x128.size) (inb := offK_inb i h hh) (offK_eq i h) (ix4 (0 : Fin 1) (y 0) (y 1) (y 2)) 0)
  · exact (emb_unit (s := S8x2048x2x128) (size := S1x64x2x128.size) (inb := offK_inb i h hh) (offK_eq i h) (ix4 (0 : Fin 1) (y 0) (y 1) (y 2)) 1)
  · refine (emb_unit (s := S8x2048x2x128) (size := S1x64x2x128.size) (inb := offK_inb i h hh) (offK_eq i h) (ix4 (0 : Fin 1) (y 0) (y 1) (y 2)) 2).trans ?_
    show 0 + (y 1).val = _; exact Nat.zero_add _
  · refine (emb_unit (s := S8x2048x2x128) (size := S1x64x2x128.size) (inb := offK_inb i h hh) (offK_eq i h) (ix4 (0 : Fin 1) (y 0) (y 1) (y 2)) 3).trans ?_
    show 0 + (y 2).val = _; exact Nat.zero_add _

abbrev rR (h : ℕ) (hh : h < 8) : Rect S8x64 := Rect.unit (s := S8x64) ![h, 0] S1x64.size (hrow_inb h hh)
theorem rR_emb (h : ℕ) (hh : h < 8) (y : S64.Idx) : (rR h hh).emb (Shape.reshapeEquiv squeezes_S1x64_S64.numel_eq y) = ix2 (⟨h, hh⟩ : Fin 8) (y 0) := by
  have e : Shape.reshapeEquiv squeezes_S1x64_S64.numel_eq y = ix2 (0 : Fin 1) (y 0) := Shape.reshapeEquiv_eq_of_rowMajor _ (by
    refine (Shape.rowMajor_val_two (ix2 (0 : Fin 1) (y 0))).trans (Eq.trans ?_ (Shape.rowMajor_val_one y).symm)
    show 0 * 64 + (y 0).val = (y 0).val
    omega)
  rw [e]
  refine ext2 ?_ ?_
  · exact (emb_unit (s := S8x64) (size := S1x64.size) (inb := hrow_inb h hh) rfl (ix2 (0 : Fin 1) (y 0)) 0)
  · refine (emb_unit (s := S8x64) (size := S1x64.size) (inb := hrow_inb h hh) rfl (ix2 (0 : Fin 1) (y 0)) 1).trans ?_
    show 0 + (y 0).val = _; exact Nat.zero_add _

/-! ## The heads' row lists -/

/-- The first `n` chunks of the eight lists: atom `j`'s row of head `h`. -/
def HID (fA : S2048.Idx → Elt F .i32) (b n : ℕ) (f : S8x64.Idx → Elt F .i32) : Prop :=
  ∀ x : S8x64.Idx, 64 * (x 0).val + (x 1).val < 16 * n → f x = IntOp.addi (fA (at1 (b + (x 1).val))) (BitVec.ofNat 32 (512 * (x 0).val))

abbrev rC (h c : ℕ) (hh : h < 8) (hc : c < 4) : Rect S8x64 := Rect.unit (s := S8x64) ![h, 16 * c] S1x16.size (hid_inb h c hh hc)

theorem HID_step {fA : S2048.Idx → Elt F .i32} {b h c : ℕ} {hh : h < 8} {hc : c < 4} {fa : S64.Idx → Elt F .i32} {f : S8x64.Idx → Elt F .i32}
    (ha : ∀ j : S64.Idx, fa j = fA (at1 (b + (j 0).val))) (hf : HID fA b (4 * h + c) f) :
    HID fA b (4 * h + c + 1) ((hidB.access (rC h c hh hc)).write (Elt F) f
      (shapeCast S1x16 (addi ((aiB.access (Rect.unit (s := S64) ![16 * c] S16.size (ai_inb c hc))).read (Elt F) fa : Vec F S16 .i32)
        (broadcast S16 (BitVec.ofNat 32 (512 * h))) : IVec S16 32) shapeCasts_S16_S1x16) Finset.univ) := by
  intro x hx
  have hx1 : (x 1).val < 64 := (x 1).isLt
  have hemb : ∀ y : S1x16.Idx, ((rC h c hh hc).emb y 0).val = h ∧ ((rC h c hh hc).emb y 1).val = 16 * c + (y 1).val := by
    intro y
    have h0 : (y 0).val < 1 := (y 0).isLt
    constructor
    · refine (emb_unit (s := S8x64) (size := S1x16.size) (inb := hid_inb h c hh hc) rfl y 0).trans ?_
      show h + (y 0).val = h; omega
    · exact emb_unit (s := S8x64) (size := S1x16.size) (inb := hid_inb h c hh hc) rfl y 1
  by_cases hm : (x 0).val = h ∧ 16 * c ≤ (x 1).val ∧ (x 1).val < 16 * c + 16
  · have hlt : (x 1).val - 16 * c < 16 := by omega
    obtain ⟨e0, e1⟩ := hemb (ix2 (0 : Fin 1) (⟨(x 1).val - 16 * c, hlt⟩ : Fin 16))
    have hy : (rC h c hh hc).emb (ix2 (0 : Fin 1) (⟨(x 1).val - 16 * c, hlt⟩ : Fin 16)) = x := by
      refine ext2 (e0.trans hm.1.symm) (e1.trans ?_)
      show 16 * c + ((x 1).val - 16 * c) = (x 1).val
      omega
    refine (read_sub_at (Val := Elt F) hidB.view (rC h c hh hc) f _ _ hy).trans ?_
    rw [shapeCast_apply (s := S16) (t := S1x16) _ _ _ (ix1 (⟨(x 1).val - 16 * c, hlt⟩ : Fin 16)) (by
      rw [Shape.rowMajor_val_two, Shape.rowMajor_val_one]
      show (x 1).val - 16 * c = 0 * 16 + ((x 1).val - 16 * c)
      omega)]
    show IntOp.addi (fa ((Rect.unit (s := S64) ![16 * c] S16.size (ai_inb c hc)).emb (ix1 (⟨(x 1).val - 16 * c, hlt⟩ : Fin 16)))) (BitVec.ofNat 32 (512 * h)) = _
    have e : (((Rect.unit (s := S64) ![16 * c] S16.size (ai_inb c hc)).emb (ix1 (⟨(x 1).val - 16 * c, hlt⟩ : Fin 16))) 0).val = (x 1).val := by
      refine (emb_unit (s := S64) (size := S16.size) (inb := ai_inb c hc) rfl (ix1 (⟨(x 1).val - 16 * c, hlt⟩ : Fin 16)) 0).trans ?_
      show 16 * c + ((x 1).val - 16 * c) = (x 1).val
      omega
    rw [ha, e, hm.1]
  · refine (read_sub_off (Val := Elt F) hidB.view (rC h c hh hc) f _ (x := x) fun y hy => hm ?_).trans (hf x (by omega))
    obtain ⟨e0, e1⟩ := hemb y
    have hy1 : (y 1).val < 16 := (y 1).isLt
    rw [hy] at e0 e1; omega

/-! ## The gathered rows -/

/-- The rows of head `h` for the tile's 64 atoms. -/
def GR (tv : S4096x2x128.Idx → Elt F .f32) (fA : S2048.Idx → Elt F .i32) (b h : ℕ) (f : S64x2x128.Idx → Elt F .f32) : Prop :=
  ∀ x : S64x2x128.Idx, f x = tv (atT ((fA (at1 (b + (x 0).val))).toNat + 512 * h) (x 1) (x 2))

theorem hid_toNat {a : BitVec 32} (ha : a.toNat < 512) {h : ℕ} (hh : h < 8) : (IntOp.addi a (BitVec.ofNat 32 (512 * h))).toNat = a.toNat + 512 * h := by
  show (a + BitVec.ofNat 32 (512 * h)).toNat = _
  rw [BitVec.toNat_add, BitVec.toNat_ofNat]; omega

theorem hrow_read {fA : S2048.Idx → Elt F .i32} {b : ℕ} {fh : S8x64.Idx → Elt F .i32} (hf : HID fA b 32 fh) (h : ℕ) (hh : h < 8) (y : S64.Idx) :
    (hrow h hh).view.read (Elt F) fh y = IntOp.addi (fA (at1 (b + (y 0).val))) (BitVec.ofNat 32 (512 * h)) := by
  have hy : (y 0).val < 64 := (y 0).isLt
  show fh ((rR h hh).emb (Shape.reshapeEquiv squeezes_S1x64_S64.numel_eq y)) = _
  rw [rR_emb]
  exact hf (ix2 (⟨h, hh⟩ : Fin 8) (y 0)) (by show 64 * h + (y 0).val < 16 * 32; omega)

theorem hrow_lt {fA : S2048.Idx → Elt F .i32} (hA : ∀ x, (fA x).toNat < 512) {b : ℕ} {fh : S8x64.Idx → Elt F .i32} (hf : HID fA b 32 fh) (h : ℕ) (hh : h < 8) :
    ∀ y, ((hrow h hh).view.read (Elt F) fh y).toNat < S4096x2x128.size gathers_S4096x2x128_S64x2x128.axis := by
  intro y
  rw [hrow_read hf, hid_toNat (hA _) hh]
  have := hA (at1 (b + (y 0).val))
  show _ < 4096; omega

/-- The gather's rows are the head's. -/
theorem GR_gather {tv : S4096x2x128.Idx → Elt F .f32} {fA : S2048.Idx → Elt F .i32} (hA : ∀ x, (fA x).toNat < 512) {b : ℕ} {fh : S8x64.Idx → Elt F .i32} (hf : HID fA b 32 fh) (h : ℕ) (hh : h < 8)
    (hn) (hin) : GR tv fA b h (SparseCore.gatherPayload (F := F) (e := .f32) gathers_S4096x2x128_S64x2x128 tv (SparseCore.rows (si := S64) ((hrow h hh).view.read (Elt F) fh) hn hin)) := by
  intro x
  show tv _ = tv _
  refine congrArg tv (ext3 ?_ ?_ ?_)
  · refine (congrArg Fin.val (Shape.Gathers.idx_axis gathers_S4096x2x128_S64x2x128 _ x)).trans ?_
    have e : ∀ k : Fin 64, ((S64.rowMajor.symm (k.cast hn.symm)) 0).val = k.val := by
      intro k
      have := Shape.rowMajor_val_one (S64.rowMajor.symm (k.cast hn.symm))
      rw [Equiv.apply_symm_apply] at this
      exact this.symm
    show ((hrow h hh).view.read (Elt F) fh (S64.rowMajor.symm ((x 0).cast hn.symm))).toNat = _ % 4096
    rw [hrow_read hf, hid_toNat (hA _) hh, e (x 0)]
    have := hA (at1 (b + (x 0).val))
    exact (Nat.mod_eq_of_lt (by omega)).symm
  · exact Shape.Gathers.idx_of_ne gathers_S4096x2x128_S64x2x128 _ x 1 (by decide)
  · exact Shape.Gathers.idx_of_ne gathers_S4096x2x128_S64x2x128 _ x 2 (by decide)

/-! ## The outputs -/

/-- The tile's rows of the heads before `n`. -/
def KO (tv : S4096x2x128.Idx → Elt F .f32) (fA : S2048.Idx → Elt F .i32) (n : ℕ) (f : S8x2048x2x128.Idx → Elt F .f32) : Prop :=
  ∀ x : S8x2048x2x128.Idx, b64 i ≤ (x 1).val → (x 1).val < b64 i + 64 → (x 0).val < n → f x = tv (atT ((fA (at1 (x 1).val)).toNat + 512 * (x 0).val) (x 2) (x 3))
/-- The first `n` of the tile's rows of the envelope. -/
def EO (fE : S2048.Idx → Elt F .f32) (fM : S512x2048.Idx → Elt F .i32) (n : ℕ) (f : S512x2048.Idx → Elt F .f32) : Prop :=
  ∀ x : S512x2048.Idx, b16 i ≤ (x 0).val → (x 0).val < b16 i + n → f x = fE (at1 (fM x).toNat)
/-- The first `n` of the tile's rows of every head's bias, and the next two of the heads before `h`. -/
def BO (fB : Fin 8 → S2048.Idx → Elt F .f32) (fM : S512x2048.Idx → Elt F .i32) (n h : ℕ) (f : S8x512x2048.Idx → Elt F .f32) : Prop :=
  ∀ x : S8x512x2048.Idx, b16 i ≤ (x 1).val → ((x 1).val < b16 i + n ∨ (x 0).val < h ∧ (x 1).val < b16 i + n + 2) →
    f x = fB (x 0) (at1 (fM (ix2 (x 1) (x 2))).toNat)
/-- The index buffer, holding the rows of group `g`. -/
def IX (fM : S512x2048.Idx → Elt F .i32) (g : ℕ) (f : S2x2048.Idx → Elt F .i32) : Prop :=
  ∀ (y : S2x2048.Idx) (x : S512x2048.Idx), (x 0).val = b16 i + 2 * g + (y 0).val → (x 1).val = (y 1).val → f y = fM x

omit [FloatOps F] in
theorem BO_next {fB : Fin 8 → S2048.Idx → Elt F .f32} {fM : S512x2048.Idx → Elt F .i32} {n : ℕ} {f : S8x512x2048.Idx → Elt F .f32}
    (hf : BO i fB fM n 8 f) : BO i fB fM (n + 2) 0 f := fun x h1 hx => hf x h1 (by
  have h0 : (x 0).val < 8 := (x 0).isLt
  omega)

theorem IX_read (fM : S512x2048.Idx → Elt F .i32) (g : Fin 8) : IX i fM g.val ((g2 i emtM g).view.read (Elt F) fM) := by
  intro y x h0 h1
  obtain ⟨e0, e1⟩ := rG_emb i g y
  show fM ((rG i g).emb y) = fM x
  exact congrArg fM (ext2 (e0.trans h0.symm) (e1.trans h1.symm))

theorem EO_step {fE : S2048.Idx → Elt F .f32} {fM : S512x2048.Idx → Elt F .i32} {g : Fin 8} {fI : S2x2048.Idx → Elt F .i32} (hI : IX i fM g.val fI)
    {fe : S2x2048.Idx → Elt F .f32} (he : EB fE fI 2 0 fe) {f : S512x2048.Idx → Elt F .f32} (hf : EO i fE fM (2 * g.val) f) :
    EO i fE fM (2 * g.val + 2) ((g2 i envO g).view.write (Elt F) f fe Finset.univ) := by
  intro x hx0 hx1
  by_cases hm : b16 i + 2 * g.val ≤ (x 0).val
  · have hlt : (x 0).val - (b16 i + 2 * g.val) < 2 := by omega
    have h1 : (x 1).val < 2048 := (x 1).isLt
    obtain ⟨e0, e1⟩ := rG_emb i g (ix2 (⟨(x 0).val - (b16 i + 2 * g.val), hlt⟩ : Fin 2) (⟨(x 1).val, h1⟩ : Fin 2048))
    have hc : (x 0).val = b16 i + 2 * g.val + ((x 0).val - (b16 i + 2 * g.val)) := by omega
    have hy : (rG i g).emb (ix2 (⟨(x 0).val - (b16 i + 2 * g.val), hlt⟩ : Fin 2) (⟨(x 1).val, h1⟩ : Fin 2048)) = x :=
      ext2 (e0.trans hc.symm) e1
    have e2 := read_sub_at (Val := Elt F) envO.view (rG i g) f fe (ix2 (⟨(x 0).val - (b16 i + 2 * g.val), hlt⟩ : Fin 2) (⟨(x 1).val, h1⟩ : Fin 2048)) hy
    have e := he (ix2 (⟨(x 0).val - (b16 i + 2 * g.val), hlt⟩ : Fin 2) (⟨(x 1).val, h1⟩ : Fin 2048)) (.inl hlt)
    refine (congrFun (View.read_whole (Val := Elt F) main_v11_0_scv _).symm x).trans (e2.trans (e.trans ?_))
    exact congrArg (fun z : BitVec 32 => fE (at1 z.toNat)) (hI (ix2 (⟨(x 0).val - (b16 i + 2 * g.val), hlt⟩ : Fin 2) (⟨(x 1).val, h1⟩ : Fin 2048)) x hc rfl)
  · refine (congrFun (View.read_whole (Val := Elt F) main_v11_0_scv _).symm x).trans
      ((read_sub_off (Val := Elt F) envO.view (rG i g) f fe (x := x) fun y hy => hm ?_).trans (hf x hx0 (by omega)))
    obtain ⟨e0, e1⟩ := rG_emb i g y
    rw [hy] at e0; omega

theorem BO_step {fB : Fin 8 → S2048.Idx → Elt F .f32} {fM : S512x2048.Idx → Elt F .i32} {g : Fin 8} {fI : S2x2048.Idx → Elt F .i32} (hI : IX i fM g.val fI)
    {fb : S8x2x2048.Idx → Elt F .f32} (hb : BB fB fI 2 0 0 fb) {h : ℕ} {hh : h < 8} {f : S8x512x2048.Idx → Elt F .f32} (hf : BO i fB fM (2 * g.val) h f) :
    BO i fB fM (2 * g.val) (h + 1) ((bOut i h hh g).view.write (Elt F) f ((bRows h hh).view.read (Elt F) fb) Finset.univ) := by
  intro x hx1 hx
  by_cases hm : (x 0).val = h ∧ b16 i + 2 * g.val ≤ (x 1).val ∧ (x 1).val < b16 i + 2 * g.val + 2
  · have hlt : (x 1).val - (b16 i + 2 * g.val) < 2 := by omega
    have h2 : (x 2).val < 2048 := (x 2).isLt
    obtain ⟨e0, e1, e2⟩ := rH_emb i h hh g (ix2 (⟨(x 1).val - (b16 i + 2 * g.val), hlt⟩ : Fin 2) (⟨(x 2).val, h2⟩ : Fin 2048))
    have hc : (x 1).val = b16 i + 2 * g.val + ((x 1).val - (b16 i + 2 * g.val)) := by omega
    refine (read_squ_at (Val := Elt F) biasO.view (rH i h hh g) squeezes_S1x2x2048_S2x2048.numel_eq f _ _ (ext3 (e0.trans hm.1.symm) (e1.trans hc.symm) e2)).trans ?_
    show fb ((rB h hh).emb (Shape.reshapeEquiv squeezes_S1x2x2048_S2x2048.numel_eq (ix2 (⟨(x 1).val - (b16 i + 2 * g.val), hlt⟩ : Fin 2) (⟨(x 2).val, h2⟩ : Fin 2048)))) = _
    refine (congrArg fb (rB_emb h hh _)).trans ((hb (ix3 (⟨h, hh⟩ : Fin 8) (⟨(x 1).val - (b16 i + 2 * g.val), hlt⟩ : Fin 2) (⟨(x 2).val, h2⟩ : Fin 2048)) (.inl hlt)).trans ?_)
    show fB ⟨h, hh⟩ (at1 (fI (ix2 (⟨(x 1).val - (b16 i + 2 * g.val), hlt⟩ : Fin 2) (⟨(x 2).val, h2⟩ : Fin 2048))).toNat) = _
    rw [hI (ix2 (⟨(x 1).val - (b16 i + 2 * g.val), hlt⟩ : Fin 2) (⟨(x 2).val, h2⟩ : Fin 2048)) (ix2 (x 1) (x 2)) hc rfl, show (⟨h, hh⟩ : Fin 8) = x 0 from Fin.ext hm.1.symm]
  · refine (read_squ_off (Val := Elt F) biasO.view (rH i h hh g) squeezes_S1x2x2048_S2x2048.numel_eq f _ (x := x) fun y hy => hm ?_).trans (hf x hx1 (by omega))
    obtain ⟨e0, e1, e2⟩ := rH_emb i h hh g y
    have hy0 : (y 0).val < 2 := (y 0).isLt
    rw [hy] at e0 e1; omega

theorem KO_step (o : Memref sig .scVector .hbm S8x2048x2x128 .f32) {tv : S4096x2x128.Idx → Elt F .f32} {fA : S2048.Idx → Elt F .i32} {h : ℕ} {hh : h < 8}
    {w : S64x2x128.Idx → Elt F .f32} (hw : GR tv fA (b64 i) h w) {f : o.view.ty.Contents (Elt F)} (hf : KO i tv fA h (o.view.read (Elt F) f)) :
    KO i tv fA (h + 1) (o.view.read (Elt F) ((kRows i o h hh).view.write (Elt F) f w Finset.univ)) := by
  intro x hx0 hx1 hx
  by_cases hm : (x 0).val = h
  · have hlt : (x 1).val - b64 i < 64 := by omega
    obtain ⟨e0, e1, e2, e3⟩ := rK_emb i h hh (ix3 (⟨(x 1).val - b64 i, hlt⟩ : Fin 64) (⟨(x 2).val, (x 2).isLt⟩ : Fin 2) (⟨(x 3).val, (x 3).isLt⟩ : Fin 128))
    have hc : b64 i + ((x 1).val - b64 i) = (x 1).val := by omega
    refine (read_squ_at (Val := Elt F) o.view (rK i h hh) squeezes_S1x64x2x128_S64x2x128.numel_eq f _ _ (ext4 (e0.trans hm.symm) (e1.trans hc) e2 e3)).trans ?_
    rw [hw]
    show tv (atT ((fA (at1 (b64 i + ((x 1).val - b64 i)))).toNat + 512 * h) (x 2) (x 3)) = _
    rw [hc, hm]
  · refine (read_squ_off (Val := Elt F) o.view (rK i h hh) squeezes_S1x64x2x128_S64x2x128.numel_eq f _ (x := x) fun y hy => hm ?_).trans (hf x hx0 hx1 (by omega))
    obtain ⟨e0, e1, e2, e3⟩ := rK_emb i h hh y
    rw [hy] at e0; omega

end Cert.Proof.KRun
end
-- ==== Proof.KWp.lean ====
/-
  The setting of one vector subcore of the launch, and how each piece of its body runs: a copy with its wait, an indirect
  gather from its start to its wait, a row block on its way out.
-/
module

public import proofs.«01_k».proof.Proof.KPure2
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]
variable (d : Dev nD) (i : grid0.Coords)

abbrev cV (i : grid0.Coords) : Fin τ.nSC := (i 0).castLE hcore0
abbrev jV (i : grid0.Coords) : Fin τ.nSub := (i 1).castLE hsub0
/-- The thread of the tile. -/
abbrev TH (d : Dev nD) (i : grid0.Coords) : Thread nD τ := V d (cV i) (jV i)
abbrev WP (k : PR (F := F) i) (Q : PUnit → sProp 𝕄) : sProp 𝕄 := wp frame (wpE (defs₀ (F := F)) 𝒱₀ (TH d i) none) Set.univ k Q

abbrev ι₀ : HIx 1 := default
abbrev cell (s : DmaSem sig) : GSem nD τ sig := (TH d i, .dma s)
/-- The cells of the copies that wait for themselves: the tile's own but the gathers' four. -/
abbrev TT : Finset (GSem nD τ sig) := ((((ownCells (TH d i)).erase (cell d i gK)).erase (cell d i gV)).erase (cell d i oK)).erase (cell d i oV)

omit [FloatOps F] in
theorem sm_scoped : ∀ n : Fin 90, (SemLoc.dma (sm n.val n.isLt) : SemLoc sig).isScoped .scVector = true := by decide +kernel
omit [FloatOps F] in
theorem sm_ne : ∀ n : Fin 90, sm n.val n.isLt ≠ gK ∧ sm n.val n.isLt ≠ gV ∧ sm n.val n.isLt ≠ oK ∧ sm n.val n.isLt ≠ oV := by decide +kernel

omit [FloatOps F] in
theorem cell_ne {s t : DmaSem sig} (h : s ≠ t) : cell d i s ≠ cell d i t := fun e => h (SemLoc.dma.inj (Prod.mk.inj e).2)
omit [FloatOps F] in
theorem sm_mem (n : ℕ) (h : n < 90) : cell d i (sm n h) ∈ TT d i := by
  obtain ⟨h1, h2, h3, h4⟩ := sm_ne ⟨n, h⟩
  exact Finset.mem_erase.mpr ⟨cell_ne d i h4, Finset.mem_erase.mpr ⟨cell_ne d i h3, Finset.mem_erase.mpr ⟨cell_ne d i h2, Finset.mem_erase.mpr ⟨cell_ne d i h1,
    mem_ownCells.mpr ⟨rfl, sm_scoped ⟨n, h⟩⟩⟩⟩⟩⟩

/-- What the tile waits by: it may wait; what it owes, no wait of the handshakes' added. -/
def TW (O : CellTallies nD τ sig (HIx 1)) (W : Waits sig (HIx 1)) : sProp 𝕄 :=
  iprop(Transfers.MayWaits (TH d i) ι₀ O ∗ ∃ W', ⌜∀ p ∈ W', p ∈ W ∨ p.2 = none⌝ ∗ owes (TH d i) O W')
/-- What the tile runs by: that, and its copies' cells at zero. -/
def TS (O : CellTallies nD τ sig (HIx 1)) (W : Waits sig (HIx 1)) : sProp 𝕄 :=
  iprop(TW d i O W ∗ bigSep (TT d i) fun g => semVal g 0)

variable {O : CellTallies nD τ sig (HIx 1)} {W : Waits sig (HIx 1)}

/-- A wait for a flight on `sem`. -/
theorem wp_wait {sp sp' : Space} {s s' : Shape} {e e' : EltTy} {sem : DmaSem sig} {srcw : Memref sig .scVector sp' s' e'} {dstw : Memref sig .scVector sp s e}
    {hsrc : srcw.view.WordExact} {hdst : dstw.view.WordExact} {k : PR (F := F) i} {N : ℕ} (hN : dstw.view.dmaCredit = N) {Dl : sProp 𝕄} {Q : PUnit → sProp 𝕄} :
    iprop(Transfers.Flight countersEmb (TH d i) (.dma sem) ι₀ N Dl ∗ TW d i O W)
      ⊢ iprop((iprop(Dl ∗ semVal (cell d i sem) 0 ∗ TW d i O W) -∗ WP d i k Q)
          -∗ WP d i (Prog.lift (.waitDma2 sem srcw dstw hsrc hdst) >>= fun _ => k) Q) := by
  unfold TW
  iintro ⟨Hfl, #Hmw, %W', %hW, HO⟩ Hk
  iapply (Transfers.wp_waitLocalO countersEmb 𝒱₀ (TH d i) none ι₀ hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  isplitr; · iexact Hmw
  iexists _; isplitr
  swap; · iexact HO
  ipureintro; intro p hp
  rcases Finset.mem_insert.mp hp with hp | hp; · exact .inr (hp ▸ rfl)
  exact hW p hp

/-- A copy and its wait: the part of `dst` is what was read of `src`. -/
theorem wp_copy {sp sp' : Space} {s : Shape} {e : EltTy} {src : Memref sig .scVector sp s e} {dst : Memref sig .scVector sp' s e} {n : ℕ} {hn : n < 90}
    {hs : src.view.WordExact} {hd : dst.view.WordExact} {hT} {k : PR (F := F) i} {Q : PUnit → sProp 𝕄} {q : PosShare TreeShare}
    {Ss : Finset (Idx (src.view.loc (TH d i)))} {Sd : Finset (Idx (dst.view.loc (TH d i)))} {fs : Buf (Elt F) (src.view.loc (TH d i))} {fd : Buf (Elt F) (dst.view.loc (TH d i))}
    (h0 : 0 < s.numel) (hSs : src.view.set ⊆ Ss) (hSd : dst.view.set ⊆ Sd) :
    iprop(TS d i O W ∗ (src.view.loc (TH d i) ↦[Ss]{q} fs) ∗ (dst.view.loc (TH d i) ↦[Sd]{fullShare} fd))
      ⊢ iprop((iprop(TS d i O W ∗ (src.view.loc (TH d i) ↦[Ss]{q} fs) ∗ (dst.view.loc (TH d i) ↦[Sd]{fullShare} dst.view.write (Elt F) fd (src.view.read (Elt F) fs) Finset.univ)) -∗ WP d i k Q)
          -∗ WP d i (copy i src dst (sm n hn) hs hd hT k) Q) := by
  iintro ⟨HT, Hs, Hd⟩ Hk
  unfold TS
  icases HT with ⟨HW, Hsems⟩
  ihave Hsems' := (Entails.of_eq (SparseCore.bigSep_erase' (Φ := fun g => (semVal g 0 : sProp 𝕄)) (sm_mem d i n hn))) $$ Hsems
  icases Hsems' with ⟨Hsem, Hsems⟩
  ihave Hs' := (pointsTo_split_subset (q := q) (f := fs) hSs).1 $$ Hs
  icases Hs' with ⟨Hs, Hsr⟩
  unfold copy
  iapply (Transfers.wp_dmaLocal countersEmb 𝒱₀ (TH d i) none ι₀ dst.view.dmaCredit rfl (View.dmaCredit_pos _ h0) hSd) $$ [Hs Hd Hsem]
  · isplitl [Hs]; · iexact Hs
    isplitl [Hd]; · iexact Hd
    iexact Hsem
  iintro Hfl
  iapply (wp_wait d i (O := O) (W := W) (k := k) rfl) $$ [Hfl HW]
  · isplitl [Hfl]; · iexact Hfl
    iexact HW
  iintro ⟨⟨Hd, Hs⟩, Hsem, HW⟩
  iapply Hk
  isplitl [HW Hsem Hsems]
  · isplitl [HW]; · iexact HW
    iapply (Entails.of_eq (SparseCore.bigSep_erase' (Φ := fun g => (semVal g 0 : sProp 𝕄)) (sm_mem d i n hn)).symm)
    isplitl [Hsem]; · iexact Hsem
    iexact Hsems
  isplitl [Hs Hsr]
  · iapply (pointsTo_split_subset (q := q) (f := fs) hSs).2
    isplitl [Hs]; · iexact Hs
    iexact Hsr
  iexact Hd

/-! ## A transfer outstanding between other pieces -/

/-- A transfer on `sem` whose end gives `Dl`. -/
def PEND (sem : DmaSem sig) (N : ℕ) (Dl : sProp 𝕄) : sProp 𝕄 := iprop(∃ D0, Transfers.Flight countersEmb (TH d i) (.dma sem) ι₀ N D0 ∗ (D0 -∗ Dl))

theorem wp_pend {sp sp' : Space} {s s' : Shape} {e e' : EltTy} {sem : DmaSem sig} {srcw : Memref sig .scVector sp' s' e'} {dstw : Memref sig .scVector sp s e}
    {hsrc : srcw.view.WordExact} {hdst : dstw.view.WordExact} {k : PR (F := F) i} {N : ℕ} (hN : dstw.view.dmaCredit = N) {Dl : sProp 𝕄} {Q : PUnit → sProp 𝕄} :
    iprop(PEND d i sem N Dl ∗ TS d i O W)
      ⊢ iprop((iprop(Dl ∗ semVal (cell d i sem) 0 ∗ TS d i O W) -∗ WP d i k Q)
          -∗ WP d i (Prog.lift (.waitDma2 sem srcw dstw hsrc hdst) >>= fun _ => k) Q) := by
  unfold PEND TS
  iintro ⟨⟨%D0, Hfl, Hw⟩, HW, Hsems⟩ Hk
  iapply (wp_wait d i (O := O) (W := W) (k := k) hN) $$ [Hfl HW]
  · isplitl [Hfl]; · iexact Hfl
    iexact HW
  iintro ⟨HD, Hsem, HW⟩
  iapply Hk
  isplitl [HD Hw]; · iapply Hw $$ HD
  isplitl [Hsem]; · iexact Hsem
  isplitl [HW]; · iexact HW
  iexact Hsems

theorem allT_read (t : Memref sig .scVector .hbm S4096x2x128 .f32) (ft : t.view.ty.Contents (Elt F)) :
    (allT t).view.read (Elt F) ft = t.view.read (Elt F) ft := by
  funext y
  show t.view.read (Elt F) ft ((Rect.unit (s := S4096x2x128) ![0, 0, 0] S4096x2x128.size inb_S4096x2x128_S4096x2x128_0_0_0).emb y) = _
  refine congrArg (t.view.read (Elt F) ft) (ext3 ?_ ?_ ?_)
  · exact (emb_unit (s := S4096x2x128) (size := S4096x2x128.size) (inb := inb_S4096x2x128_S4096x2x128_0_0_0) rfl y 0).trans (Nat.zero_add _)
  · exact (emb_unit (s := S4096x2x128) (size := S4096x2x128.size) (inb := inb_S4096x2x128_S4096x2x128_0_0_0) rfl y 1).trans (Nat.zero_add _)
  · exact (emb_unit (s := S4096x2x128) (size := S4096x2x128.size) (inb := inb_S4096x2x128_S4096x2x128_0_0_0) rfl y 2).trans (Nat.zero_add _)

/-- What a gather's end gives: the table's share, the row buffer holding head `h`'s rows, the row lists' share. -/
def GD (t : Memref sig .scVector .hbm S4096x2x128 .f32) (dst : Memref sig .scVector .vmem S64x2x128 .f32) (fA : S2048.Idx → Elt F .i32) (h : ℕ)
    (q qo : PosShare TreeShare) (ft : Buf (Elt F) (t.view.loc (TH d i))) (fh : S8x64.Idx → Elt F .i32) : sProp 𝕄 :=
  iprop((t.view.loc (TH d i) ↦{q} ft) ∗ (∃ f, ⌜GR (F := F) (t.view.read (Elt F) ft) fA (b64 i) h (dst.view.read (Elt F) f)⌝ ∗ dst.view.loc (TH d i) ↦{fullShare} f)
    ∗ hidB.view.loc (TH d i) ↦{qo} fh)

theorem wp_fire {t : Memref sig .scVector .hbm S4096x2x128 .f32} {dst : Memref sig .scVector .vmem S64x2x128 .f32} {sem : DmaSem sig} {h : ℕ} {hh : h < 8} {k : PR (F := F) i}
    {Q : PUnit → sProp 𝕄} {q qo : PosShare TreeShare} {ft : Buf (Elt F) (t.view.loc (TH d i))} {fd : Buf (Elt F) (dst.view.loc (TH d i))} {fh : S8x64.Idx → Elt F .i32}
    {fA : S2048.Idx → Elt F .i32} (hset : dst.view.set = Finset.univ)
    (hN : ∑ j, (dst.slice (S64x2x128.rowRect gathers_S4096x2x128_S64x2x128.axis' j) (S64x2x128.stride_rowRect gathers_S4096x2x128_S64x2x128.axis' j)).view.dmaCredit = dst.view.dmaCredit)
    (hA : ∀ x, (fA x).toNat < 512) (hf : HID fA (b64 i) 32 fh) :
    iprop((t.view.loc (TH d i) ↦{q} ft) ∗ (dst.view.loc (TH d i) ↦{fullShare} fd) ∗ (hidB.view.loc (TH d i) ↦{qo} fh) ∗ semVal (cell d i sem) 0)
      ⊢ iprop((PEND d i sem dst.view.dmaCredit (GD d i t dst fA h q qo ft fh) -∗ WP d i k Q) -∗ WP d i (fire i t h hh dst sem k) Q) := by
  iintro ⟨Ht, Hd, Ho, Hsem⟩ Hk
  ihave Ht' := (pointsTo_split_subset (q := q) (f := ft) (S := Finset.univ) (Finset.subset_univ (allT t).view.set)).1 $$ Ht
  icases Ht' with ⟨Ht, Htr⟩
  ihave Ho' := (pointsTo_split_subset (q := qo) (f := fh) (S := Finset.univ) (Finset.subset_univ (hrow h hh).view.set)).1 $$ Ho
  icases Ho' with ⟨Ho, Hor⟩
  unfold fire
  iapply (SparseCore.wp_indirectGatherLocal countersEmb 𝒱₀ (TH d i) none (hg := gathers_S4096x2x128_S64x2x128) ι₀ dst.view.dmaCredit hN (by decide) (hrow_lt hA hf h hh)) $$ [Ht Hd Ho Hsem]
  · isplitl [Ht]; · iexact Ht
    isplitl [Hd]; · rw [hset]; iexact Hd
    isplitl [Ho]; · iexact Ho
    iexact Hsem
  iintro Hfl
  iapply Hk
  unfold PEND GD
  iexists _
  isplitl [Hfl]; · iexact Hfl
  iintro ⟨Hd, Ht, Ho⟩
  isplitl [Ht Htr]
  · iapply (pointsTo_split_subset (q := q) (f := ft) (S := Finset.univ) (Finset.subset_univ (allT t).view.set)).2
    isplitl [Ht]; · iexact Ht
    iexact Htr
  isplitl [Hd]
  · iexists _; isplitr
    swap
    · rw [hset]; iexact Hd
    · ipureintro
      rw [View.read_write_univ, allT_read]
      exact GR_gather hA hf h hh _ _
  iapply (pointsTo_split_subset (q := qo) (f := fh) (S := Finset.univ) (Finset.subset_univ (hrow h hh).view.set)).2
  isplitl [Ho]; · iexact Ho
  iexact Hor

theorem wp_await {t : Memref sig .scVector .hbm S4096x2x128 .f32} {dst : Memref sig .scVector .vmem S64x2x128 .f32} {sem : DmaSem sig} {k : PR (F := F) i}
    {Q : PUnit → sProp 𝕄} {Dl : sProp 𝕄} :
    iprop(PEND d i sem dst.view.dmaCredit Dl ∗ TS d i O W)
      ⊢ iprop((iprop(Dl ∗ semVal (cell d i sem) 0 ∗ TS d i O W) -∗ WP d i k Q) -∗ WP d i (await i t dst sem k) Q) :=
  wp_pend d i (sem := sem) rfl

/-- What the end of a row block's way out gives: the tile's rows of the heads up to `h`, the row buffer. -/
def OD (o : Memref sig .scVector .hbm S8x2048x2x128 .f32) (src : Memref sig .scVector .vmem S64x2x128 .f32) (tv : S4096x2x128.Idx → Elt F .f32) (fA : S2048.Idx → Elt F .i32)
    (h : ℕ) (So : Finset (Idx (o.view.loc (TH d i)))) : sProp 𝕄 :=
  iprop((∃ f, ⌜KO i tv fA h (o.view.read (Elt F) f)⌝ ∗ o.view.loc (TH d i) ↦[So]{fullShare} f) ∗ ∃ f, src.view.loc (TH d i) ↦{fullShare} f)

theorem wp_outRow {o : Memref sig .scVector .hbm S8x2048x2x128 .f32} {src : Memref sig .scVector .vmem S64x2x128 .f32} {sem : DmaSem sig} {h : ℕ} {hh : h < 8} {k : PR (F := F) i}
    {Q : PUnit → sProp 𝕄} {tv : S4096x2x128.Idx → Elt F .f32} {fA : S2048.Idx → Elt F .i32} {So : Finset (Idx (o.view.loc (TH d i)))}
    {fo : Buf (Elt F) (o.view.loc (TH d i))} {fs : Buf (Elt F) (src.view.loc (TH d i))} (hSo : (kRows i o h hh).view.set ⊆ So)
    (hs : GR tv fA (b64 i) h (src.view.read (Elt F) fs)) (ho : KO i tv fA h (o.view.read (Elt F) fo)) :
    iprop((src.view.loc (TH d i) ↦{fullShare} fs) ∗ (o.view.loc (TH d i) ↦[So]{fullShare} fo) ∗ semVal (cell d i sem) 0)
      ⊢ iprop((PEND d i sem (kRows i o h hh).view.dmaCredit (OD d i o src tv fA (h + 1) So) -∗ WP d i k Q) -∗ WP d i (outRow i src o h hh sem k) Q) := by
  iintro ⟨Hs, Ho, Hsem⟩ Hk
  ihave Hs' := (pointsTo_split_subset (q := fullShare) (f := fs) (S := Finset.univ) (Finset.subset_univ src.view.set)).1 $$ Hs
  icases Hs' with ⟨Hs, Hsr⟩
  unfold outRow
  iapply (Transfers.wp_dmaLocal countersEmb 𝒱₀ (TH d i) none ι₀ (kRows i o h hh).view.dmaCredit rfl (View.dmaCredit_pos _ (by decide)) hSo) $$ [Hs Ho Hsem]
  · isplitl [Hs]; · iexact Hs
    isplitl [Ho]; · iexact Ho
    iexact Hsem
  iintro Hfl
  iapply Hk
  unfold PEND OD
  iexists _
  isplitl [Hfl]; · iexact Hfl
  iintro ⟨Ho, Hs⟩
  isplitl [Ho]
  · iexists _; isplitr
    swap; · iexact Ho
    ipureintro; exact KO_step i o hs ho
  iexists fs
  iapply (pointsTo_split_subset (q := fullShare) (f := fs) (S := Finset.univ) (Finset.subset_univ src.view.set)).2
  isplitl [Hs]; · iexact Hs
  iexact Hsr

theorem wp_outWait {o : Memref sig .scVector .hbm S8x2048x2x128 .f32} {src : Memref sig .scVector .vmem S64x2x128 .f32} {sem : DmaSem sig} {h : ℕ} {hh : h < 8} {k : PR (F := F) i}
    {Q : PUnit → sProp 𝕄} {Dl : sProp 𝕄} :
    iprop(PEND d i sem (kRows i o h hh).view.dmaCredit Dl ∗ TS d i O W)
      ⊢ iprop((iprop(Dl ∗ semVal (cell d i sem) 0 ∗ TS d i O W) -∗ WP d i k Q) -∗ WP d i (outWait i src o h hh sem k) Q) :=
  wp_pend d i (sem := sem) rfl

/-! ## The computed pieces -/

theorem wp_hidStep {h c : ℕ} {hh : h < 8} {hc : c < 4} {k : PR (F := F) i} {Q : PUnit → sProp 𝕄} {fa : S64.Idx → Elt F .i32} {fh : S8x64.Idx → Elt F .i32} :
    iprop((aiB.view.loc (TH d i) ↦{fullShare} fa) ∗ (hidB.view.loc (TH d i) ↦{fullShare} fh))
      ⊢ iprop((iprop((aiB.view.loc (TH d i) ↦{fullShare} fa) ∗ (hidB.view.loc (TH d i) ↦{fullShare}
            ((hidB.access (rC h c hh hc)).write (Elt F) fh
      (shapeCast S1x16 (addi ((aiB.access (Rect.unit (s := S64) ![16 * c] S16.size (ai_inb c hc))).read (Elt F) fa : Vec F S16 .i32)
        (broadcast S16 (BitVec.ofNat 32 (512 * h))) : IVec S16 32) shapeCasts_S16_S1x16) Finset.univ))) -∗ WP d i k Q) -∗ WP d i (hidStep i h c hh hc k) Q) := by
  iintro ⟨Ha, Hh⟩ Hk
  unfold hidStep
  iapply (wp_load_rect 𝒱₀ (TH d i) none Set.univ (m := aiB) (r := Rect.unit (s := S64) ![16 * c] S16.size (ai_inb c hc)) (S := Finset.univ) (Finset.subset_univ _)) $$ Ha
  iintro Ha
  iapply (wp_load_rect 𝒱₀ (TH d i) none Set.univ (m := hidB) (r := rC h c hh hc) (S := Finset.univ) (Finset.subset_univ _)) $$ Hh
  iintro Hh
  iapply (wp_store 𝒱₀ (TH d i) none Set.univ (m := hidB) (r := rC h c hh hc) (S := Finset.univ) (Finset.subset_univ _)) $$ Hh
  iintro Hh
  iapply Hk
  isplitl [Ha]; · iexact Ha
  iexact Hh

end Cert.Proof.KRun
end
-- ==== Proof.KWp2.lean ====
/-
  How the body's computing pieces run: the row lists, a chunk of a row, a row, the tables' copies.
-/
module

public import proofs.«01_k».proof.Proof.KWp

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2 ix3 ix4)

variable (d : Dev nD) (i : grid0.Coords)
variable {O : CellTallies nD τ sig (HIx 1)} {W : Waits sig (HIx 1)}

/-- The read of all of a memref's places is the memref's. -/
theorem read_acc {s : Shape} {e : EltTy} (m : Memref sig .scVector .vmem s e) (f : m.view.ty.Contents (Elt F)) :
    (m.access (.whole s)).read (Elt F) f = m.view.read (Elt F) f := by
  funext x
  exact congrArg (m.view.read (Elt F) f) (Rect.emb_whole_apply s x)

/-! ## The row lists -/

/-- The row lists' buffer, its first `n` chunks done. -/
def HS (fA : S2048.Idx → Elt F .i32) (n : ℕ) : sProp 𝕄 :=
  iprop((∃ fa : S64.Idx → Elt F .i32, ⌜∀ j : S64.Idx, fa j = fA (at1 (b64 i + (j 0).val))⌝ ∗ aiB.view.loc (TH d i) ↦{fullShare} fa)
    ∗ ∃ fh : S8x64.Idx → Elt F .i32, ⌜HID fA (b64 i) n fh⌝ ∗ hidB.view.loc (TH d i) ↦{fullShare} fh)

theorem wp_hidStep' {h c : ℕ} {hh : h < 8} {hc : c < 4} {k : PR (F := F) i} {Q : PUnit → sProp 𝕄} {fA : S2048.Idx → Elt F .i32} :
    HS d i fA (4 * h + c) ⊢ iprop((HS d i fA (4 * h + c + 1) -∗ WP d i k Q) -∗ WP d i (hidStep i h c hh hc k) Q) := by
  unfold HS
  iintro ⟨⟨%fa, %ha, Ha⟩, ⟨%fh, %hf, Hh⟩⟩ Hk
  iapply (wp_hidStep d i) $$ [Ha Hh]
  · isplitl [Ha]; · iexact Ha
    iexact Hh
  iintro ⟨Ha, Hh⟩
  iapply Hk
  isplitl [Ha]
  · iexists fa; isplitr; · ipureintro; exact ha
    iexact Ha
  iexists _; isplitr
  swap; · iexact Hh
  ipureintro; exact HID_step ha hf

theorem wp_hidRow {h : ℕ} {hh : h < 8} {k : PR (F := F) i} {Q : PUnit → sProp 𝕄} {fA : S2048.Idx → Elt F .i32} :
    HS d i fA (4 * h) ⊢ iprop((HS d i fA (4 * (h + 1)) -∗ WP d i k Q) -∗ WP d i (hidRow i h hh k) Q) := by
  unfold hidRow
  iintro H Hk
  iapply (wp_hidStep' d i (c := 0)) $$ H; iintro H
  iapply (wp_hidStep' d i (c := 1)) $$ H; iintro H
  iapply (wp_hidStep' d i (c := 2)) $$ H; iintro H
  iapply (wp_hidStep' d i (c := 3)) $$ H; iintro H
  iapply Hk; iexact H

theorem wp_hidAll {k : PR (F := F) i} {Q : PUnit → sProp 𝕄} {fA : S2048.Idx → Elt F .i32} :
    HS d i fA 0 ⊢ iprop((HS d i fA 32 -∗ WP d i k Q) -∗ WP d i (hidAll i k) Q) := by
  unfold hidAll
  iintro H Hk
  iapply (wp_hidRow d i (h := 0)) $$ H; iintro H
  iapply (wp_hidRow d i (h := 1)) $$ H; iintro H
  iapply (wp_hidRow d i (h := 2)) $$ H; iintro H
  iapply (wp_hidRow d i (h := 3)) $$ H; iintro H
  iapply (wp_hidRow d i (h := 4)) $$ H; iintro H
  iapply (wp_hidRow d i (h := 5)) $$ H; iintro H
  iapply (wp_hidRow d i (h := 6)) $$ H; iintro H
  iapply (wp_hidRow d i (h := 7)) $$ H; iintro H
  iapply Hk; iexact H

/-! ## The tables -/

/-- Head `h`'s table, holding its entries. -/
def TB (fB : Fin 8 → S2048.Idx → Elt F .f32) (h : Fin 8) : sProp 𝕄 :=
  iprop(∃ f, ⌜(biasT h).view.read (Elt F) f = fB h⌝ ∗ (biasT h).view.loc (TH d i) ↦{fullShare} f)
/-- Head `h`'s table at some contents. -/
def TB0 (h : Fin 8) : sProp 𝕄 := iprop(∃ f, (biasT h).view.loc (TH d i) ↦{fullShare} f)
/-- The envelope's table, holding its entries. -/
def ET (fE : S2048.Idx → Elt F .f32) : sProp 𝕄 := iprop(envT.view.loc (TH d i) ↦{fullShare} fE)
def TBS (fB : Fin 8 → S2048.Idx → Elt F .f32) : sProp 𝕄 := bigSep Finset.univ (TB d i fB)

theorem wp_tab {h : ℕ} {hh : h < 8} {k : PR (F := F) i} {Q : PUnit → sProp 𝕄} {q : PosShare TreeShare} {fb : S16384.Idx → Elt F .f32}
    {fB : Fin 8 → S2048.Idx → Elt F .f32} (hB : ∀ h x, fB h x = fb (atB (2048 * h.val + (x 0).val))) :
    iprop(TS d i O W ∗ (biasM.view.loc (TH d i) ↦{q} fb) ∗ TB0 d i ⟨h, hh⟩)
      ⊢ iprop((iprop(TS d i O W ∗ (biasM.view.loc (TH d i) ↦{q} fb) ∗ TB d i fB ⟨h, hh⟩) -∗ WP d i k Q) -∗ WP d i (tab i h hh k) Q) := by
  unfold TB0 TB tab
  iintro ⟨HT, Hb, %f, Ht⟩ Hk
  iapply (wp_copy d i (O := O) (W := W) (src := bSrc h hh) (by decide) (Finset.subset_univ _) (Finset.subset_univ _)) $$ [HT Hb Ht]
  · isplitl [HT]; · iexact HT
    isplitl [Hb]; · iexact Hb
    iexact Ht
  iintro ⟨HT, Hb, Ht⟩
  iapply Hk
  isplitl [HT]; · iexact HT
  isplitl [Hb]; · iexact Hb
  iexists _; isplitr
  swap; · iexact Ht
  ipureintro
  rw [View.read_write_univ]
  funext x
  rw [hB]
  show fb ((Rect.unit (s := S16384) ![2048 * h] S2048.size (b_inb h hh)).emb x) = _
  refine congrArg fb (funext fun a => ?_)
  match a with
  | 0 =>
    refine Fin.ext ((emb_unit (s := S16384) (size := S2048.size) (inb := b_inb h hh) rfl x 0).trans ?_)
    have hx : (x 0).val < 2048 := (x 0).isLt
    exact (Nat.mod_eq_of_lt (show 2048 * h + (x 0).val < 16384 by omega)).symm

/-! ## A chunk -/

/-- The indices' buffer, and the two results' buffers as far as chunk `n` of row `r`, the heads before `h` one further. -/
def RC (fE : S2048.Idx → Elt F .f32) (fB : Fin 8 → S2048.Idx → Elt F .f32) (fI : S2x2048.Idx → Elt F .i32) (r n : ℕ) : sProp 𝕄 :=
  iprop(ET d i fE ∗ TBS d i fB ∗ (idxB.view.loc (TH d i) ↦{fullShare} fI)
    ∗ (∃ f, ⌜EB fE fI r n f⌝ ∗ envB.view.loc (TH d i) ↦{fullShare} f) ∗ ∃ f, ⌜BB fB fI r n 0 f⌝ ∗ biasB.view.loc (TH d i) ↦{fullShare} f)
def BS (fB : Fin 8 → S2048.Idx → Elt F .f32) (fI : S2x2048.Idx → Elt F .i32) (r n h : ℕ) : sProp 𝕄 :=
  iprop(TBS d i fB ∗ ∃ f, ⌜BB fB fI r n h f⌝ ∗ biasB.view.loc (TH d i) ↦{fullShare} f)

theorem wp_biasStep {h r : ℕ} {hh : h < 8} {hr : r < 2} {t : Fin rowLoop.trips} {k : PR (F := F) i} {Q : PUnit → sProp 𝕄}
    {fB : Fin 8 → S2048.Idx → Elt F .f32} {fI : S2x2048.Idx → Elt F .i32} (hv) :
    BS d i fB fI r t.val h
      ⊢ iprop((BS d i fB fI r t.val (h + 1) -∗ WP d i k Q)
        -∗ WP d i (biasStep i h r hh hr t (shapeCast S16 ((v2 r hr t idxB).read (Elt F) fI) shapeCasts_S1x16_S16) hv k) Q) := by
  unfold BS TBS biasStep
  rw [SparseCore.bigSep_erase' (Φ := TB d i fB) (Finset.mem_univ (⟨h, hh⟩ : Fin 8))]
  unfold TB
  iintro ⟨⟨⟨%ft, %ht, Ht⟩, Hts⟩, %f, %hf, Hb⟩ Hk
  iapply (SparseCore.wp_vectorLoadIdx 𝒱₀ (TH d i) none Set.univ (base := biasT ⟨h, hh⟩) (S := Finset.univ) (Finset.subset_univ _)) $$ Ht
  iintro Ht
  rw [read_acc, ht]
  iapply (wp_load_rect 𝒱₀ (TH d i) none Set.univ (m := biasB) (r := Rect.unit (s := S8x2x2048) (off3 h r t) S1x1x16.size (off3_inb h r hh hr t)) (S := Finset.univ) (Finset.subset_univ _)) $$ Hb
  iintro Hb
  iapply (wp_store 𝒱₀ (TH d i) none Set.univ (m := biasB) (r := Rect.unit (s := S8x2x2048) (off3 h r t) S1x1x16.size (off3_inb h r hh hr t)) (S := Finset.univ) (Finset.subset_univ _)) $$ Hb
  iintro Hb
  iapply Hk
  isplitl [Ht Hts]
  · isplitl [Ht]
    · iexists ft; isplitr; · ipureintro; exact ht
      iexact Ht
    iexact Hts
  iexists _; isplitr
  swap; · iexact Hb
  ipureintro; exact BB_step hv hf

theorem wp_chunk {r : ℕ} {hr : r < 2} {t : Fin rowLoop.trips} {fE : S2048.Idx → Elt F .f32}
    {fB : Fin 8 → S2048.Idx → Elt F .f32} {fI : S2x2048.Idx → Elt F .i32} (hI : ∀ x, (fI x).toNat < 2048) :
    RC d i fE fB fI r t.val ⊢ WP d i (chunk i r hr t) (fun _ => RC d i fE fB fI r (t.val + 1)) := by
  have hc : ∀ j : S16.Idx, (shapeCast S16 ((v2 r hr t idxB).read (Elt F) fI) shapeCasts_S1x16_S16 j).toNat < 2048 := by
    intro j
    have hj : (j 0).val < 16 := (j 0).isLt
    have ht : t.val < 128 := rowLoop_trips ▸ t.isLt
    have := chunk_idx fI r hr t j (ix2 (⟨r, hr⟩ : Fin 2) (⟨16 * t.val + (j 0).val, by omega⟩ : Fin 2048)) rfl rfl
    rw [this]; exact hI _
  have hv : ∀ a x, ((![shapeCast S16 ((v2 r hr t idxB).read (Elt F) fI) shapeCasts_S1x16_S16] : Fin 1 → IVec S16 32) a x).toNat < S2048.size a := by
    intro a j
    match a with
    | 0 => exact hc j
  have hk : k0_chk1 (shapeCast S16 ((v2 r hr t idxB).read (Elt F) fI) shapeCasts_S1x16_S16) := by
    unfold k0_chk1; repeat' constructor
    all_goals exact hv
  unfold RC ET chunk
  iintro ⟨HE, HB, Hi, ⟨%fe, %he, He⟩, %fb, %hb, Hb⟩
  iapply (wp_load_rect 𝒱₀ (TH d i) none Set.univ (m := idxB) (r := Rect.unit (s := S2x2048) (off2 r t) S1x16.size (off2_inb r hr t)) (S := Finset.univ) (Finset.subset_univ _)) $$ Hi
  iintro Hi
  iapply (wp_assume 𝒱₀ (TH d i) none Set.univ hk)
  iapply (SparseCore.wp_vectorLoadIdx 𝒱₀ (TH d i) none Set.univ (base := envT) (hl := View.loads_vmem h_S2048) (S := Finset.univ) (Finset.subset_univ _)) $$ HE
  iintro HE
  rw [read_acc]
  iapply (wp_load_rect 𝒱₀ (TH d i) none Set.univ (m := envB) (r := Rect.unit (s := S2x2048) (off2 r t) S1x16.size (off2_inb r hr t)) (S := Finset.univ) (Finset.subset_univ _)) $$ He
  iintro He
  iapply (wp_store 𝒱₀ (TH d i) none Set.univ (m := envB) (r := Rect.unit (s := S2x2048) (off2 r t) S1x16.size (off2_inb r hr t)) (S := Finset.univ) (Finset.subset_univ _)) $$ He
  iintro He
  ihave H := (show iprop(TBS d i fB ∗ (biasB.view.loc (TH d i) ↦{fullShare} fb)) ⊢ BS d i fB fI r t.val 0 by
    unfold BS
    iintro ⟨HB, Hb⟩
    isplitl [HB]; · iexact HB
    iexists fb; isplitr; · ipureintro; exact hb
    iexact Hb) $$ [HB Hb]
  · isplitl [HB]; · iexact HB
    iexact Hb
  iapply (wp_biasStep d i (h := 0) hv) $$ H; iintro H
  iapply (wp_biasStep d i (h := 1) hv) $$ H; iintro H
  iapply (wp_biasStep d i (h := 2) hv) $$ H; iintro H
  iapply (wp_biasStep d i (h := 3) hv) $$ H; iintro H
  iapply (wp_biasStep d i (h := 4) hv) $$ H; iintro H
  iapply (wp_biasStep d i (h := 5) hv) $$ H; iintro H
  iapply (wp_biasStep d i (h := 6) hv) $$ H; iintro H
  iapply (wp_biasStep d i (h := 7) hv) $$ H; iintro H
  unfold BS
  icases H with ⟨HB, %fb', %hb', Hb⟩
  unfold WP
  rw [wp_ret]
  imodintro
  isplitl [HE]; · iexact HE
  isplitl [HB]; · iexact HB
  isplitl [Hi]; · iexact Hi
  isplitl [He]
  · iexists _; isplitr
    swap; · iexact He
    ipureintro; exact EB_step hv he
  iexists fb'; isplitr
  · ipureintro; exact BB_next hb'
  iexact Hb

theorem wp_row {r : ℕ} {hr : r < 2} {k : PR (F := F) i} {Q : PUnit → sProp 𝕄} {fE : S2048.Idx → Elt F .f32}
    {fB : Fin 8 → S2048.Idx → Elt F .f32} {fI : S2x2048.Idx → Elt F .i32} (hI : ∀ x, (fI x).toNat < 2048) :
    RC d i fE fB fI r 0 ⊢ iprop((RC d i fE fB fI (r + 1) 0 -∗ WP d i k Q) -∗ WP d i (row i r hr >>= fun _ => k) Q) := by
  iintro H Hk
  unfold row
  iapply (Scf.wp_for_bind frame (wpE (defs₀ (F := F)) 𝒱₀ (TH d i) none) Set.univ _ _ _ _ _ _ (fun n _ => RC d i fE fB fI r n) (fun t _ => wp_chunk d i hI)) $$ H
  iintro %_ H
  iapply Hk
  rw [show Scf.trips rowLoop.lb rowLoop.ub rowLoop.st = 128 from rowLoop_trips]
  unfold RC
  icases H with ⟨HE, HB, Hi, ⟨%fe, %he, He⟩, %fb, %hb, Hb⟩
  isplitl [HE]; · iexact HE
  isplitl [HB]; · iexact HB
  isplitl [Hi]; · iexact Hi
  isplitl [He]
  · iexists fe; isplitr; · ipureintro; exact EB_row he
    iexact He
  iexists fb; isplitr; · ipureintro; exact BB_row hb
  iexact Hb

end Cert.Proof.KRun
end
-- ==== Proof.KGrp.lean ====
/-
  How the body runs: one group of two rows and one head's gathered rows, the step between two groups, the body.
-/
module

public import proofs.«01_k».proof.Proof.KWp2

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 ix4)

variable {F : FTy → Type} [FloatOps F]

local notation "𝕄" => MT nD τ sig (HIx 1) (Elt F) ℕ UU ℕ

variable (d : Dev nD) (i : grid0.Coords)
variable {O : CellTallies nD τ sig (HIx 1)} {W : Waits sig (HIx 1)}

/-! ## The tile's part of the outputs -/

/-- The tile's rows of the envelope, -/
def SE : Finset S512x2048.Idx := Finset.univ.filter fun x => b16 i ≤ (x 0).val ∧ (x 0).val < b16 i + 16
/-- of the bias, -/
def SB : Finset S8x512x2048.Idx := Finset.univ.filter fun x => b16 i ≤ (x 1).val ∧ (x 1).val < b16 i + 16
/-- of a row output. -/
def SK : Finset S8x2048x2x128.Idx := Finset.univ.filter fun x => b64 i ≤ (x 1).val ∧ (x 1).val < b64 i + 64

omit [FloatOps F] in
theorem set_sub {κ : Kind} {sp : Space} {s : Shape} {e : EltTy} (v : View sig κ sp s e) {I : Finset v.ty.Idx} (h : ∀ y, v.emb y ∈ I) : v.set ⊆ I := by
  intro x hx
  obtain ⟨y, -, rfl⟩ := Finset.mem_map.mp hx
  exact h y
omit [FloatOps F] in
theorem g2_sub (g : Fin 8) : (g2 i envO g).view.set ⊆ SE i := set_sub _ fun y => by
  obtain ⟨e0, e1⟩ := rG_emb i g y
  have hy : (y 0).val < 2 := (y 0).isLt
  have hg := g.isLt
  refine Finset.mem_filter.mpr ⟨Finset.mem_univ _, ?_⟩
  show b16 i ≤ ((rG i g).emb y 0).val ∧ ((rG i g).emb y 0).val < b16 i + 16
  rw [e0]; omega
omit [FloatOps F] in
theorem bOut_sub (h : ℕ) (hh : h < 8) (g : Fin 8) : (bOut i h hh g).view.set ⊆ SB i := set_sub _ fun y => by
  obtain ⟨e0, e1, e2⟩ := rH_emb i h hh g y
  have hy : (y 0).val < 2 := (y 0).isLt
  have hg := g.isLt
  refine Finset.mem_filter.mpr ⟨Finset.mem_univ _, ?_⟩
  show b16 i ≤ ((rH i h hh g).emb (Shape.reshapeEquiv squeezes_S1x2x2048_S2x2048.numel_eq y) 1).val
    ∧ ((rH i h hh g).emb (Shape.reshapeEquiv squeezes_S1x2x2048_S2x2048.numel_eq y) 1).val < b16 i + 16
  rw [e1]; omega
omit [FloatOps F] in
theorem rK_mem (h : ℕ) (hh : h < 8) (y : S64x2x128.Idx) : (rK i h hh).emb (Shape.reshapeEquiv squeezes_S1x64x2x128_S64x2x128.numel_eq y) ∈ SK i := by
  obtain ⟨e0, e1, e2, e3⟩ := rK_emb i h hh y
  have hy : (y 0).val < 64 := (y 0).isLt
  refine Finset.mem_filter.mpr ⟨Finset.mem_univ _, ?_⟩
  rw [e1]; omega

/-! ## One head's rows through a row buffer -/

section Rows
variable (t : Memref sig .scVector .hbm S4096x2x128 .f32) (dst : Memref sig .scVector .vmem S64x2x128 .f32) (o : Memref sig .scVector .hbm S8x2048x2x128 .f32)
  (sg so : DmaSem sig) (q qo : PosShare TreeShare) (ft : Buf (Elt F) (t.view.loc (TH d i))) (fh : S8x64.Idx → Elt F .i32) (fA : S2048.Idx → Elt F .i32)
  (So : Finset (Idx (o.view.loc (TH d i))))

/-- Head `g`'s gather outstanding, the heads before it out. -/
def KSa (g : ℕ) : sProp 𝕄 :=
  iprop(PEND d i sg dst.view.dmaCredit (GD d i t dst fA g q qo ft fh) ∗ semVal (cell d i so) 0
    ∗ ∃ f, ⌜KO i (t.view.read (Elt F) ft) fA g (o.view.read (Elt F) f)⌝ ∗ o.view.loc (TH d i) ↦[So]{fullShare} f)
/-- Head `g`'s rows on their way out. -/
def KSb (g : ℕ) (hg : g < 8) : sProp 𝕄 :=
  iprop(PEND d i so (kRows i o g hg).view.dmaCredit (OD d i o dst (t.view.read (Elt F) ft) fA (g + 1) So) ∗ semVal (cell d i sg) 0
    ∗ (t.view.loc (TH d i) ↦{q} ft) ∗ hidB.view.loc (TH d i) ↦{qo} fh)

variable {t dst o sg so q qo ft fh fA So}

theorem wp_take {g : ℕ} {hg : g < 8} {k : PR (F := F) i} {Q : PUnit → sProp 𝕄} (hSo : (kRows i o g hg).view.set ⊆ So) :
    iprop(TS d i O W ∗ KSa d i t dst o sg so q qo ft fh fA So g)
      ⊢ iprop((iprop(TS d i O W ∗ KSb d i t dst o sg so q qo ft fh fA So g hg) -∗ WP d i k Q) -∗ WP d i (await i t dst sg <| outRow i dst o g hg so k) Q) := by
  unfold KSa KSb
  iintro ⟨HT, HP, Hso, %fo, %ho, Ho⟩ Hk
  iapply (wp_await d i (O := O) (W := W)) $$ [HP HT]
  · isplitl [HP]; · iexact HP
    iexact HT
  unfold GD
  iintro ⟨⟨Ht, ⟨%f, %hf, Hd⟩, Hh⟩, Hsg, HT⟩
  iapply (wp_outRow d i hSo hf ho) $$ [Hd Ho Hso]
  · isplitl [Hd]; · iexact Hd
    isplitl [Ho]; · iexact Ho
    iexact Hso
  iintro HP
  iapply Hk
  isplitl [HT]; · iexact HT
  isplitl [HP]; · iexact HP
  isplitl [Hsg]; · iexact Hsg
  isplitl [Ht]; · iexact Ht
  iexact Hh

theorem wp_last {g : ℕ} {hg : g < 8} {k : PR (F := F) i} {Q : PUnit → sProp 𝕄} :
    iprop(TS d i O W ∗ KSb d i t dst o sg so q qo ft fh fA So g hg)
      ⊢ iprop((iprop(TS d i O W ∗ OD d i o dst (t.view.read (Elt F) ft) fA (g + 1) So ∗ semVal (cell d i so) 0 ∗ semVal (cell d i sg) 0
            ∗ (t.view.loc (TH d i) ↦{q} ft) ∗ hidB.view.loc (TH d i) ↦{qo} fh) -∗ WP d i k Q) -∗ WP d i (outWait i dst o g hg so k) Q) := by
  unfold KSb
  iintro ⟨HT, HP, Hsg, Ht, Hh⟩ Hk
  iapply (wp_outWait d i (O := O) (W := W)) $$ [HP HT]
  · isplitl [HP]; · iexact HP
    iexact HT
  iintro ⟨HD, Hso, HT⟩
  iapply Hk
  isplitl [HT]; · iexact HT
  isplitl [HD]; · iexact HD
  isplitl [Hso]; · iexact Hso
  isplitl [Hsg]; · iexact Hsg
  isplitl [Ht]; · iexact Ht
  iexact Hh

/-- The first gather. -/
theorem wp_first {h : ℕ} {hh : h < 8} {k : PR (F := F) i} {Q : PUnit → sProp 𝕄} (hset : dst.view.set = Finset.univ)
    (hN : ∑ j, (dst.slice (S64x2x128.rowRect gathers_S4096x2x128_S64x2x128.axis' j) (S64x2x128.stride_rowRect gathers_S4096x2x128_S64x2x128.axis' j)).view.dmaCredit = dst.view.dmaCredit)
    (hA : ∀ x, (fA x).toNat < 512) (hf : HID fA (b64 i) 32 fh) :
    iprop(OD d i o dst (t.view.read (Elt F) ft) fA h So ∗ semVal (cell d i so) 0 ∗ semVal (cell d i sg) 0
            ∗ (t.view.loc (TH d i) ↦{q} ft) ∗ hidB.view.loc (TH d i) ↦{qo} fh)
      ⊢ iprop((KSa d i t dst o sg so q qo ft fh fA So h -∗ WP d i k Q) -∗ WP d i (fire i t h hh dst sg k) Q) := by
  unfold KSa OD
  iintro ⟨⟨Ho, %fd, Hd⟩, Hso, Hsg, Ht, Hh⟩ Hk
  iapply (wp_fire d i hset hN hA hf) $$ [Hd Hsg Ht Hh]
  · isplitl [Ht]; · iexact Ht
    isplitl [Hd]; · iexact Hd
    isplitl [Hh]; · iexact Hh
    iexact Hsg
  iintro HP
  iapply Hk
  isplitl [HP]; · iexact HP
  isplitl [Hso]; · iexact Hso
  iexact Ho

theorem wp_turn {g : ℕ} {hg : g < 8} {hg' : g + 1 < 8} {k : PR (F := F) i} {Q : PUnit → sProp 𝕄} (hset : dst.view.set = Finset.univ)
    (hN : ∑ j, (dst.slice (S64x2x128.rowRect gathers_S4096x2x128_S64x2x128.axis' j) (S64x2x128.stride_rowRect gathers_S4096x2x128_S64x2x128.axis' j)).view.dmaCredit = dst.view.dmaCredit)
    (hA : ∀ x, (fA x).toNat < 512) (hf : HID fA (b64 i) 32 fh) :
    iprop(TS d i O W ∗ KSb d i t dst o sg so q qo ft fh fA So g hg)
      ⊢ iprop((iprop(TS d i O W ∗ KSa d i t dst o sg so q qo ft fh fA So (g + 1)) -∗ WP d i k Q)
        -∗ WP d i (outWait i dst o g hg so <| fire i t (g + 1) hg' dst sg k) Q) := by
  iintro H Hk
  iapply (wp_last d i (O := O) (W := W)) $$ H
  iintro ⟨HT, H⟩
  iapply (wp_first d i hset hN hA hf) $$ H
  iintro H
  iapply Hk
  isplitl [HT]; · iexact HT
  iexact H
end Rows

/-! ## A group -/

section Group
variable (qe : PosShare TreeShare) (fM : S512x2048.Idx → Elt F .i32) (fE : S2048.Idx → Elt F .f32) (fB : Fin 8 → S2048.Idx → Elt F .f32)

/-- The tables, the indices, the two results' buffers, and the tile's first `n` rows of the two results. -/
def CS (n : ℕ) : sProp 𝕄 :=
  iprop((emtM.view.loc (TH d i) ↦{qe} fM) ∗ (∃ f, idxB.view.loc (TH d i) ↦{fullShare} f) ∗ (∃ f, envB.view.loc (TH d i) ↦{fullShare} f)
    ∗ (∃ f, biasB.view.loc (TH d i) ↦{fullShare} f) ∗ ET d i fE ∗ TBS d i fB
    ∗ (∃ f, ⌜EO i fE fM n f⌝ ∗ envO.view.loc (TH d i) ↦[SE i]{fullShare} f) ∗ ∃ f, ⌜BO i fB fM n 0 f⌝ ∗ biasO.view.loc (TH d i) ↦[SB i]{fullShare} f)

/-- The bias rows on their way out, the heads before `h` done. -/
def PS (g h : ℕ) (fb : S8x2x2048.Idx → Elt F .f32) : sProp 𝕄 :=
  iprop(TS d i O W ∗ (biasB.view.loc (TH d i) ↦{fullShare} fb) ∗ ∃ f, ⌜BO i fB fM (2 * g) h f⌝ ∗ biasO.view.loc (TH d i) ↦[SB i]{fullShare} f)

variable {qe fM fE fB}

theorem wp_biasOut {g : Fin 8} {h : ℕ} {hh : h < 8} {k : PR (F := F) i} {Q : PUnit → sProp 𝕄} {fI : S2x2048.Idx → Elt F .i32} (hI : IX i fM g.val fI)
    {fb : S8x2x2048.Idx → Elt F .f32} (hb : BB fB fI 2 0 0 fb) :
    PS d i fM fB g.val h fb (O := O) (W := W)
      ⊢ iprop((PS d i fM fB g.val (h + 1) fb (O := O) (W := W) -∗ WP d i k Q) -∗ WP d i (biasOut i h hh g k) Q) := by
  unfold PS biasOut
  iintro ⟨HT, Hb, %f, %hf, Ho⟩ Hk
  iapply (wp_copy d i (O := O) (W := W) (src := bRows h hh) (dst := bOut i h hh g) (by decide) (Finset.subset_univ _) (bOut_sub i h hh g)) $$ [HT Hb Ho]
  · isplitl [HT]; · iexact HT
    isplitl [Hb]; · iexact Hb
    iexact Ho
  iintro ⟨HT, Hb, Ho⟩
  iapply Hk
  isplitl [HT]; · iexact HT
  isplitl [Hb]; · iexact Hb
  iexists _; isplitr
  swap; · iexact Ho
  ipureintro; exact BO_step i hI hb hf

variable {qK qV qo1 qo2 : PosShare TreeShare} {kt vt : S4096x2x128.Idx → Elt F .f32} {fh : S8x64.Idx → Elt F .i32} {fA : S2048.Idx → Elt F .i32}

abbrev KA (qK qo1 : PosShare TreeShare) (kt : S4096x2x128.Idx → Elt F .f32) (fh : S8x64.Idx → Elt F .i32) (fA : S2048.Idx → Elt F .i32) (g : ℕ) : sProp 𝕄 :=
  KSa d i ktM rowK khO gK oK qK qo1 kt fh fA (SK i) g
abbrev VA (qV qo2 : PosShare TreeShare) (vt : S4096x2x128.Idx → Elt F .f32) (fh : S8x64.Idx → Elt F .i32) (fA : S2048.Idx → Elt F .i32) (g : ℕ) : sProp 𝕄 :=
  KSa d i vtM rowV vhO gV oV qV qo2 vt fh fA (SK i) g
abbrev KB (qK qo1 : PosShare TreeShare) (kt : S4096x2x128.Idx → Elt F .f32) (fh : S8x64.Idx → Elt F .i32) (fA : S2048.Idx → Elt F .i32) (g : ℕ) (hg : g < 8) : sProp 𝕄 :=
  KSb d i ktM rowK khO gK oK qK qo1 kt fh fA (SK i) g hg
abbrev VB (qV qo2 : PosShare TreeShare) (vt : S4096x2x128.Idx → Elt F .f32) (fh : S8x64.Idx → Elt F .i32) (fA : S2048.Idx → Elt F .i32) (g : ℕ) (hg : g < 8) : sProp 𝕄 :=
  KSb d i vtM rowV vhO gV oV qV qo2 vt fh fA (SK i) g hg

set_option maxHeartbeats 4000000 in
theorem wp_grp {g : Fin 8} {k : PR (F := F) i} {Q : PUnit → sProp 𝕄} (hM : ∀ x, (fM x).toNat < 2048) :
    iprop(TS d i O W ∗ CS d i qe fM fE fB (2 * g.val) ∗ KA d i qK qo1 kt fh fA g.val ∗ VA d i qV qo2 vt fh fA g.val)
      ⊢ iprop((iprop(TS d i O W ∗ CS d i qe fM fE fB (2 * (g.val + 1)) ∗ KB d i qK qo1 kt fh fA g.val g.isLt ∗ VB d i qV qo2 vt fh fA g.val g.isLt) -∗ WP d i k Q)
        -∗ WP d i (grp i g k) Q) := by
  unfold CS grp
  iintro ⟨HT, ⟨He, ⟨%fi, Hi⟩, ⟨%fe, Heb⟩, ⟨%fb, Hbb⟩, HE, HB, ⟨%feo, %heo, Heo⟩, ⟨%fbo, %hbo, Hbo⟩⟩, HK, HV⟩ Hk
  iapply (wp_copy d i (O := O) (W := W) (src := g2 i emtM g) (dst := idxB) (by decide) (Finset.subset_univ _) (Finset.subset_univ _)) $$ [HT He Hi]
  · isplitl [HT]; · iexact HT
    isplitl [He]; · iexact He
    iexact Hi
  iintro ⟨HT, He, Hi⟩
  obtain ⟨fI, hfI⟩ : ∃ fI : S2x2048.Idx → Elt F .i32, fI = (g2 i emtM g).view.read (Elt F) fM := ⟨_, rfl⟩
  have hIX : IX i fM g.val fI := hfI ▸ IX_read i fM g
  have hI : ∀ x, (fI x).toNat < 2048 := by intro x; rw [hfI]; exact hM _
  ihave HR := (show iprop(ET d i fE ∗ TBS d i fB ∗ (idxB.view.loc (TH d i) ↦{fullShare} idxB.view.write (Elt F) fi ((g2 i emtM g).view.read (Elt F) fM) Finset.univ)
      ∗ (envB.view.loc (TH d i) ↦{fullShare} fe) ∗ (biasB.view.loc (TH d i) ↦{fullShare} fb)) ⊢ RC d i fE fB fI 0 0 by
    unfold RC
    rw [View.write_whole_univ, ← hfI]
    iintro ⟨HE, HB, Hi, He, Hb⟩
    isplitl [HE]; · iexact HE
    isplitl [HB]; · iexact HB
    isplitl [Hi]; · iexact Hi
    isplitl [He]
    · iexists fe; isplitr
      · ipureintro; intro x hx; omega
      iexact He
    iexists fb; isplitr
    · ipureintro; intro x hx; omega
    iexact Hb) $$ [HE HB Hi Heb Hbb]
  · isplitl [HE]; · iexact HE
    isplitl [HB]; · iexact HB
    isplitl [Hi]; · iexact Hi
    isplitl [Heb]; · iexact Heb
    iexact Hbb
  iapply (wp_row d i hI) $$ HR; iintro HR
  iapply (wp_row d i hI) $$ HR; iintro HR
  iapply (wp_take d i (O := O) (W := W) (set_sub _ fun y => rK_mem i g.val g.isLt y)) $$ [HT HK]
  · isplitl [HT]; · iexact HT
    iexact HK
  iintro ⟨HT, HK⟩
  iapply (wp_take d i (O := O) (W := W) (set_sub _ fun y => rK_mem i g.val g.isLt y)) $$ [HT HV]
  · isplitl [HT]; · iexact HT
    iexact HV
  iintro ⟨HT, HV⟩
  unfold RC
  icases HR with ⟨HE, HB, Hi, ⟨%fe2, %he2, Heb⟩, ⟨%fb2, %hb2, Hbb⟩⟩
  iapply (wp_copy d i (O := O) (W := W) (src := envB) (dst := g2 i envO g) (by decide) (Finset.subset_univ _) (g2_sub i g)) $$ [HT Heb Heo]
  · isplitl [HT]; · iexact HT
    isplitl [Heb]; · iexact Heb
    iexact Heo
  iintro ⟨HT, Heb, Heo⟩
  ihave HP := (show iprop(TS d i O W ∗ (biasB.view.loc (TH d i) ↦{fullShare} fb2) ∗ (biasO.view.loc (TH d i) ↦[SB i]{fullShare} fbo))
      ⊢ PS d i fM fB g.val 0 fb2 (O := O) (W := W) by
    unfold PS
    iintro ⟨HT, Hb, Ho⟩
    isplitl [HT]; · iexact HT
    isplitl [Hb]; · iexact Hb
    iexists fbo; isplitr
    · ipureintro; exact hbo
    iexact Ho) $$ [HT Hbb Hbo]
  · isplitl [HT]; · iexact HT
    isplitl [Hbb]; · iexact Hbb
    iexact Hbo
  iapply (wp_biasOut d i (h := 0) hIX hb2) $$ HP; iintro HP
  iapply (wp_biasOut d i (h := 1) hIX hb2) $$ HP; iintro HP
  iapply (wp_biasOut d i (h := 2) hIX hb2) $$ HP; iintro HP
  iapply (wp_biasOut d i (h := 3) hIX hb2) $$ HP; iintro HP
  iapply (wp_biasOut d i (h := 4) hIX hb2) $$ HP; iintro HP
  iapply (wp_biasOut d i (h := 5) hIX hb2) $$ HP; iintro HP
  iapply (wp_biasOut d i (h := 6) hIX hb2) $$ HP; iintro HP
  iapply (wp_biasOut d i (h := 7) hIX hb2) $$ HP; iintro HP
  unfold PS
  icases HP with ⟨HT, Hbb, %fbo2, %hbo2, Hbo⟩
  iapply Hk
  isplitl [HT]; · iexact HT
  isplitr [HK HV]
  swap
  · isplitl [HK]; · iexact HK
    iexact HV
  isplitl [He]; · iexact He
  isplitl [Hi]; · iexists _; iexact Hi
  isplitl [Heb]; · iexists _; iexact Heb
  isplitl [Hbb]; · iexists _; iexact Hbb
  isplitl [HE]; · iexact HE
  isplitl [HB]; · iexact HB
  isplitl [Heo]
  · iexists _; isplitr
    swap; · iexact Heo
    ipureintro; exact EO_step i hIX he2 heo
  iexists fbo2; isplitr
  · ipureintro; exact BO_next i hbo2
  iexact Hbo

theorem rowK_credit : ∑ j, (rowK.slice (S64x2x128.rowRect gathers_S4096x2x128_S64x2x128.axis' j) (S64x2x128.stride_rowRect gathers_S4096x2x128_S64x2x128.axis' j)).view.dmaCredit = rowK.view.dmaCredit := by decide +kernel
theorem rowV_credit : ∑ j, (rowV.slice (S64x2x128.rowRect gathers_S4096x2x128_S64x2x128.axis' j) (S64x2x128.stride_rowRect gathers_S4096x2x128_S64x2x128.axis' j)).view.dmaCredit = rowV.view.dmaCredit := by decide +kernel

theorem wp_next {g : ℕ} {hg : g < 7} {k : PR (F := F) i} {Q : PUnit → sProp 𝕄} (hA : ∀ x, (fA x).toNat < 512) (hf : HID fA (b64 i) 32 fh) :
    iprop(TS d i O W ∗ CS d i qe fM fE fB (2 * (g + 1)) ∗ KB d i qK qo1 kt fh fA g (by omega) ∗ VB d i qV qo2 vt fh fA g (by omega))
      ⊢ iprop((iprop(TS d i O W ∗ CS d i qe fM fE fB (2 * (g + 1)) ∗ KA d i qK qo1 kt fh fA (g + 1) ∗ VA d i qV qo2 vt fh fA (g + 1)) -∗ WP d i k Q)
        -∗ WP d i (next i g hg k) Q) := by
  unfold next
  iintro ⟨HT, HC, HK, HV⟩ Hk
  iapply (wp_turn d i (O := O) (W := W) (View.set_whole _) rowK_credit hA hf) $$ [HT HK]
  · isplitl [HT]; · iexact HT
    iexact HK
  iintro ⟨HT, HK⟩
  iapply (wp_turn d i (O := O) (W := W) (View.set_whole _) rowV_credit hA hf) $$ [HT HV]
  · isplitl [HT]; · iexact HT
    iexact HV
  iintro ⟨HT, HV⟩
  iapply Hk
  isplitl [HT]; · iexact HT
  isplitl [HC]; · iexact HC
  isplitl [HK]; · iexact HK
  iexact HV
end Group

end Cert.Proof.KRun
end
-- ==== Proof.KTile.lean ====
/-
  The body on one vector subcore: from its share of the inputs, its rows of the outputs and its own buffers and
  semaphores, to those rows holding their values.
-/
module

public import proofs.«01_k».proof.Proof.KGrp

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 ix4)

variable {F : FTy → Type} [FloatOps F]

local notation "𝕄" => MT nD τ sig (HIx 1) (Elt F) ℕ UU ℕ

variable (d : Dev nD) (i : grid0.Coords)
variable {O : CellTallies nD τ sig (HIx 1)} {W : Waits sig (HIx 1)}

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  repeat rw [SparseCore.bigSep_insert' (by decide)]
  rw [bigSep_singleton]

/-- What the tile reads, at share `q`. -/
def IN (q : PosShare TreeShare) (fE : S2048.Idx → Elt F .f32) (fb : S16384.Idx → Elt F .f32) (fM : S512x2048.Idx → Elt F .i32)
    (kt vt : S4096x2x128.Idx → Elt F .f32) (fA : S2048.Idx → Elt F .i32) : sProp 𝕄 :=
  iprop((envM.view.loc (TH d i) ↦{q} fE) ∗ (biasM.view.loc (TH d i) ↦{q} fb) ∗ (emtM.view.loc (TH d i) ↦{q} fM)
    ∗ (ktM.view.loc (TH d i) ↦{q} kt) ∗ (vtM.view.loc (TH d i) ↦{q} vt) ∗ aiM.view.loc (TH d i) ↦{q} fA)
/-- Its buffers, at some contents. -/
def SCR : sProp 𝕄 :=
  iprop((∃ f, envT.view.loc (TH d i) ↦{fullShare} f)
    ∗ (TB0 d i 0 ∗ TB0 d i 1 ∗ TB0 d i 2 ∗ TB0 d i 3 ∗ TB0 d i 4 ∗ TB0 d i 5 ∗ TB0 d i 6 ∗ TB0 d i 7)
    ∗ (∃ f, idxB.view.loc (TH d i) ↦{fullShare} f) ∗ (∃ f, envB.view.loc (TH d i) ↦{fullShare} f) ∗ (∃ f, biasB.view.loc (TH d i) ↦{fullShare} f)
    ∗ (∃ f, aiB.view.loc (TH d i) ↦{fullShare} f) ∗ (∃ f, hidB.view.loc (TH d i) ↦{fullShare} f)
    ∗ (∃ f, rowK.view.loc (TH d i) ↦{fullShare} f) ∗ ∃ f, rowV.view.loc (TH d i) ↦{fullShare} f)
/-- The gathers' four cells at zero. -/
def SEM4 : sProp 𝕄 := iprop(semVal (cell d i gK) 0 ∗ semVal (cell d i gV) 0 ∗ semVal (cell d i oK) 0 ∗ semVal (cell d i oV) 0)
/-- Its rows of the outputs, at some contents, -/
def OUT0 : sProp 𝕄 :=
  iprop((∃ f, envO.view.loc (TH d i) ↦[SE i]{fullShare} f) ∗ (∃ f, biasO.view.loc (TH d i) ↦[SB i]{fullShare} f)
    ∗ (∃ f, khO.view.loc (TH d i) ↦[SK i]{fullShare} f) ∗ ∃ f, vhO.view.loc (TH d i) ↦[SK i]{fullShare} f)
/-- and at their values. -/
def OUT1 (fE : S2048.Idx → Elt F .f32) (fB : Fin 8 → S2048.Idx → Elt F .f32) (fM : S512x2048.Idx → Elt F .i32)
    (kt vt : S4096x2x128.Idx → Elt F .f32) (fA : S2048.Idx → Elt F .i32) : sProp 𝕄 :=
  iprop((∃ f, ⌜EO i fE fM 16 f⌝ ∗ envO.view.loc (TH d i) ↦[SE i]{fullShare} f) ∗ (∃ f, ⌜BO i fB fM 16 0 f⌝ ∗ biasO.view.loc (TH d i) ↦[SB i]{fullShare} f)
    ∗ (∃ f, ⌜KO i kt fA 8 f⌝ ∗ khO.view.loc (TH d i) ↦[SK i]{fullShare} f) ∗ ∃ f, ⌜KO i vt fA 8 f⌝ ∗ vhO.view.loc (TH d i) ↦[SK i]{fullShare} f)

theorem TB_any (fB : Fin 8 → S2048.Idx → Elt F .f32) (h : Fin 8) : TB d i fB h ⊢ TB0 d i h := by
  unfold TB TB0
  iintro ⟨%f, -, H⟩
  iexists f; iexact H

theorem wp_tabs {k : PR (F := F) i} {Q : PUnit → sProp 𝕄} {q : PosShare TreeShare} {fb : S16384.Idx → Elt F .f32} {fE : S2048.Idx → Elt F .f32}
    {fB : Fin 8 → S2048.Idx → Elt F .f32} (hB : ∀ h x, fB h x = fb (atB (2048 * h.val + (x 0).val))) :
    iprop(TS d i O W ∗ (envM.view.loc (TH d i) ↦{q} fE) ∗ (biasM.view.loc (TH d i) ↦{q} fb) ∗ (∃ f, envT.view.loc (TH d i) ↦{fullShare} f)
        ∗ (TB0 d i 0 ∗ TB0 d i 1 ∗ TB0 d i 2 ∗ TB0 d i 3 ∗ TB0 d i 4 ∗ TB0 d i 5 ∗ TB0 d i 6 ∗ TB0 d i 7))
      ⊢ iprop((iprop(TS d i O W ∗ (envM.view.loc (TH d i) ↦{q} fE) ∗ (biasM.view.loc (TH d i) ↦{q} fb) ∗ ET d i fE ∗ TBS d i fB) -∗ WP d i k Q) -∗ WP d i (tabs i k) Q) := by
  unfold tabs ET TBS
  rw [bigSep_fin8]
  iintro ⟨HT, HeM, HbM, ⟨%ft, HE⟩, HT0, HT1, HT2, HT3, HT4, HT5, HT6, HT7⟩ Hk
  iapply (wp_copy d i (O := O) (W := W) (src := envM) (dst := envT) (by decide) (Finset.subset_univ _) (Finset.subset_univ _)) $$ [HT HeM HE]
  · isplitl [HT]; · iexact HT
    isplitl [HeM]; · iexact HeM
    iexact HE
  iintro ⟨HT, HeM, HE⟩
  ihave HE' := (Entails.of_eq (show (envT.view.loc (TH d i) ↦{fullShare} envT.view.write (Elt F) ft (envM.view.read (Elt F) fE) Finset.univ : sProp 𝕄)
      = envT.view.loc (TH d i) ↦{fullShare} fE by rw [View.write_whole_univ]; rfl)) $$ HE
  iapply (wp_tab d i (O := O) (W := W) (h := 0) hB) $$ [HT HbM HT0]
  · isplitl [HT]; · iexact HT
    isplitl [HbM]; · iexact HbM
    iexact HT0
  iintro ⟨HT, HbM, HT0⟩
  iapply (wp_tab d i (O := O) (W := W) (h := 1) hB) $$ [HT HbM HT1]
  · isplitl [HT]; · iexact HT
    isplitl [HbM]; · iexact HbM
    iexact HT1
  iintro ⟨HT, HbM, HT1⟩
  iapply (wp_tab d i (O := O) (W := W) (h := 2) hB) $$ [HT HbM HT2]
  · isplitl [HT]; · iexact HT
    isplitl [HbM]; · iexact HbM
    iexact HT2
  iintro ⟨HT, HbM, HT2⟩
  iapply (wp_tab d i (O := O) (W := W) (h := 3) hB) $$ [HT HbM HT3]
  · isplitl [HT]; · iexact HT
    isplitl [HbM]; · iexact HbM
    iexact HT3
  iintro ⟨HT, HbM, HT3⟩
  iapply (wp_tab d i (O := O) (W := W) (h := 4) hB) $$ [HT HbM HT4]
  · isplitl [HT]; · iexact HT
    isplitl [HbM]; · iexact HbM
    iexact HT4
  iintro ⟨HT, HbM, HT4⟩
  iapply (wp_tab d i (O := O) (W := W) (h := 5) hB) $$ [HT HbM HT5]
  · isplitl [HT]; · iexact HT
    isplitl [HbM]; · iexact HbM
    iexact HT5
  iintro ⟨HT, HbM, HT5⟩
  iapply (wp_tab d i (O := O) (W := W) (h := 6) hB) $$ [HT HbM HT6]
  · isplitl [HT]; · iexact HT
    isplitl [HbM]; · iexact HbM
    iexact HT6
  iintro ⟨HT, HbM, HT6⟩
  iapply (wp_tab d i (O := O) (W := W) (h := 7) hB) $$ [HT HbM HT7]
  · isplitl [HT]; · iexact HT
    isplitl [HbM]; · iexact HbM
    iexact HT7
  iintro ⟨HT, HbM, HT7⟩
  iapply Hk
  isplitl [HT]; · iexact HT
  isplitl [HeM]; · iexact HeM
  isplitl [HbM]; · iexact HbM
  isplitl [HE']; · iexact HE'
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  iexact HT7

/-- The atoms the tile copies in. -/
theorem ai_read (fA : S2048.Idx → Elt F .i32) (j : S64.Idx) :
    (aiM.slice (Rect.unit (s := S2048) (k0_off1 i) S64.size (k0_off1_inb i)) (fun _ => rfl)).view.read (Elt F) fA j = fA (at1 (b64 i + (j 0).val)) := by
  show fA ((Rect.unit (s := S2048) (k0_off1 i) S64.size (k0_off1_inb i)).emb j) = _
  refine congrArg fA (ext1 ?_)
  refine (emb_unit (s := S2048) (size := S64.size) (inb := k0_off1_inb i) (k0_off1_eq i) j 0).trans ?_
  have hj : (j 0).val < 64 := (j 0).isLt
  have hb := b64_le i
  exact (Nat.mod_eq_of_lt (show b64 i + (j 0).val < 2048 by omega)).symm

section Groups
variable {q qo1 qo2 : PosShare TreeShare} {kt vt : S4096x2x128.Idx → Elt F .f32} {fh : S8x64.Idx → Elt F .i32} {fA : S2048.Idx → Elt F .i32}
  {fM : S512x2048.Idx → Elt F .i32} {fE : S2048.Idx → Elt F .f32} {fB : Fin 8 → S2048.Idx → Elt F .f32}

theorem wp_grpN (g : Fin 8) (n m m' : ℕ) (hn : n < 8) (h1 : n = g.val) (h2 : m = 2 * n) (h3 : m' = 2 * n + 2) {k : PR (F := F) i} {Q : PUnit → sProp 𝕄} (hM : ∀ x, (fM x).toNat < 2048) :
    iprop(TS d i O W ∗ CS d i q fM fE fB m ∗ KA d i q qo1 kt fh fA n ∗ VA d i q qo2 vt fh fA n)
      ⊢ iprop((iprop(TS d i O W ∗ CS d i q fM fE fB m' ∗ KB d i q qo1 kt fh fA n hn ∗ VB d i q qo2 vt fh fA n hn) -∗ WP d i k Q)
        -∗ WP d i (grp i g k) Q) := by
  subst h1; subst h2; subst h3
  exact wp_grp d i hM

theorem wp_nextN (n n' m : ℕ) (hn : n < 7) (hn8 : n < 8) (h1 : n' = n + 1) (h2 : m = 2 * n + 2) {k : PR (F := F) i} {Q : PUnit → sProp 𝕄}
    (hA : ∀ x, (fA x).toNat < 512) (hf : HID fA (b64 i) 32 fh) :
    iprop(TS d i O W ∗ CS d i q fM fE fB m ∗ KB d i q qo1 kt fh fA n hn8 ∗ VB d i q qo2 vt fh fA n hn8)
      ⊢ iprop((iprop(TS d i O W ∗ CS d i q fM fE fB m ∗ KA d i q qo1 kt fh fA n' ∗ VA d i q qo2 vt fh fA n') -∗ WP d i k Q)
        -∗ WP d i (next i n hn k) Q) := by
  subst h1; subst h2
  exact wp_next d i hA hf

theorem wp_startK {k : PR (F := F) i} {Q : PUnit → sProp 𝕄} (hh : 0 < 8) (hA : ∀ x, (fA x).toNat < 512) (hf : HID fA (b64 i) 32 fh) :
    iprop((∃ f, khO.view.loc (TH d i) ↦[SK i]{fullShare} f) ∗ (∃ f, rowK.view.loc (TH d i) ↦{fullShare} f) ∗ semVal (cell d i oK) 0 ∗ semVal (cell d i gK) 0
        ∗ (ktM.view.loc (TH d i) ↦{q} kt) ∗ hidB.view.loc (TH d i) ↦{qo1} fh)
      ⊢ iprop((KA d i q qo1 kt fh fA 0 -∗ WP d i k Q) -∗ WP d i (fire i ktM 0 hh rowK gK k) Q) := by
  refine .trans ?_ (wp_first d i (t := ktM) (dst := rowK) (o := khO) (sg := gK) (so := oK) (q := q) (qo := qo1) (ft := kt) (fh := fh) (fA := fA) (So := SK i) (View.set_whole _) rowK_credit hA hf)
  unfold OD
  iintro ⟨⟨%o3, H3⟩, HrK, H⟩
  isplitl [H3 HrK]
  · isplitl [H3]
    · iexists o3; isplitr
      · ipureintro; intro x _ _ hx; exact absurd hx (Nat.not_lt_zero _)
      iexact H3
    iexact HrK
  iexact H

theorem wp_startV {k : PR (F := F) i} {Q : PUnit → sProp 𝕄} (hh : 0 < 8) (hA : ∀ x, (fA x).toNat < 512) (hf : HID fA (b64 i) 32 fh) :
    iprop((∃ f, vhO.view.loc (TH d i) ↦[SK i]{fullShare} f) ∗ (∃ f, rowV.view.loc (TH d i) ↦{fullShare} f) ∗ semVal (cell d i oV) 0 ∗ semVal (cell d i gV) 0
        ∗ (vtM.view.loc (TH d i) ↦{q} vt) ∗ hidB.view.loc (TH d i) ↦{qo2} fh)
      ⊢ iprop((VA d i q qo2 vt fh fA 0 -∗ WP d i k Q) -∗ WP d i (fire i vtM 0 hh rowV gV k) Q) := by
  refine .trans ?_ (wp_first d i (t := vtM) (dst := rowV) (o := vhO) (sg := gV) (so := oV) (q := q) (qo := qo2) (ft := vt) (fh := fh) (fA := fA) (So := SK i) (View.set_whole _) rowV_credit hA hf)
  unfold OD
  iintro ⟨⟨%o3, H3⟩, HrK, H⟩
  isplitl [H3 HrK]
  · isplitl [H3]
    · iexists o3; isplitr
      · ipureintro; intro x _ _ hx; exact absurd hx (Nat.not_lt_zero _)
      iexact H3
    iexact HrK
  iexact H

theorem wp_endK {k : PR (F := F) i} {Q : PUnit → sProp 𝕄} (hh : 7 < 8) :
    iprop(TS d i O W ∗ KB d i q qo1 kt fh fA 7 hh)
      ⊢ iprop((iprop(TS d i O W ∗ ((∃ f, ⌜KO i kt fA 8 f⌝ ∗ khO.view.loc (TH d i) ↦[SK i]{fullShare} f) ∗ ∃ f, rowK.view.loc (TH d i) ↦{fullShare} f)
            ∗ semVal (cell d i oK) 0 ∗ semVal (cell d i gK) 0 ∗ (ktM.view.loc (TH d i) ↦{q} kt) ∗ hidB.view.loc (TH d i) ↦{qo1} fh) -∗ WP d i k Q)
        -∗ WP d i (outWait i rowK khO 7 hh oK k) Q) :=
  wp_last d i (O := O) (W := W) (t := ktM) (dst := rowK) (o := khO) (sg := gK) (so := oK) (q := q) (qo := qo1) (ft := kt) (fh := fh) (fA := fA) (So := SK i) (g := 7)

theorem wp_endV {k : PR (F := F) i} {Q : PUnit → sProp 𝕄} (hh : 7 < 8) :
    iprop(TS d i O W ∗ VB d i q qo2 vt fh fA 7 hh)
      ⊢ iprop((iprop(TS d i O W ∗ ((∃ f, ⌜KO i vt fA 8 f⌝ ∗ vhO.view.loc (TH d i) ↦[SK i]{fullShare} f) ∗ ∃ f, rowV.view.loc (TH d i) ↦{fullShare} f)
            ∗ semVal (cell d i oV) 0 ∗ semVal (cell d i gV) 0 ∗ (vtM.view.loc (TH d i) ↦{q} vt) ∗ hidB.view.loc (TH d i) ↦{qo2} fh) -∗ WP d i k Q)
        -∗ WP d i (outWait i rowV vhO 7 hh oV k) Q) :=
  wp_last d i (O := O) (W := W) (t := vtM) (dst := rowV) (o := vhO) (sg := gV) (so := oV) (q := q) (qo := qo2) (ft := vt) (fh := fh) (fA := fA) (So := SK i) (g := 7)

/-- The atoms' copy and the eight lists. -/
theorem wp_lists {k : PR (F := F) i} {Q : PUnit → sProp 𝕄} :
    iprop(TS d i O W ∗ (aiM.view.loc (TH d i) ↦{q} fA) ∗ (∃ f, aiB.view.loc (TH d i) ↦{fullShare} f) ∗ (∃ f, hidB.view.loc (TH d i) ↦{fullShare} f))
      ⊢ iprop((iprop(TS d i O W ∗ (aiM.view.loc (TH d i) ↦{q} fA) ∗ HS d i fA 32) -∗ WP d i k Q)
        -∗ WP d i (copy i (aiM.slice (Rect.unit (s := S2048) (k0_off1 i) S64.size (k0_off1_inb i)) (fun _ => rfl)) aiB (sm 0) (View.wordExact_bits rfl) (View.wordExact_bits rfl) ⟨Or.inl rfl, trivial⟩ <| hidAll i k) Q) := by
  iintro ⟨HT, HaM, ⟨%fa, Ha⟩, %fh0, Hh⟩ Hk
  iapply (wp_copy d i (O := O) (W := W) (q := q) (fs := fA) (Ss := Finset.univ) (Sd := Finset.univ) (fd := fa)
    (src := aiM.slice (Rect.unit (s := S2048) (k0_off1 i) S64.size (k0_off1_inb i)) (fun _ => rfl)) (dst := aiB)
    (show 0 < S64.numel by decide) (Finset.subset_univ _) (Finset.subset_univ _)) $$ [HT HaM Ha]
  · isplitl [HT]; · iexact HT
    isplitl [HaM]; · iexact HaM
    iexact Ha
  iintro ⟨HT, HaM, Ha⟩
  ihave HH := (show iprop((aiB.view.loc (TH d i) ↦{fullShare} aiB.view.write (Elt F) fa
        ((aiM.slice (Rect.unit (s := S2048) (k0_off1 i) S64.size (k0_off1_inb i)) (fun _ => rfl)).view.read (Elt F) fA) Finset.univ)
      ∗ (hidB.view.loc (TH d i) ↦{fullShare} fh0)) ⊢ HS d i fA 0 by
    unfold HS
    rw [View.write_whole_univ]
    iintro ⟨Ha, Hh⟩
    isplitl [Ha]
    · iexists _; isplitr
      swap; · iexact Ha
      ipureintro; exact ai_read i fA
    iexists fh0; isplitr
    · ipureintro; intro x hx; exact absurd hx (by omega)
    iexact Hh) $$ [Ha Hh]
  · isplitl [Ha]; · iexact Ha
    iexact Hh
  iapply (wp_hidAll d i) $$ HH; iintro HH
  iapply Hk
  isplitl [HT]; · iexact HT
  isplitl [HaM]; · iexact HaM
  iexact HH

/-- The eight groups. -/
theorem wp_groups {k : PR (F := F) i} {Q : PUnit → sProp 𝕄} (hM : ∀ x, (fM x).toNat < 2048) (hA : ∀ x, (fA x).toNat < 512) (hf : HID fA (b64 i) 32 fh) :
    iprop(TS d i O W ∗ CS d i q fM fE fB 0 ∗ KA d i q qo1 kt fh fA 0 ∗ VA d i q qo2 vt fh fA 0)
      ⊢ iprop((iprop(TS d i O W ∗ CS d i q fM fE fB 16 ∗ KB d i q qo1 kt fh fA 7 (by omega) ∗ VB d i q qo2 vt fh fA 7 (by omega)) -∗ WP d i k Q)
        -∗ WP d i (grp i 0 <| next i 0 (by omega) <| grp i 1 <| next i 1 (by omega) <| grp i 2 <| next i 2 (by omega) <|
  grp i 3 <| next i 3 (by omega) <| grp i 4 <| next i 4 (by omega) <| grp i 5 <| next i 5 (by omega) <|
  grp i 6 <| next i 6 (by omega) <| grp i 7 k) Q) := by
  iintro H Hk
  iapply (wp_grpN d i (O := O) (W := W) 0 0 0 2 (by omega) rfl rfl rfl hM) $$ H; iintro H
  iapply (wp_nextN d i (O := O) (W := W) 0 1 2 _ _ rfl rfl hA hf) $$ H; iintro H
  iapply (wp_grpN d i (O := O) (W := W) 1 1 2 4 (by omega) rfl rfl rfl hM) $$ H; iintro H
  iapply (wp_nextN d i (O := O) (W := W) 1 2 4 _ _ rfl rfl hA hf) $$ H; iintro H
  iapply (wp_grpN d i (O := O) (W := W) 2 2 4 6 (by omega) rfl rfl rfl hM) $$ H; iintro H
  iapply (wp_nextN d i (O := O) (W := W) 2 3 6 _ _ rfl rfl hA hf) $$ H; iintro H
  iapply (wp_grpN d i (O := O) (W := W) 3 3 6 8 (by omega) rfl rfl rfl hM) $$ H; iintro H
  iapply (wp_nextN d i (O := O) (W := W) 3 4 8 _ _ rfl rfl hA hf) $$ H; iintro H
  iapply (wp_grpN d i (O := O) (W := W) 4 4 8 10 (by omega) rfl rfl rfl hM) $$ H; iintro H
  iapply (wp_nextN d i (O := O) (W := W) 4 5 10 _ _ rfl rfl hA hf) $$ H; iintro H
  iapply (wp_grpN d i (O := O) (W := W) 5 5 10 12 (by omega) rfl rfl rfl hM) $$ H; iintro H
  iapply (wp_nextN d i (O := O) (W := W) 5 6 12 _ _ rfl rfl hA hf) $$ H; iintro H
  iapply (wp_grpN d i (O := O) (W := W) 6 6 12 14 (by omega) rfl rfl rfl hM) $$ H; iintro H
  iapply (wp_nextN d i (O := O) (W := W) 6 7 14 _ _ rfl rfl hA hf) $$ H; iintro H
  iapply (wp_grpN d i (O := O) (W := W) 7 7 14 16 (by omega) rfl rfl rfl hM) $$ H; iintro H
  iapply Hk; iexact H
end Groups

set_option maxHeartbeats 800000 in
theorem wp_prog {q : PosShare TreeShare} {fE : S2048.Idx → Elt F .f32} {fb : S16384.Idx → Elt F .f32} {fM : S512x2048.Idx → Elt F .i32}
    {kt vt : S4096x2x128.Idx → Elt F .f32} {fA : S2048.Idx → Elt F .i32} {fB : Fin 8 → S2048.Idx → Elt F .f32}
    (hB : ∀ h x, fB h x = fb (atB (2048 * h.val + (x 0).val))) (hM : ∀ x, (fM x).toNat < 2048) (hA : ∀ x, (fA x).toNat < 512) :
    iprop(TS d i O W ∗ IN d i q fE fb fM kt vt fA ∗ SCR d i ∗ SEM4 d i ∗ OUT0 d i)
      ⊢ WP d i (prog i) (fun _ => iprop(TS d i O W ∗ IN d i q fE fb fM kt vt fA ∗ SCR d i ∗ SEM4 d i ∗ OUT1 d i fE fB fM kt vt fA)) := by
  unfold IN SCR SEM4 OUT0 prog
  iintro ⟨HT, ⟨HeM, HbM, HiM, HkM, HvM, HaM⟩, ⟨HE, HTB, Hix, Heb, Hbb, Ha, Hh, HrK, HrV⟩, ⟨HgK, HgV, HoK, HoV⟩, ⟨⟨%o1, H1⟩, ⟨%o2, H2⟩, H3, H4⟩⟩
  iapply (wp_lists d i (O := O) (W := W) (fA := fA) (q := q)) $$ [HT HaM Ha Hh]
  · isplitl [HT]; · iexact HT
    isplitl [HaM]; · iexact HaM
    isplitl [Ha]; · iexact Ha
    iexact Hh
  unfold HS
  iintro ⟨HT, HaM, ⟨%fa', -, Ha⟩, ⟨%fh, %hf, Hh⟩⟩
  ihave Hh' := (pointsTo_share (PosShare.mem_left_op_right fullShare)).1 $$ Hh
  icases Hh' with ⟨Hh1, Hh2⟩
  iapply (wp_startK d i (q := q) (kt := kt) (fh := fh) (fA := fA) _ hA hf) $$ [H3 HrK HoK HgK HkM Hh1]
  · isplitl [H3]; · iexact H3
    isplitl [HrK]; · iexact HrK
    isplitl [HoK]; · iexact HoK
    isplitl [HgK]; · iexact HgK
    isplitl [HkM]; · iexact HkM
    iexact Hh1
  iintro HK
  iapply (wp_startV d i (q := q) (vt := vt) (fh := fh) (fA := fA) _ hA hf) $$ [H4 HrV HoV HgV HvM Hh2]
  · isplitl [H4]; · iexact H4
    isplitl [HrV]; · iexact HrV
    isplitl [HoV]; · iexact HoV
    isplitl [HgV]; · iexact HgV
    isplitl [HvM]; · iexact HvM
    iexact Hh2
  iintro HV
  iapply (wp_tabs d i (O := O) (W := W) hB) $$ [HT HeM HbM HE HTB]
  · isplitl [HT]; · iexact HT
    isplitl [HeM]; · iexact HeM
    isplitl [HbM]; · iexact HbM
    isplitl [HE]; · iexact HE
    iexact HTB
  iintro ⟨HT, HeM, HbM, HE, HTB⟩
  iapply (wp_groups d i (O := O) (W := W) (q := q) (kt := kt) (vt := vt) (fE := fE) (fB := fB) hM hA hf) $$ [HT HiM Hix Heb Hbb HE HTB H1 H2 HK HV]
  · isplitl [HT]; · iexact HT
    isplitl [HiM Hix Heb Hbb HE HTB H1 H2]
    · unfold CS
      isplitl [HiM]; · iexact HiM
      isplitl [Hix]; · iexact Hix
      isplitl [Heb]; · iexact Heb
      isplitl [Hbb]; · iexact Hbb
      isplitl [HE]; · iexact HE
      isplitl [HTB]; · iexact HTB
      isplitl [H1]
      · iexists o1; isplitr
        · ipureintro; intro x hx hx'; exact absurd hx' (by omega)
        iexact H1
      iexists o2; isplitr
      · ipureintro; intro x hx hx'; exact absurd hx' (by omega)
      iexact H2
    isplitl [HK]; · iexact HK
    iexact HV
  iintro ⟨HT, HC, HK, HV⟩
  iapply (wp_endK d i (O := O) (W := W) (q := q) (kt := kt) (fh := fh) (fA := fA)) $$ [HT HK]
  · isplitl [HT]; · iexact HT
    iexact HK
  iintro ⟨HT, ⟨⟨%p3, %hp3, H3⟩, HrK⟩, HoK, HgK, HkM, Hh1⟩
  iapply (wp_endV d i (O := O) (W := W) (q := q) (vt := vt) (fh := fh) (fA := fA)) $$ [HT HV]
  · isplitl [HT]; · iexact HT
    iexact HV
  iintro ⟨HT, ⟨⟨%p4, %hp4, H4⟩, HrV⟩, HoV, HgV, HvM, Hh2⟩
  ihave Hh := (pointsTo_share (PosShare.mem_left_op_right fullShare)).2 $$ [Hh1 Hh2]
  · isplitl [Hh1]; · iexact Hh1
    iexact Hh2
  unfold CS TBS ET
  icases HC with ⟨HiM, Hix, Heb, Hbb, HE, HTB, H1, H2⟩
  unfold WP
  rw [wp_ret]
  imodintro
  unfold OUT1
  isplitl [HT]; · iexact HT
  isplitl [HeM HbM HiM HkM HvM HaM]
  · isplitl [HeM]; · iexact HeM
    isplitl [HbM]; · iexact HbM
    isplitl [HiM]; · iexact HiM
    isplitl [HkM]; · iexact HkM
    isplitl [HvM]; · iexact HvM
    iexact HaM
  isplitl [HE HTB Hix Heb Hbb Ha Hh HrK HrV]
  · isplitl [HE]; · iexists _; iexact HE
    isplitl [HTB]
    · iapply (show bigSep Finset.univ (TB d i fB) ⊢ iprop(TB0 d i 0 ∗ TB0 d i 1 ∗ TB0 d i 2 ∗ TB0 d i 3 ∗ TB0 d i 4 ∗ TB0 d i 5 ∗ TB0 d i 6 ∗ TB0 d i 7) from
        (bigSep_mono fun h _ => TB_any d i fB h).trans (Entails.of_eq (bigSep_fin8 (TB0 d i))))
      iexact HTB
    isplitl [Hix]; · iexact Hix
    isplitl [Heb]; · iexact Heb
    isplitl [Hbb]; · iexact Hbb
    isplitl [Ha]; · iexists _; iexact Ha
    isplitl [Hh]; · iexists _; iexact Hh
    isplitl [HrK]; · iexact HrK
    iexact HrV
  isplitl [HgK HgV HoK HoV]
  · isplitl [HgK]; · iexact HgK
    isplitl [HgV]; · iexact HgV
    isplitl [HoK]; · iexact HoK
    iexact HoV
  isplitl [H1]; · iexact H1
  isplitl [H2]; · iexact H2
  isplitl [H3]
  · iexists p3; isplitr; · ipureintro; exact hp3
    iexact H3
  iexists p4; isplitr; · ipureintro; exact hp4
  iexact H4

end Cert.Proof.KRun
end
-- ==== Proof.KTile2.lean ====
/-
  The tile's task as the launch states it: its own buffers and semaphores are the program's, and its rows of the outputs
  end at their values.
-/
module

public import proofs.«01_k».proof.Proof.KTile

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 ix4)

variable {F : FTy → Type} [FloatOps F]

local notation "𝕄" => MT nD τ sig (HIx 1) (Elt F) ℕ UU ℕ

variable (d : Dev nD) (i : grid0.Coords)

/-! ## The tile's own buffers and semaphores -/

omit [FloatOps F] in
theorem sep_flat (P Q R : sProp 𝕄) : iprop((P ∗ Q) ∗ R) = iprop(P ∗ Q ∗ R) := by
  refine BI.Entails.antisymm ?_ ?_
  · show iprop((P ∗ Q) ∗ R) ⊢ iprop(P ∗ Q ∗ R)
    iintro ⟨⟨HP, HQ⟩, HR⟩
    isplitl [HP]; · iexact HP
    isplitl [HQ] <;> iassumption
  · show iprop(P ∗ Q ∗ R) ⊢ iprop((P ∗ Q) ∗ R)
    iintro ⟨HP, HQ, HR⟩
    isplitr [HR]
    · isplitl [HP] <;> iassumption
    iexact HR

def sRef : Fin 16 → Ref sig .scVector :=
  ![cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]
omit [FloatOps F] in
theorem sRef_inj : Function.Injective sRef := by decide +kernel
/-- The sixteen scratch buffers, as the device names them. -/
def sEmb : Fin 16 ↪ DevRef τ sig := ⟨fun k => (Proc.scVector (cV i) (jV i)).devRef (sRef k), fun _ _ h => sRef_inj (Proc.devRef_injective _ h)⟩
omit [FloatOps F] in
theorem sRef_own : ∀ k, ((Proc.scVector (cV i) (jV i)).devRef (sRef k)).owner = .proc (.scVector (cV i) (jV i)) := by
  intro k; fin_cases k <;> rfl
omit [FloatOps F] in
theorem sEmb_sub : Finset.univ.map (sEmb i) ⊆ ownRefs (τ := τ) (.scVector (cV i) (jV i)) := by
  intro b hb
  obtain ⟨k, -, rfl⟩ := Finset.mem_map.mp hb
  exact SparseCore.Cfg.mem_ownRefs_of_owner (sRef_own i k)

omit [FloatOps F] in
theorem bigSep_fin16 (Φ : Fin 16 → sProp 𝕄) : bigSep Finset.univ Φ
    = iprop(Φ 0 ∗ (Φ 1 ∗ Φ 2 ∗ Φ 3 ∗ Φ 4 ∗ Φ 5 ∗ Φ 6 ∗ Φ 7 ∗ Φ 8) ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide]
  repeat rw [SparseCore.bigSep_insert' (by decide)]
  rw [bigSep_singleton]
  simp only [sep_flat]

/-- What the tile owns beside its scratch buffers. -/
def XB : sProp 𝕄 := bigSep (ownRefs (τ := τ) (.scVector (cV i) (jV i)) \ Finset.univ.map (sEmb i)) fun b => iprop(∃ f, ((d, b) : Loc nD τ sig) ↦{fullShare} f)

omit [FloatOps F] in
theorem ownBufs_V : (ownBufs (TH d i) : sProp 𝕄) = iprop(SCR d i ∗ XB d i) := by
  unfold SparseCore.Cfg.ownBufs XB
  refine (bigSep_sdiff_split (sEmb_sub i)).trans ?_
  refine congrArg (fun P => iprop(P ∗ _)) ?_
  rw [bigSep_map, bigSep_fin16]
  rfl

omit [FloatOps F] in
theorem gates_scoped : (SemLoc.dma gK : SemLoc sig).isScoped .scVector = true ∧ (SemLoc.dma gV : SemLoc sig).isScoped .scVector = true
    ∧ (SemLoc.dma oK : SemLoc sig).isScoped .scVector = true ∧ (SemLoc.dma oV : SemLoc sig).isScoped .scVector = true := by decide
omit [FloatOps F] in
theorem gates_ne : gV ≠ gK ∧ oK ≠ gK ∧ oK ≠ gV ∧ oV ≠ gK ∧ oV ≠ gV ∧ oV ≠ oK := by decide

omit [FloatOps F] in
theorem ownSems0_V : (ownSems0 (TH d i) : sProp 𝕄) = iprop(SEM4 d i ∗ bigSep (TT d i) fun g => semVal g 0) := by
  have own : ∀ s, (SemLoc.dma s : SemLoc sig).isScoped .scVector = true → cell d i s ∈ ownCells (TH d i) := fun s h => mem_ownCells.mpr ⟨rfl, h⟩
  obtain ⟨h1, h2, h3, h4⟩ := gates_scoped
  obtain ⟨n1, n2, n3, n4, n5, n6⟩ := gates_ne
  unfold SparseCore.Cfg.ownSems0 SEM4
  rw [SparseCore.bigSep_erase' (own gK h1), SparseCore.bigSep_erase' (Finset.mem_erase.mpr ⟨cell_ne d i n1, own gV h2⟩),
    SparseCore.bigSep_erase' (Finset.mem_erase.mpr ⟨cell_ne d i n3, Finset.mem_erase.mpr ⟨cell_ne d i n2, own oK h3⟩⟩),
    SparseCore.bigSep_erase' (Finset.mem_erase.mpr ⟨cell_ne d i n6, Finset.mem_erase.mpr ⟨cell_ne d i n5, Finset.mem_erase.mpr ⟨cell_ne d i n4, own oV h4⟩⟩⟩)]
  simp only [sep_flat]

/-! ## What the outputs hold -/

variable (fE : S2048.Idx → Elt F .f32) (fb : S16384.Idx → Elt F .f32) (fM : S512x2048.Idx → Elt F .i32)
  (kt vt tv : S4096x2x128.Idx → Elt F .f32) (fA : S2048.Idx → Elt F .i32)

/-- The envelope at every edge, -/
def envV : S512x2048.Idx → Elt F .f32 := fun x => fE (at1 (fM x).toNat)
/-- the biases, head by head, -/
def biasV : S8x512x2048.Idx → Elt F .f32 := fun x => fb (atB (2048 * (x 0).val + ((at1 (fM (ix2 (x 1) (x 2))).toNat) 0).val))
/-- the rows of a table, head by head. -/
def rowsV : S8x2048x2x128.Idx → Elt F .f32 := fun x => tv (atT ((fA (at1 (x 1).val)).toNat + 512 * (x 0).val) (x 2) (x 3))

/-- The tile's rows of the outputs, at those. -/
def OUT2 : sProp 𝕄 :=
  iprop((envO.view.loc (TH d i) ↦[SE i]{fullShare} envV fE fM) ∗ (biasO.view.loc (TH d i) ↦[SB i]{fullShare} biasV fb fM)
    ∗ (khO.view.loc (TH d i) ↦[SK i]{fullShare} rowsV kt fA) ∗ vhO.view.loc (TH d i) ↦[SK i]{fullShare} rowsV vt fA)

theorem out_env : iprop(∃ f, ⌜EO i fE fM 16 f⌝ ∗ envO.view.loc (TH d i) ↦[SE i]{fullShare} f) ⊢ (envO.view.loc (TH d i) ↦[SE i]{fullShare} envV fE fM : sProp 𝕄) := by
  iintro ⟨%f, %h, H⟩
  iapply (Entails.of_eq (pointsTo_congr (ℓ := envO.view.loc (TH d i)) (I := SE i) (q := fullShare) (f := f) (g := envV fE fM)
    fun x hx => h x (Finset.mem_filter.mp hx).2.1 (Finset.mem_filter.mp hx).2.2)) $$ H
theorem out_bias : iprop(∃ f, ⌜BO i (fun h x => fb (atB (2048 * h.val + (x 0).val))) fM 16 0 f⌝ ∗ biasO.view.loc (TH d i) ↦[SB i]{fullShare} f)
    ⊢ (biasO.view.loc (TH d i) ↦[SB i]{fullShare} biasV fb fM : sProp 𝕄) := by
  iintro ⟨%f, %h, H⟩
  iapply (Entails.of_eq (pointsTo_congr (ℓ := biasO.view.loc (TH d i)) (I := SB i) (q := fullShare) (f := f) (g := biasV fb fM)
    fun x hx => h x (Finset.mem_filter.mp hx).2.1 (.inl (Finset.mem_filter.mp hx).2.2))) $$ H
theorem out_kh : iprop(∃ f, ⌜KO i tv fA 8 f⌝ ∗ khO.view.loc (TH d i) ↦[SK i]{fullShare} f) ⊢ (khO.view.loc (TH d i) ↦[SK i]{fullShare} rowsV tv fA : sProp 𝕄) := by
  iintro ⟨%f, %h, H⟩
  iapply (Entails.of_eq (pointsTo_congr (ℓ := khO.view.loc (TH d i)) (I := SK i) (q := fullShare) (f := f) (g := rowsV tv fA)
    fun x hx => h x (Finset.mem_filter.mp hx).2.1 (Finset.mem_filter.mp hx).2.2 (x 0).isLt)) $$ H
theorem out_vh : iprop(∃ f, ⌜KO i tv fA 8 f⌝ ∗ vhO.view.loc (TH d i) ↦[SK i]{fullShare} f) ⊢ (vhO.view.loc (TH d i) ↦[SK i]{fullShare} rowsV tv fA : sProp 𝕄) := by
  iintro ⟨%f, %h, H⟩
  iapply (Entails.of_eq (pointsTo_congr (ℓ := vhO.view.loc (TH d i)) (I := SK i) (q := fullShare) (f := f) (g := rowsV tv fA)
    fun x hx => h x (Finset.mem_filter.mp hx).2.1 (Finset.mem_filter.mp hx).2.2 (x 0).isLt)) $$ H

theorem out_all : OUT1 d i fE (fun h x => fb (atB (2048 * h.val + (x 0).val))) fM kt vt fA ⊢ OUT2 d i fE fb fM kt vt fA := by
  unfold OUT1 OUT2
  iintro ⟨H1, H2, H3, H4⟩
  isplitl [H1]; · iapply (out_env d i) $$ H1
  isplitl [H2]; · iapply (out_bias d i) $$ H2
  isplitl [H3]; · iapply (out_kh d i) $$ H3
  iapply (out_vh d i) $$ H4

variable {fE fb fM kt vt fA}

/-- The tile's task: from its share of the inputs and its rows of the outputs to those rows at their values. -/
theorem tile_prog (hM : ∀ x, (fM x).toNat < 2048) (hA : ∀ x, (fA x).toNat < 512) (q : PosShare TreeShare)
    (O : CellTallies nD τ sig (HIx 1)) (W : Waits sig (HIx 1)) (hO : ∀ g, O g none = 0) :
    iprop(levAts (K (F := F)).L (K (F := F)).lev ∗ emp ∗ (IN d i q fE fb fM kt vt fA ∗ OUT0 d i)
        ∗ scopedBufs (TH d i) ∗ scopedSems0 (TH d i) ∗ owes (TH d i) O W)
      ⊢ WP d i (prog i) (fun _ => iprop((IN d i q fE fb fM kt vt fA ∗ OUT2 d i fE fb fM kt vt fA)
            ∗ scopedBufs (TH d i) ∗ scopedSems0 (TH d i) ∗ ∃ W', ⌜∀ p ∈ W', p ∈ W ∨ p.2 = none⌝ ∗ owes (TH d i) O W')) := by
  rw [(K (F := F)).scopedBufs_V scFacts d (cV i) (jV i), SparseCore.Cfg.scopedSems0_V (Val := Elt F) d (cV i) (jV i), ownSems0_V, ownBufs_V]
  have key := wp_prog d i (O := O) (W := W) (q := q) (fE := fE) (fb := fb) (fM := fM) (kt := kt) (vt := vt) (fA := fA) (fun _ _ => rfl) hM hA
  refine .trans ?_ ((show iprop((TS d i O W ∗ IN d i q fE fb fM kt vt fA ∗ SCR d i ∗ SEM4 d i ∗ OUT0 d i) ∗ XB d i) ⊢ _ from by
    iintro ⟨H, HX⟩
    ihave H' := key $$ H
    iapply (wp_frame_r frame (wpE (defs₀ (F := F)) 𝒱₀ (TH d i) none) Set.univ)
    isplitl [H']; · iexact H'
    iexact HX).trans (wp_mono frame _ _ fun _ => ?_))
  · iintro ⟨#Hlv, -, ⟨Hin, Hout⟩, ⟨Hscr, Hxb⟩, ⟨Hsem, Htt⟩, HO⟩
    ihave Hmw := (show levAts (K (F := F)).L (K (F := F)).lev ⊢ Transfers.MayWaits (TH d i) ι₀ O from
      (K (F := F)).mayWaits_none (thr := TH d i) hO) $$ Hlv
    isplitr [Hxb]
    swap; · iexact Hxb
    isplitl [Hmw HO Htt]
    · unfold TS TW
      isplitl [Hmw HO]
      · isplitl [Hmw]; · iexact Hmw
        iexists W; isplitr
        · ipureintro; exact fun p hp => .inl hp
        iexact HO
      iexact Htt
    isplitl [Hin]; · iexact Hin
    isplitl [Hscr]; · iexact Hscr
    isplitl [Hsem]; · iexact Hsem
    iexact Hout
  iintro ⟨⟨HT, Hin, Hscr, Hsem, Hout⟩, Hxb⟩
  unfold TS TW
  icases HT with ⟨⟨-, HO⟩, Htt⟩
  isplitl [Hin Hout]
  · isplitl [Hin]; · iexact Hin
    iapply (out_all d i fE fb fM kt vt fA) $$ Hout
  isplitl [Hscr Hxb]
  · isplitl [Hscr]; · iexact Hscr
    iexact Hxb
  isplitl [Hsem Htt]
  · isplitl [Hsem]; · iexact Hsem
    iexact Htt
  iexact HO

end Cert.Proof.KRun
end
-- ==== Proof.KBody.lean ====
/-
  The printed body is the program of pieces.
-/
module

public import proofs.«01_k».proof.Proof.KProg

@[expose] public section

set_option maxRecDepth 1000000
set_option maxHeartbeats 0

noncomputable section

namespace Cert.Proof.KRun

open Cert.Kernel Cert.Kernel.Gen
open Cert.Kernel.Facts
open Idealize.ShloMosaic
open Idealize.SL.Sem

variable {F : FTy → Type} [FloatOps F] (i : grid0.Coords)

set_option Elab.async false in
theorem body_eq : cc0__sc_gather_body (F := F) i (Memref.whole main_arg2_scv) (Memref.isWhole_whole _) (Memref.whole main_v8_scv) (Memref.isWhole_whole _) (Memref.whole main_arg5_scv) (Memref.isWhole_whole _) (Memref.whole main_v9_scv) (Memref.isWhole_whole _) (Memref.whole main_v10_scv) (Memref.isWhole_whole _) (Memref.whole main_arg4_scv) (Memref.isWhole_whole _) (Memref.whole main_v11_0_scv) (Memref.isWhole_whole _) (Memref.whole main_v11_1_scv) (Memref.isWhole_whole _) (Memref.whole main_v11_2_scv) (Memref.isWhole_whole _) (Memref.whole main_v11_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 = prog i := by
  unfold cc0__sc_gather_body k0_part73 k0_part25 k0_part31 k0_part37 k0_part43 k0_part49 k0_part55 k0_part56 k0_part62 k0_part68
  simp only [Idealize.SL.Sem.Prog.bind_assoc, bind_assoc]
  rfl

end Cert.Proof.KRun
end
-- ==== Proof.KLaunch.lean ====
/-
  The tasks of the thirty-two tiles, and how the kernel's operands and results deal to them.
-/
module

public import proofs.«01_k».proof.Proof.KTile2
public import proofs.«01_k».proof.Proof.KBody

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2 ix3 ix4)

variable {F : FTy → Type} [FloatOps F]

local notation "𝕄" => MT nD τ sig (HIx 1) (Elt F) ℕ UU ℕ

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

/-- SparseCore and subcore of a tile. -/
abbrev Tl : Type := Fin 2 × Fin 16
def co (t : Tl) : grid0.Coords := coordsV t.1 t.2
/-- Its share of what all tiles read: one of thirty-two. -/
def sh (t : Tl) : PosShare TreeShare := Transfers.dealOf fullShare (Finset.univ : Finset (Fin 32)) (finProdFinEquiv t)

omit [FloatOps F] in
theorem b16_co (t : Tl) : b16 (co t) = 32 * t.2.val + 16 * t.1.val := rfl
omit [FloatOps F] in
theorem b64_co (t : Tl) : b64 (co t) = 128 * t.2.val + 64 * t.1.val := rfl

/-- What the kernel is called on. -/
structure Args (F : FTy → Type) where
  fE : S2048.Idx → Elt F .f32
  fb : S16384.Idx → Elt F .f32
  fM : S512x2048.Idx → Elt F .i32
  kt : S4096x2x128.Idx → Elt F .f32
  vt : S4096x2x128.Idx → Elt F .f32
  fA : S2048.Idx → Elt F .i32

variable (A : Dev nD → Args F)

/-- What a tile starts with, -/
def GO (d : Dev nD) (t : Tl) : sProp 𝕄 := iprop(IN d (co t) (sh t) (A d).fE (A d).fb (A d).fM (A d).kt (A d).vt (A d).fA ∗ OUT0 d (co t))
/-- and ends with. -/
def TD (d : Dev nD) (t : Tl) : sProp 𝕄 := iprop(IN d (co t) (sh t) (A d).fE (A d).fb (A d).fM (A d).kt (A d).vt (A d).fA
  ∗ OUT2 d (co t) (A d).fE (A d).fb (A d).fM (A d).kt (A d).vt (A d).fA)

section Storable
variable (d : Dev nD) (i : grid0.Coords) (q : PosShare TreeShare) (fE : S2048.Idx → Elt F .f32) (fb : S16384.Idx → Elt F .f32) (fM : S512x2048.Idx → Elt F .i32)
  (kt vt : S4096x2x128.Idx → Elt F .f32) (fA : S2048.Idx → Elt F .i32)
instance IN_storable : BI.Storable (upEmb : UEmb _ 𝕄) (IN d i q fE fb fM kt vt fA) := by unfold IN; infer_instance
instance some_storable {ℓ : Loc nD τ sig} (R : Finset (Idx ℓ)) : BI.Storable (upEmb : UEmb _ 𝕄) iprop(∃ f : Buf (Elt F) ℓ, ℓ ↦[R]{fullShare} f) := inferInstance
set_option synthInstance.maxHeartbeats 400000 in
instance OUT0_storable : BI.Storable (upEmb : UEmb _ 𝕄) (OUT0 (F := F) d i) := by unfold OUT0; infer_instance
instance OUT2_storable : BI.Storable (upEmb : UEmb _ 𝕄) (OUT2 d i fE fb fM kt vt fA) := by unfold OUT2; infer_instance
end Storable

instance GO_storable (d : Dev nD) (t : Tl) : BI.Storable (upEmb : UEmb _ 𝕄) (GO A d t) := by unfold GO; infer_instance
instance TD_storable (d : Dev nD) (t : Tl) : BI.Storable (upEmb : UEmb _ 𝕄) (TD A d t) := by unfold TD; infer_instance

/-- A SparseCore takes what its sixteen tiles start with, and brings back what they end with. -/
def P : (K (F := F)).Pay (nD := nD) (Val := Elt F) (Name := ℕ) (U := UU) where
  st := fun q d c => match q with | 0 => bigSep Finset.univ fun j : Fin 16 => GO A d (c, j)
  dn := fun q d c => match q with | 0 => bigSep Finset.univ fun j : Fin 16 => TD A d (c, j)
  go := fun q d c j => match q with | 0 => GO A d (c, j)
  td := fun q d c j => match q with | 0 => TD A d (c, j)
  x := fun _ _ => iprop(emp)

instance P_storable : (P A).IsStorable where
  st q d c := match q with | 0 => (inferInstance : BI.Storable (upEmb : UEmb _ 𝕄) (bigSep Finset.univ fun j : Fin 16 => GO A d (c, j)))
  dn q d c := match q with | 0 => (inferInstance : BI.Storable (upEmb : UEmb _ 𝕄) (bigSep Finset.univ fun j : Fin 16 => TD A d (c, j)))
  go q d c j := match q with | 0 => (inferInstance : BI.Storable (upEmb : UEmb _ 𝕄) (GO A d (c, j)))
  td q d c j := match q with | 0 => (inferInstance : BI.Storable (upEmb : UEmb _ 𝕄) (TD A d (c, j)))

/-- The indices name entries of the tables. -/
def ArgsOK : Prop := ∀ d, (∀ x, ((A d).fM x).toNat < 2048) ∧ ∀ x, ((A d).fA x).toNat < 512

/-! ## The obligation -/

theorem defs₀_vector (c : Fin τ.nSC) (s : Fin τ.nSub) :
    defs₀ (F := F) (.scVector c s) 0 () = SparseCore.onTile hcore0 hsub0 (fun c s => prog (F := F) (coordsV c s)) ⟨⟩ c s := by
  refine Eq.trans (b := SparseCore.onTile hcore0 hsub0 (fun c s => cc0__sc_gather_body (F := F) (coordsV c s) (Memref.whole main_arg2_scv) (Memref.isWhole_whole _) (Memref.whole main_v8_scv) (Memref.isWhole_whole _) (Memref.whole main_arg5_scv) (Memref.isWhole_whole _) (Memref.whole main_v9_scv) (Memref.isWhole_whole _) (Memref.whole main_v10_scv) (Memref.isWhole_whole _) (Memref.whole main_arg4_scv) (Memref.isWhole_whole _) (Memref.whole main_v11_0_scv) (Memref.isWhole_whole _) (Memref.whole main_v11_1_scv) (Memref.isWhole_whole _) (Memref.whole main_v11_2_scv) (Memref.isWhole_whole _) (Memref.whole main_v11_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89) ⟨⟩ c s) rfl ?_
  exact congrArg (fun f => SparseCore.onTile hcore0 hsub0 f ⟨⟩ c s) (funext fun c => funext fun s => body_eq (F := F) (coordsV c s))

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

theorem tileObl (hA : ArgsOK A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_prog d (coordsV ⟨_, hci.1⟩ ⟨_, hci.2⟩) (hA d).1 (hA d).2 (sh (c, i)) O W hO).trans (wp_mono frame _ _ fun _ => obl_post)

theorem vecSplit : (K (F := F)).VecSplit' (P A) 0 := by
  intro d c
  show (bigSep Finset.univ fun j : Fin 16 => GO A d (c, j)) ⊢ |={Set.univ}=> iprop((bigSep Finset.univ fun j : Fin 16 => GO A d (c, j))
    ∗ ((bigSep Finset.univ fun j : Fin 16 => TD A d (c, j)) -∗ bigSep Finset.univ fun j : Fin 16 => TD A d (c, j)))
  iintro H; imodintro
  isplitl [H]; · iexact H
  iintro H; iexact H

/-! ## Dealing the arrays to the tiles -/

omit [FloatOps F] in
theorem share_deal {ℓ : Loc nD τ sig} (f : Buf (Elt F) ℓ) : (bigSep Finset.univ fun t : Tl => (ℓ ↦{sh t} f : sProp 𝕄)) = (ℓ ↦{fullShare} f) :=
  ((Transfers.pointsTo_deal (Finset.univ : Finset (Fin 32)) ⟨0, Finset.mem_univ _⟩ fullShare).trans
    (bigSep_univ_equiv (finProdFinEquiv (m := 2) (n := 16)) _)).symm

omit [FloatOps F] in
theorem rows_deal {ℓ : Loc nD τ sig} (f : Buf (Elt F) ℓ) (R : Tl → Finset (Idx ℓ)) (hd : ∀ t t', t ≠ t' → Disjoint (R t) (R t'))
    (hc : ∀ x, ∃ t, x ∈ R t) : (bigSep Finset.univ fun t : Tl => (ℓ ↦[R t]{fullShare} f : sProp 𝕄)) = (ℓ ↦{fullShare} f) := by
  rw [← pointsTo_biUnion Finset.univ (ℓ := ℓ) R fun t _ t' _ => hd t t']
  rw [show Finset.univ.biUnion R = Finset.univ from Finset.eq_univ_iff_forall.mpr fun x =>
    let ⟨t, ht⟩ := hc x; Finset.mem_biUnion.mpr ⟨t, Finset.mem_univ _, ht⟩]

theorem rowOf (n : ℕ) (h : n < 512) : ∃ t : Tl, b16 (co t) ≤ n ∧ n < b16 (co t) + 16 :=
  ⟨(⟨n / 16 % 2, by omega⟩, ⟨n / 32, by omega⟩), by rw [b16_co]; show 32 * (n / 32) + 16 * (n / 16 % 2) ≤ n; omega,
    by rw [b16_co]; show n < 32 * (n / 32) + 16 * (n / 16 % 2) + 16; omega⟩
theorem edgeOf (n : ℕ) (h : n < 2048) : ∃ t : Tl, b64 (co t) ≤ n ∧ n < b64 (co t) + 64 :=
  ⟨(⟨n / 64 % 2, by omega⟩, ⟨n / 128, by omega⟩), by rw [b64_co]; show 128 * (n / 128) + 64 * (n / 64 % 2) ≤ n; omega,
    by rw [b64_co]; show n < 128 * (n / 128) + 64 * (n / 64 % 2) + 64; omega⟩
theorem row_uniq {n : ℕ} {t t' : Tl} (h : b16 (co t) ≤ n ∧ n < b16 (co t) + 16) (h' : b16 (co t') ≤ n ∧ n < b16 (co t') + 16) : t = t' := by
  rw [b16_co] at h h'
  have h1 := t.1.isLt; have h2 := t'.1.isLt
  exact Prod.ext (Fin.ext (by omega)) (Fin.ext (by omega))
theorem edge_uniq {n : ℕ} {t t' : Tl} (h : b64 (co t) ≤ n ∧ n < b64 (co t) + 64) (h' : b64 (co t') ≤ n ∧ n < b64 (co t') + 64) : t = t' := by
  rw [b64_co] at h h'
  have h1 := t.1.isLt; have h2 := t'.1.isLt
  exact Prod.ext (Fin.ext (by omega)) (Fin.ext (by omega))

theorem SE_disj (t t' : Tl) (h : t ≠ t') : Disjoint (SE (co t)) (SE (co t')) :=
  Finset.disjoint_left.mpr fun _ h1 h2 => h (row_uniq (Finset.mem_filter.mp h1).2 (Finset.mem_filter.mp h2).2)
theorem SB_disj (t t' : Tl) (h : t ≠ t') : Disjoint (SB (co t)) (SB (co t')) :=
  Finset.disjoint_left.mpr fun _ h1 h2 => h (row_uniq (Finset.mem_filter.mp h1).2 (Finset.mem_filter.mp h2).2)
theorem SK_disj (t t' : Tl) (h : t ≠ t') : Disjoint (SK (co t)) (SK (co t')) :=
  Finset.disjoint_left.mpr fun _ h1 h2 => h (edge_uniq (Finset.mem_filter.mp h1).2 (Finset.mem_filter.mp h2).2)
theorem SE_cover (x : S512x2048.Idx) : ∃ t, x ∈ SE (co t) :=
  let ⟨t, h⟩ := rowOf (x 0).val (x 0).isLt; ⟨t, Finset.mem_filter.mpr ⟨Finset.mem_univ _, h⟩⟩
theorem SB_cover (x : S8x512x2048.Idx) : ∃ t, x ∈ SB (co t) :=
  let ⟨t, h⟩ := rowOf (x 1).val (x 1).isLt; ⟨t, Finset.mem_filter.mpr ⟨Finset.mem_univ _, h⟩⟩
theorem SK_cover (x : S8x2048x2x128.Idx) : ∃ t, x ∈ SK (co t) :=
  let ⟨t, h⟩ := edgeOf (x 1).val (x 1).isLt; ⟨t, Finset.mem_filter.mpr ⟨Finset.mem_univ _, h⟩⟩

abbrev lc (d : Dev nD) (b : Ref sig .tc) : Loc nD τ sig := (SparseCore.T d).loc b

/-- The kernel's operands whole, -/
def INW (a : Args F) (d : Dev nD) : sProp 𝕄 :=
  iprop((lc d main_arg2 ↦{fullShare} a.fE) ∗ (lc d main_v8 ↦{fullShare} a.fb) ∗ (lc d main_arg5 ↦{fullShare} a.fM)
    ∗ (lc d main_v9 ↦{fullShare} a.kt) ∗ (lc d main_v10 ↦{fullShare} a.vt) ∗ lc d main_arg4 ↦{fullShare} a.fA)
/-- and its results. -/
def OUTW (d : Dev nD) (f0 : S512x2048.Idx → Elt F .f32) (f1 : S8x512x2048.Idx → Elt F .f32) (f2 f3 : S8x2048x2x128.Idx → Elt F .f32) : sProp 𝕄 :=
  iprop((lc d main_v11_0 ↦{fullShare} f0) ∗ (lc d main_v11_1 ↦{fullShare} f1) ∗ (lc d main_v11_2 ↦{fullShare} f2) ∗ lc d main_v11_3 ↦{fullShare} f3)
/-- A tile's rows of them. -/
def OUTT (d : Dev nD) (t : Tl) (f0 : S512x2048.Idx → Elt F .f32) (f1 : S8x512x2048.Idx → Elt F .f32) (f2 f3 : S8x2048x2x128.Idx → Elt F .f32) : sProp 𝕄 :=
  iprop((envO.view.loc (TH d (co t)) ↦[SE (co t)]{fullShare} f0) ∗ (biasO.view.loc (TH d (co t)) ↦[SB (co t)]{fullShare} f1)
    ∗ (khO.view.loc (TH d (co t)) ↦[SK (co t)]{fullShare} f2) ∗ vhO.view.loc (TH d (co t)) ↦[SK (co t)]{fullShare} f3)

omit [FloatOps F] in
theorem in_deal (a : Args F) (d : Dev nD) : (bigSep Finset.univ fun t : Tl => IN d (co t) (sh t) a.fE a.fb a.fM a.kt a.vt a.fA) = INW a d := by
  unfold IN INW
  rw [bigSep_sep', bigSep_sep', bigSep_sep', bigSep_sep', bigSep_sep']
  have h1 : (bigSep Finset.univ fun t : Tl => (envM.view.loc (TH d (co t)) ↦{sh t} a.fE : sProp 𝕄)) = (lc d main_arg2 ↦{fullShare} a.fE) := share_deal (ℓ := lc d main_arg2) a.fE
  have h2 : (bigSep Finset.univ fun t : Tl => (biasM.view.loc (TH d (co t)) ↦{sh t} a.fb : sProp 𝕄)) = (lc d main_v8 ↦{fullShare} a.fb) := share_deal (ℓ := lc d main_v8) a.fb
  have h3 : (bigSep Finset.univ fun t : Tl => (emtM.view.loc (TH d (co t)) ↦{sh t} a.fM : sProp 𝕄)) = (lc d main_arg5 ↦{fullShare} a.fM) := share_deal (ℓ := lc d main_arg5) a.fM
  have h4 : (bigSep Finset.univ fun t : Tl => (ktM.view.loc (TH d (co t)) ↦{sh t} a.kt : sProp 𝕄)) = (lc d main_v9 ↦{fullShare} a.kt) := share_deal (ℓ := lc d main_v9) a.kt
  have h5 : (bigSep Finset.univ fun t : Tl => (vtM.view.loc (TH d (co t)) ↦{sh t} a.vt : sProp 𝕄)) = (lc d main_v10 ↦{fullShare} a.vt) := share_deal (ℓ := lc d main_v10) a.vt
  have h6 : (bigSep Finset.univ fun t : Tl => (aiM.view.loc (TH d (co t)) ↦{sh t} a.fA : sProp 𝕄)) = (lc d main_arg4 ↦{fullShare} a.fA) := share_deal (ℓ := lc d main_arg4) a.fA
  rw [h1, h2, h3, h4, h5, h6]

omit [FloatOps F] in
theorem outs_deal (d : Dev nD) (f0 : S512x2048.Idx → Elt F .f32) (f1 : S8x512x2048.Idx → Elt F .f32) (f2 f3 : S8x2048x2x128.Idx → Elt F .f32) :
    (bigSep Finset.univ fun t : Tl => OUTT d t f0 f1 f2 f3) = OUTW d f0 f1 f2 f3 := by
  unfold OUTT OUTW
  rw [bigSep_sep', bigSep_sep', bigSep_sep']
  have h1 : (bigSep Finset.univ fun t : Tl => (envO.view.loc (TH d (co t)) ↦[SE (co t)]{fullShare} f0 : sProp 𝕄)) = (lc d main_v11_0 ↦{fullShare} f0) :=
    rows_deal (ℓ := lc d main_v11_0) f0 (fun t => SE (co t)) SE_disj SE_cover
  have h2 : (bigSep Finset.univ fun t : Tl => (biasO.view.loc (TH d (co t)) ↦[SB (co t)]{fullShare} f1 : sProp 𝕄)) = (lc d main_v11_1 ↦{fullShare} f1) :=
    rows_deal (ℓ := lc d main_v11_1) f1 (fun t => SB (co t)) SB_disj SB_cover
  have h3 : (bigSep Finset.univ fun t : Tl => (khO.view.loc (TH d (co t)) ↦[SK (co t)]{fullShare} f2 : sProp 𝕄)) = (lc d main_v11_2 ↦{fullShare} f2) :=
    rows_deal (ℓ := lc d main_v11_2) f2 (fun t => SK (co t)) SK_disj SK_cover
  have h4 : (bigSep Finset.univ fun t : Tl => (vhO.view.loc (TH d (co t)) ↦[SK (co t)]{fullShare} f3 : sProp 𝕄)) = (lc d main_v11_3 ↦{fullShare} f3) :=
    rows_deal (ℓ := lc d main_v11_3) f3 (fun t => SK (co t)) SK_disj SK_cover
  rw [h1, h2, h3, h4]

omit [FloatOps F] in
theorem OUTT_0 (d : Dev nD) (t : Tl) (f0 : S512x2048.Idx → Elt F .f32) (f1 : S8x512x2048.Idx → Elt F .f32) (f2 f3 : S8x2048x2x128.Idx → Elt F .f32) :
    OUTT d t f0 f1 f2 f3 ⊢ OUT0 d (co t) := by
  unfold OUTT OUT0
  iintro ⟨H0, H1, H2, H3⟩
  isplitl [H0]; · iexists _; iexact H0
  isplitl [H1]; · iexists _; iexact H1
  isplitl [H2]; · iexists _; iexact H2
  iexists _; iexact H3

/-- The operands and results deal to the two SparseCores, -/
theorem deal (d : Dev nD) (f0 : S512x2048.Idx → Elt F .f32) (f1 : S8x512x2048.Idx → Elt F .f32) (f2 f3 : S8x2048x2x128.Idx → Elt F .f32) :
    iprop(INW (A d) d ∗ OUTW d f0 f1 f2 f3) ⊢ bigSep Finset.univ fun c : Fin ((K (F := F)).nCore 0) => (P A).st 0 d c := by
  rw [← in_deal, ← outs_deal, ← bigSep_sep']
  refine .trans (bigSep_mono (Ψ := GO A d) fun t _ => ?_) (Entails.of_eq (bigSep_univ_prod (α := Fin 2) (β := Fin 16) (GO A d)))
  unfold GO
  show iprop(IN d (co t) (sh t) (A d).fE (A d).fb (A d).fM (A d).kt (A d).vt (A d).fA ∗ OUTT d t f0 f1 f2 f3)
    ⊢ iprop(IN d (co t) (sh t) (A d).fE (A d).fb (A d).fM (A d).kt (A d).vt (A d).fA ∗ OUT0 d (co t))
  iintro ⟨H1, H2⟩
  isplitl [H1]; · iexact H1
  iapply (OUTT_0 d t) $$ H2

/-- and come back, the results at their values. -/
theorem undeal (d : Dev nD) : (bigSep Finset.univ fun c : Fin ((K (F := F)).nCore 0) => (P A).dn 0 d c)
    ⊢ iprop(INW (A d) d ∗ OUTW d (envV (A d).fE (A d).fM) (biasV (A d).fb (A d).fM) (rowsV (A d).kt (A d).fA) (rowsV (A d).vt (A d).fA)) := by
  rw [← in_deal, ← outs_deal, ← bigSep_sep']
  exact Entails.of_eq (bigSep_univ_prod (α := Fin 2) (β := Fin 16) (TD A d)).symm

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have e0 : (bigSep Finset.univ fun _ : Dev nD => (iprop(emp) : sProp 𝕄)) = iprop(emp) := bigSep_emp_const _
  have e1 : (bigSep Finset.univ fun _ : Thread nD τ => (iprop(emp) : sProp 𝕄)) = iprop(emp) := bigSep_emp_const _
  isplitr; · rw [e0]; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), e1]
  iempintro

end Cert.Proof.KRun
end
-- ==== Proof.KMain.lean ====
/-
  The whole program's run: the host's operations, the call, and what the memory holds at the end.
-/
module

public import proofs.«01_k».proof.Proof.KLaunch
public import Idealize.ShloMosaic.Lib.SparseCore.Quiescent
public import Idealize.ShloMosaic.Lib.StableHlo.Run
public import Idealize.ShloMosaic.Lib.Pipeline.Frame

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's operations before the call -/

def hostOps : List (HloOp τ sig (Elt F)) :=
   [StableHlo.reshape main_arg0 main_v0 (rfl : (.f32 : EltTy) = .f32) shapeCasts_S9x512x128_S9x512x8x16,
    StableHlo.unary main_v0 main_v1 ((transpose S8x512x9x16 [2, 1, 0, 3] · transposes_S9x512x8x16_S8x512x9x16_2_1_0_3) : (⟨S9x512x8x16, .f32⟩ : BufTy).Contents (Elt F) → (⟨S8x512x9x16, .f32⟩ : BufTy).Contents (Elt F)),
    StableHlo.reshape main_v1 main_v2 (rfl : (.f32 : EltTy) = .f32) shapeCasts_S8x512x9x16_S8x512x144,
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_v2 main_call0_v0 main_v3 ((fun x v => pad S8x512x256 ![0, 0, 0] ![0, 0, 112] ![0, 0, 0] x v pads_S8x512x144_S8x512x256_000_000_01120 h_S_) : (⟨S8x512x144, .f32⟩ : BufTy).Contents (Elt F) → (⟨S_, .f32⟩ : BufTy).Contents (Elt F) → (⟨S8x512x256, .f32⟩ : BufTy).Contents (Elt F)),
    StableHlo.reshape main_arg1 main_v4 (rfl : (.f32 : EltTy) = .f32) shapeCasts_S9x512x128_S9x512x8x16,
    StableHlo.unary main_v4 main_v5 ((transpose S8x512x9x16 [2, 1, 0, 3] · transposes_S9x512x8x16_S8x512x9x16_2_1_0_3) : (⟨S9x512x8x16, .f32⟩ : BufTy).Contents (Elt F) → (⟨S8x512x9x16, .f32⟩ : BufTy).Contents (Elt F)),
    StableHlo.reshape main_v5 main_v6 (rfl : (.f32 : EltTy) = .f32) shapeCasts_S8x512x9x16_S8x512x144,
    StableHlo.nullary main_c_0 (constantI S_ 32 0#32),
    StableHlo.unary main_c_0 main_call1_v0 (sitofp .f32 : (⟨S_, .i32⟩ : BufTy).Contents (Elt F) → (⟨S_, .f32⟩ : BufTy).Contents (Elt F)),
    StableHlo.binary main_v6 main_call1_v0 main_v7 ((fun x v => pad S8x512x256 ![0, 0, 0] ![0, 0, 112] ![0, 0, 0] x v pads_S8x512x144_S8x512x256_000_000_01120 h_S_) : (⟨S8x512x144, .f32⟩ : BufTy).Contents (Elt F) → (⟨S_, .f32⟩ : BufTy).Contents (Elt F) → (⟨S8x512x256, .f32⟩ : BufTy).Contents (Elt F)),
    StableHlo.reshape main_arg3 main_v8 (rfl : (.f32 : EltTy) = .f32) shapeCasts_S8x2048_S16384,
    StableHlo.reshape main_v3 main_v9 (rfl : (.f32 : EltTy) = .f32) shapeCasts_S8x512x256_S4096x2x128,
    StableHlo.reshape main_v7 main_v10 (rfl : (.f32 : EltTy) = .f32) shapeCasts_S8x512x256_S4096x2x128]

theorem main_eq (d : Dev nD) : main (F := F) d = (StableHlo.seq hostOps >>= fun _ => sc.run d 0 >>= fun _ => pure ⟨⟩) := rfl

omit [FloatOps F] in
theorem all_cons {α : Type} {p : α → Prop} {a : α} {l : List α} (h : p a) (hl : ∀ x ∈ l, p x) : ∀ x ∈ a :: l, p x := by
  intro x hx
  rcases List.mem_cons.mp hx with rfl | hx
  · exact h
  · exact hl x hx

theorem host_bufs : ∀ op ∈ hostOps (F := F), op.bufs ⊆ Pipeline.ucRefs τ sig := by
  refine fun op ho => Pipeline.sub_ucRefs op ?_
  revert op
  unfold hostOps
  refine all_cons (StableHlo.reshape_bufs_sub ..) ?_
  refine all_cons (StableHlo.unary_bufs_sub ..) ?_
  refine all_cons (StableHlo.reshape_bufs_sub ..) ?_
  refine all_cons (StableHlo.nullary_bufs_sub ..) ?_
  refine all_cons (StableHlo.unary_bufs_sub ..) ?_
  refine all_cons (StableHlo.binary_bufs_sub ..) ?_
  refine all_cons (StableHlo.reshape_bufs_sub ..) ?_
  refine all_cons (StableHlo.unary_bufs_sub ..) ?_
  refine all_cons (StableHlo.reshape_bufs_sub ..) ?_
  refine all_cons (StableHlo.nullary_bufs_sub ..) ?_
  refine all_cons (StableHlo.unary_bufs_sub ..) ?_
  refine all_cons (StableHlo.binary_bufs_sub ..) ?_
  refine all_cons (StableHlo.reshape_bufs_sub ..) ?_
  refine all_cons (StableHlo.reshape_bufs_sub ..) ?_
  refine all_cons (StableHlo.reshape_bufs_sub ..) ?_
  exact fun x hx => nomatch hx

theorem host_fresh : ∀ op ∈ hostOps (F := F), op.fresh = ∅ := by
  unfold hostOps
  iterate 15 refine all_cons (by rfl) ?_
  exact fun x hx => nomatch hx

variable (m : (ℓ : Loc nD τ sig) → Buf (Elt F) ℓ) (ρ : Dev nD → PrngReg)

/-- A device's buffers when the call is reached, -/
def vals (d : Dev nD) : Valuation τ sig (Elt F) := StableHlo.after hostOps (fun b => m (d, b))
/-- and the call's operands there. -/
def args (d : Dev nD) : Args F where
  fE := vals m d (Proc.devRef .tc main_arg2)
  fb := vals m d (Proc.devRef .tc main_v8)
  fM := vals m d (Proc.devRef .tc main_arg5)
  kt := vals m d (Proc.devRef .tc main_v9)
  vt := vals m d (Proc.devRef .tc main_v10)
  fA := vals m d (Proc.devRef .tc main_arg4)

/-- The buffers the claim speaks of. -/
def rs : Finset (Ref sig .tc) :=
  {main_arg0, main_arg1, main_arg3, main_arg2, main_v8, main_arg5, main_v9, main_v10, main_arg4, main_v11_0, main_v11_1, main_v11_2, main_v11_3}
def rsD : Finset (DevRef τ sig) := rs.map ⟨Proc.devRef (sig := sig) (.tc : Proc τ), Proc.devRef_injective _⟩

theorem rsD_sub : rsD ⊆ Pipeline.ucRefs τ sig := by
  intro b hb
  obtain ⟨r, hr, rfl⟩ := Finset.mem_map.mp hb
  refine Finset.mem_filter.mpr ⟨StableHlo.devRef_mem_tcRefs r, ?_⟩
  have h : ∀ r ∈ rs, ¬ (Proc.devRef (τ := τ) .tc r).isScoped := by decide
  exact h r hr

/-- Three arguments the call does not read. -/
def REST (d : Dev nD) : sProp 𝕄 :=
  iprop((lc d main_arg0 ↦{fullShare} vals m d (Proc.devRef .tc main_arg0)) ∗ (lc d main_arg1 ↦{fullShare} vals m d (Proc.devRef .tc main_arg1))
    ∗ lc d main_arg3 ↦{fullShare} vals m d (Proc.devRef .tc main_arg3))

theorem held_rs (d : Dev nD) : (StableHlo.held (d.tc : Thread nD τ) rsD (vals m d) : sProp 𝕄)
    ⊢ iprop(REST m d ∗ INW (args m d) d ∗ OUTW d (vals m d (Proc.devRef .tc main_v11_0)) (vals m d (Proc.devRef .tc main_v11_1))
        (vals m d (Proc.devRef .tc main_v11_2)) (vals m d (Proc.devRef .tc main_v11_3))) := by
  unfold StableHlo.held rsD
  rw [bigSep_map]
  unfold rs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  unfold REST INW OUTW args
  iintro ⟨H0, H1, H2, H3, H4, H5, H6, H7, H8, H9, H10, H11, H12⟩
  isplitl [H0 H1 H2]
  · isplitl [H0]; · iexact H0
    isplitl [H1]; · iexact H1
    iexact H2
  isplitl [H3 H4 H5 H6 H7 H8]
  · isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  iexact H12

/-- What a device's TensorCore ends with. -/
def FIN (d : Dev nD) : sProp 𝕄 := iprop(REST m d ∗ INW (args m d) d
  ∗ OUTW d (envV (args m d).fE (args m d).fM) (biasV (args m d).fb (args m d).fM) (rowsV (args m d).kt (args m d).fA) (rowsV (args m d).vt (args m d).fA))

theorem hmain (κ : GSem nD τ sig → ℕ) (d : Dev nD) :
    iprop((K (F := F)).ctx EH (P (args m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, -⟩
  ihave Hh := (Entails.of_eq (Pipeline.unscopedBufs_held (Ix := HIx 1) (Name := ℕ) (U := UU) (Lvl := ℕ) d (fun b => m (d, b)))) $$ Hu
  iapply (StableHlo.wp_seq (defs := (K (F := F)).defs (D (F := F))) 𝒱 none Set.univ d (Pipeline.ucRefs τ sig) _ hostOps host_bufs host_fresh (fun b => m (d, b))) $$ [Hb Hh]
  · isplitl [Hb]; · iexact Hb
    iexact Hh
  iintro ⟨Hb, Hh⟩
  ihave Hs := (Entails.of_eq (StableHlo.held_sub_split (d.tc : Thread nD τ) rsD_sub (StableHlo.after hostOps (fun b => m (d, b))))) $$ Hh
  icases Hs with ⟨Hs, -⟩
  ihave Hr := ((Entails.of_eq rfl : (StableHlo.held (d.tc : Thread nD τ) rsD (StableHlo.after hostOps (fun b => m (d, b))) : sProp 𝕄) ⊢ StableHlo.held (d.tc : Thread nD τ) rsD (vals m d)).trans (held_rs m d)) $$ Hs
  icases Hr with ⟨Hrest, Hio⟩
  ihave Hgo := (deal (args m) d _ _ _ _) $$ Hio
  simp only [wp_bind, wp_pure]
  iapply ((K (F := F)).wp_run (D (F := F)) 𝒱 (EH := EH) (P := P (args m)) κ d 0) $$ [Hst Hgo Hb Hts Hrest]
  isplitr; · iexact Hctx
  isplitl [Hst]; · iexact Hst
  isplitl [Hgo]; · iexact Hgo
  iintro ⟨Hst, Hdn⟩
  ihave Hback := (undeal (args m) d) $$ Hdn
  imodintro
  isplitl [Hst]; · iexact Hst
  isplitr [Hb Hts]
  · unfold FIN
    isplitl [Hrest]; · iexact Hrest
    iexact Hback
  isplitl [Hb] <;> iassumption

/-! ## What the memory then holds -/

theorem read_one {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  · iexact HSI

/-- The six arguments as the call found them, the four results at their values. -/
def fq (d : Dev nD) (s' : MemSt nD τ sig (Elt F)) : Prop :=
  (s'.mem (lc d main_arg0) = vals m d (Proc.devRef .tc main_arg0) ∧ s'.mem (lc d main_arg1) = vals m d (Proc.devRef .tc main_arg1)
    ∧ s'.mem (lc d main_arg2) = vals m d (Proc.devRef .tc main_arg2) ∧ s'.mem (lc d main_arg3) = vals m d (Proc.devRef .tc main_arg3)
    ∧ s'.mem (lc d main_arg4) = vals m d (Proc.devRef .tc main_arg4) ∧ s'.mem (lc d main_arg5) = vals m d (Proc.devRef .tc main_arg5))
  ∧ s'.mem (lc d main_v11_0) = envV (args m d).fE (args m d).fM ∧ s'.mem (lc d main_v11_1) = biasV (args m d).fb (args m d).fM
  ∧ s'.mem (lc d main_v11_2) = rowsV (args m d).kt (args m d).fA ∧ s'.mem (lc d main_v11_3) = rowsV (args m d).vt (args m d).fA

theorem hfin (d : Dev nD) (s' : Phys nD τ sig (Elt F)) : iprop(FIN m d ∗ SI s') ⊢ (⌜fq m d s'.mem⌝ : sProp 𝕄) := by
  unfold FIN REST INW OUTW
  iintro ⟨⟨⟨Ha0, Ha1, Ha3⟩, ⟨Ha2, -, Ha5, -, -, Ha4⟩, ⟨Ho0, Ho1, Ho2, Ho3⟩⟩, HSI⟩
  ihave H := (read_one _ s') $$ [Ha0 HSI]
  · isplitl [Ha0]; · iexact Ha0
    iexact HSI
  icases H with ⟨%h_a0, HSI⟩
  ihave H := (read_one _ s') $$ [Ha1 HSI]
  · isplitl [Ha1]; · iexact Ha1
    iexact HSI
  icases H with ⟨%h_a1, HSI⟩
  ihave H := (read_one _ s') $$ [Ha2 HSI]
  · isplitl [Ha2]; · iexact Ha2
    iexact HSI
  icases H with ⟨%h_a2, HSI⟩
  ihave H := (read_one _ s') $$ [Ha3 HSI]
  · isplitl [Ha3]; · iexact Ha3
    iexact HSI
  icases H with ⟨%h_a3, HSI⟩
  ihave H := (read_one _ s') $$ [Ha4 HSI]
  · isplitl [Ha4]; · iexact Ha4
    iexact HSI
  icases H with ⟨%h_a4, HSI⟩
  ihave H := (read_one _ s') $$ [Ha5 HSI]
  · isplitl [Ha5]; · iexact Ha5
    iexact HSI
  icases H with ⟨%h_a5, HSI⟩
  ihave H := (read_one _ s') $$ [Ho0 HSI]
  · isplitl [Ho0]; · iexact Ho0
    iexact HSI
  icases H with ⟨%h_o0, HSI⟩
  ihave H := (read_one _ s') $$ [Ho1 HSI]
  · isplitl [Ho1]; · iexact Ho1
    iexact HSI
  icases H with ⟨%h_o1, HSI⟩
  ihave H := (read_one _ s') $$ [Ho2 HSI]
  · isplitl [Ho2]; · iexact Ho2
    iexact HSI
  icases H with ⟨%h_o2, HSI⟩
  ihave H := (read_one _ s') $$ [Ho3 HSI]
  · isplitl [Ho3]; · iexact Ho3
    iexact HSI
  icases H with ⟨%h_o3, HSI⟩
  ipureintro
  exact ⟨⟨h_a0, h_a1, h_a2, h_a3, h_a4, h_a5⟩, h_o0, h_o1, h_o2, h_o3⟩

/-! ## The run -/

def QC : PUnit × MemSt nD τ sig (Elt F) → Prop := fun r => (∀ d : Dev nD, fq m d r.2) ∧ r.2.sem = fun _ => 0

theorem run_main [∀ e, Nonempty (Elt F e)] (hA : ArgsOK (args m)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (args m)) (A := ∅) scFacts v₀
    (fun q hq => match q with | 0 => nomatch hq)
    (fun q _ => match q with | 0 => tileObl (args m) hA)
    (fun q _ => match q with | 0 => SparseCore.Cfg.VecSplit.of_plain (vecSplit (args m)))
    m ρ main (fun _ => iprop(emp)) (FIN m) (u₀ (F := F)) (sep_elim_left.trans (hu₀ (args m))) (hmain m ρ) (fun d s' => fq m d s'.mem) (hfin m) (QC m) (fun _ h hz => ⟨h, hz⟩)

end Cert.Proof.KRun
end
-- ==== Proof.KClaim.lean ====
/-
  The run over the launch memory, and what the precondition gives.
-/
module

public import proofs.«01_k».proof.Proof.KMain
public import proofs.«01_k».proof.Proof.Gen.Pre_in_range

@[expose] public section

set_option maxRecDepth 16384

noncomputable section

namespace Cert.Proof.KRun

open Cert.Kernel Cert.Kernel.Gen
open Cert.Kernel.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The arguments when the call is reached, and its computed operands -/

theorem vals_arg0 (d : Dev nD) : vals m d (Proc.devRef .tc main_arg0) = m (lc d main_arg0) := by unfold vals hostOps; after_results_simp
theorem vals_arg1 (d : Dev nD) : vals m d (Proc.devRef .tc main_arg1) = m (lc d main_arg1) := by unfold vals hostOps; after_results_simp
theorem vals_arg2 (d : Dev nD) : vals m d (Proc.devRef .tc main_arg2) = m (lc d main_arg2) := by unfold vals hostOps; after_results_simp
theorem vals_arg3 (d : Dev nD) : vals m d (Proc.devRef .tc main_arg3) = m (lc d main_arg3) := by unfold vals hostOps; after_results_simp
theorem vals_arg4 (d : Dev nD) : vals m d (Proc.devRef .tc main_arg4) = m (lc d main_arg4) := by unfold vals hostOps; after_results_simp
theorem vals_arg5 (d : Dev nD) : vals m d (Proc.devRef .tc main_arg5) = m (lc d main_arg5) := by unfold vals hostOps; after_results_simp

/-- A projection's rows head by head, padded to 256, as rows of two times 128. -/
def kvTab (p : S9x512x128.Idx → Elt F .f32) : S4096x2x128.Idx → Elt F .f32 :=
  shapeCast S4096x2x128 (pad S8x512x256 ![0, 0, 0] ![0, 0, 112] ![0, 0, 0]
    (shapeCast S8x512x144 (transpose S8x512x9x16 [2, 1, 0, 3] (shapeCast S9x512x8x16 p shapeCasts_S9x512x128_S9x512x8x16)
      transposes_S9x512x8x16_S8x512x9x16_2_1_0_3) shapeCasts_S8x512x9x16_S8x512x144)
    (sitofp .f32 (constantI S_ 32 0#32) : S_.Idx → Elt F .f32) pads_S8x512x144_S8x512x256_000_000_01120 h_S_) shapeCasts_S8x512x256_S4096x2x128

theorem vals_v8 (d : Dev nD) : vals m d (Proc.devRef .tc main_v8) = shapeCast S16384 (m (lc d main_arg3) : S8x2048.Idx → Elt F .f32) shapeCasts_S8x2048_S16384 := by
  unfold vals hostOps; after_results_simp; rfl
theorem vals_v9 (d : Dev nD) : vals m d (Proc.devRef .tc main_v9) = kvTab (m (lc d main_arg0)) := by
  unfold vals hostOps kvTab; after_results_simp; rfl
theorem vals_v10 (d : Dev nD) : vals m d (Proc.devRef .tc main_v10) = kvTab (m (lc d main_arg1)) := by
  unfold vals hostOps kvTab; after_results_simp; rfl

/-! ## The run, over the launch memory -/

/-- The indices name entries of the tables. -/
def InRange : Prop := ∀ d : Dev nD, (∀ x, ((m (lc d main_arg5) : S512x2048.Idx → BitVec 32) x).toNat < 2048) ∧ ∀ x, ((m (lc d main_arg4) : S2048.Idx → BitVec 32) x).toNat < 512

/-- The six arguments unchanged, the four results at their values. -/
def Ends (d : Dev nD) (s' : MemSt nD τ sig (Elt F)) : Prop :=
  (s'.mem (lc d main_v11_0) = envV (m (lc d main_arg2)) (m (lc d main_arg5))
    ∧ s'.mem (lc d main_v11_1) = biasV (shapeCast S16384 (m (lc d main_arg3) : S8x2048.Idx → Elt F .f32) shapeCasts_S8x2048_S16384) (m (lc d main_arg5))
    ∧ s'.mem (lc d main_v11_2) = rowsV (kvTab (m (lc d main_arg0))) (m (lc d main_arg4))
    ∧ s'.mem (lc d main_v11_3) = rowsV (kvTab (m (lc d main_arg1))) (m (lc d main_arg4)))
  ∧ s'.mem (lc d main_arg0) = m (lc d main_arg0) ∧ s'.mem (lc d main_arg1) = m (lc d main_arg1)
    ∧ s'.mem (lc d main_arg2) = m (lc d main_arg2) ∧ s'.mem (lc d main_arg3) = m (lc d main_arg3)
    ∧ s'.mem (lc d main_arg4) = m (lc d main_arg4) ∧ s'.mem (lc d main_arg5) = m (lc d main_arg5)

theorem run [∀ e, Nonempty (Elt F e)] (h : InRange m) :
    θ_run (defs (F := F)) (threads (F := F)) ⟨m, fun _ => 0, ρ⟩ fun r => (∀ d : Dev nD, Ends m d r.2) ∧ r.2.sem = fun _ => 0 := by
  have hA : ArgsOK (args m) := fun d => by
    have h5 : (args m d).fM = m (lc d main_arg5) := vals_arg5 m d
    have h4 : (args m d).fA = m (lc d main_arg4) := vals_arg4 m d
    rw [h5, h4]; exact h d
  refine (θ_run (defs (F := F)) _ _).mono (fun r hr => ⟨fun d => ?_, hr.2⟩) (run_main m ρ hA)
  have hd := hr.1 d
  unfold fq args at hd
  simp only [vals_arg0, vals_arg1, vals_arg2, vals_arg3, vals_arg4, vals_arg5, vals_v8, vals_v9, vals_v10] at hd
  exact ⟨hd.2, hd.1⟩

/-! ## The precondition -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem words_ok (v w : BitVec 32) (e : IntOp.andi (IntOp.andi (IntOp.andi (IntOp.cmpi .sge v 0#32) (IntOp.cmpi .slt v 2048#32)) (IntOp.cmpi .sge w 0#32))
    (IntOp.cmpi .slt w 512#32) = 1#1) : v.toNat < 2048 ∧ w.toNat < 512 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

open Idealize.ShloMosaic.ValueIdx (ix1 ix2 eq_ix1 eq_ix2) in
theorem range_of_pre (a0 a1 : S9x512x128.Idx → Elt F .f32) (a2 : S2048.Idx → Elt F .f32) (a3 : S8x2048.Idx → Elt F .f32) (a4 : S2048.Idx → BitVec 32)
    (a5 : S512x2048.Idx → BitVec 32) (h : Cert.Pre_in_range.fn (F := F) a0 a1 a2 a3 a4 a5 = fun _ => 1#1) :
    (∀ x, (a5 x).toNat < 2048) ∧ ∀ x, (a4 x).toNat < 512 := by
  have key : ∀ i j, (a5 (ix2 i j)).toNat < 2048 ∧ (a4 (ix1 j)).toNat < 512 := by
    intro i j
    have e := congrFun h (ix2 i j)
    simp only [Cert.Pre_in_range.fn, andi, cmpi, broadcastInDim, constantI] at e
    have e' := words_ok _ _ e
    exact ⟨e'.1, (congrArg (fun z => (a4 z).toNat < 512) (eq_ix1 _)).mp e'.2⟩
  exact ⟨fun x => by rw [eq_ix2 x]; exact (key _ _).1, fun x => by rw [eq_ix1 x]; exact (key 0 _).2⟩

end Cert.Proof.KRun
end
-- ==== Proof.RVal.lean ====
/-
  What the reference's operations give at an index, and that the run's values are the same: the wrap of an
  index that is in range, the three gathers, and the rows head by head padded to two times 128.
-/
module

public import proofs.«01_k».proof.Proof.KClaim
public import proofs.«01_k».proof.Proof.Gen.ReferenceIdeal
public import Idealize.ShloMosaic.Lib.KernelVsHost
public import Idealize.ShloMosaic.Lib.ValueIdx
public import Idealize.ShloMosaic.Lib.Tactic.WordOmega

@[expose] public section

noncomputable section

namespace Cert.Proof.RVal

open Idealize.ShloMosaic Idealize.SL.Sem Idealize.ShloMosaic.ValueIdx
open Cert.ReferenceIdeal Cert.ReferenceIdeal.Facts₀
open Cert.Proof.KRun (envV biasV rowsV kvTab at1 atB atT)

attribute [local instance] Cert.ReferenceIdeal.Gen.facts Cert.Kernel.Gen.facts

/-! ## The wrap of a negative index -/

/-- An index below the table's length is not wrapped. -/
theorem wrap_word (w n : BitVec 32) (h : w.toNat < 2048) : Scalar.select (Scalar.cmpi .slt w 0#32) (w + n) w = w := by
  have h0 : w.slt 0#32 = false := by
    rw [BitVec.slt_eq_decide, decide_eq_false_iff_not, BitVec.toInt_eq_toNat_of_lt (by omega)]
    simp
  show (if BitVec.ofBool (w.slt 0#32) = 1#1 then w + n else w) = w
  rw [h0]; rfl

/-- An index below 2048, read signed, is itself. -/
theorem toInt_word (w : BitVec 32) (h : w.toNat < 2048) : w.toInt.toNat = w.toNat := by
  rw [BitVec.toInt_eq_toNat_of_lt (by omega)]; rfl

/-- The indices of a vector as a column, after the wrap. -/
theorem wrap1 (v : S2048.Idx → BitVec 32) (n : BitVec 32) (hv : ∀ x, (v x).toNat < 512) (x : S2048x1.Idx) :
    broadcastInDim S2048x1 ![0] bcast_S2048_S2048x1_0 (select (cmpi .slt v (broadcastInDim S2048 ![] bcast_S_S2048 (constantI S_ 32 0#32)))
      (addi v (broadcastInDim S2048 ![] bcast_S_S2048 (constantI S_ 32 n))) v) x = v (ix1 (x 0)) := by
  have key : ∀ y : S2048.Idx, y = ix1 (x 0) → Scalar.select (Scalar.cmpi .slt (v y) 0#32) (v y + n) (v y) = v (ix1 (x 0)) :=
    fun y hy => by subst hy; exact wrap_word _ n (lt_of_lt_of_le (hv _) (by decide))
  refine key _ (funext fun a => ?_)
  match a with
  | ⟨0, _⟩ => rfl

/-- The indices of a table as a table of columns, after the wrap. -/
theorem wrap2 (v : S512x2048.Idx → BitVec 32) (n : BitVec 32) (hv : ∀ x, (v x).toNat < 2048) (x : S512x2048x1.Idx) :
    broadcastInDim S512x2048x1 ![0, 1] bcast_S512x2048_S512x2048x1_0_1 (select (cmpi .slt v (broadcastInDim S512x2048 ![] bcast_S_S512x2048 (constantI S_ 32 0#32)))
      (addi v (broadcastInDim S512x2048 ![] bcast_S_S512x2048 (constantI S_ 32 n))) v) x = v (ix2 (x 0) (x 1)) := by
  have key : ∀ y : S512x2048.Idx, y = ix2 (x 0) (x 1) → Scalar.select (Scalar.cmpi .slt (v y) 0#32) (v y + n) (v y) = v (ix2 (x 0) (x 1)) :=
    fun y hy => by subst hy; exact wrap_word _ n (hv _)
  refine key _ (funext fun a => ?_)
  match a with
  | ⟨0, _⟩ => rfl
  | ⟨1, _⟩ => rfl

/-! ## The gathers at an index -/

variable {α : Type}

/-- The envelope's gather. -/
theorem gather_env (x : S2048.Idx → α) (idx : S512x2048x1.Idx → BitVec 32) (i : Fin 512) (j : Fin 2048) (hv : (idx (ix3 i j 0)).toNat < 2048) :
    Host.gather gather_S2048_S512x2048x1_S512x2048_n_0_n_n_0_2_1 x idx (ix2 i j) = x (at1 (idx (ix3 i j 0)).toNat) := by
  unfold Host.gather
  refine congrArg x (funext fun a => Fin.ext ?_)
  obtain rfl : a = 0 := Subsingleton.elim _ _
  show GatherDims.start _ _ _ _ + GatherDims.batchCoord _ _ _ + GatherDims.offCoord _ _ _ = _
  rw [GatherDims.batchCoord_eq_zero _ _ _ List.not_mem_nil, GatherDims.offCoord_eq_zero _ _ _ (by decide)]
  unfold GatherDims.start
  rw [dif_pos (by decide +revert)]
  have hsi : gather_S2048_S512x2048x1_S512x2048_n_0_n_n_0_2_1.siIdx (ix2 i j) ⟨0, by decide⟩ = ix3 i j 0 := by
    funext b
    match b with
    | ⟨0, _⟩ => rfl
    | ⟨1, _⟩ => rfl
    | ⟨2, _⟩ => rfl
  show min (idx (gather_S2048_S512x2048x1_S512x2048_n_0_n_n_0_2_1.siIdx (ix2 i j) ⟨0, _⟩)).toInt.toNat (2048 - 1) + 0 + 0 = (idx (ix3 i j 0)).toNat % 2048
  rw [hsi, toInt_word _ hv]; omega

/-- The biases' gather. -/
theorem gather_bias (x : S8x2048.Idx → α) (idx : S512x2048x1.Idx → BitVec 32) (h : Fin 8) (i : Fin 512) (j : Fin 2048) (hv : (idx (ix3 i j 0)).toNat < 2048) :
    Host.gather gather_S8x2048_S512x2048x1_S8x512x2048_0_1_n_n_1_2_81 x idx (ix3 h i j) = x (ix2 h ⟨(idx (ix3 i j 0)).toNat, hv⟩) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  unfold GatherDims.start GatherDims.offCoord
  match a with
  | ⟨0, _⟩ =>
    rw [dif_neg (by decide +revert), dif_pos (by decide +revert)]
    show 0 + 0 + h.val = h.val
    omega
  | ⟨1, _⟩ =>
    rw [dif_pos (by decide +revert), dif_neg (by decide +revert)]
    have hsi : gather_S8x2048_S512x2048x1_S8x512x2048_0_1_n_n_1_2_81.siIdx (ix3 h i j) ⟨0, by decide⟩ = ix3 i j 0 := by
      funext b
      match b with
      | ⟨0, _⟩ => rfl
      | ⟨1, _⟩ => rfl
      | ⟨2, _⟩ => rfl
    show min (idx (gather_S8x2048_S512x2048x1_S8x512x2048_0_1_n_n_1_2_81.siIdx (ix3 h i j) ⟨0, _⟩)).toInt.toNat (2048 - 1) + 0 + 0 = (idx (ix3 i j 0)).toNat
    rw [hsi, toInt_word _ hv]; omega

/-- The rows' gather. -/
theorem gather_rows (x : S512x9x128.Idx → α) (idx : S2048x1.Idx → BitVec 32) (e : Fin 2048) (l : Fin 9) (c : Fin 128) (hv : (idx (ix2 e 0)).toNat < 512) :
    Host.gather gather_S512x9x128_S2048x1_S2048x9x128_12_0_n_n_0_1_19128 x idx (ix3 e l c) = x (ix3 ⟨(idx (ix2 e 0)).toNat, hv⟩ l c) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  unfold GatherDims.start GatherDims.offCoord
  match a with
  | ⟨0, _⟩ =>
    rw [dif_pos (by decide +revert), dif_neg (by decide +revert)]
    have hsi : gather_S512x9x128_S2048x1_S2048x9x128_12_0_n_n_0_1_19128.siIdx (ix3 e l c) ⟨0, by decide⟩ = ix2 e 0 := by
      funext b
      match b with
      | ⟨0, _⟩ => rfl
      | ⟨1, _⟩ => rfl
    show min (idx (gather_S512x9x128_S2048x1_S2048x9x128_12_0_n_n_0_1_19128.siIdx (ix3 e l c) ⟨0, _⟩)).toInt.toNat (512 - 1) + 0 + 0 = (idx (ix2 e 0)).toNat
    rw [hsi, toInt_word _ (by omega)]; omega
  | ⟨1, _⟩ =>
    rw [dif_neg (by decide +revert), dif_pos (by decide +revert)]
    show 0 + 0 + l.val = l.val
    omega
  | ⟨2, _⟩ =>
    rw [dif_neg (by decide +revert), dif_pos (by decide +revert)]
    show 0 + 0 + c.val = c.val
    omega

/-! ## The rows head by head -/

/-- The value at row `a` of head `h`, column `col` of the 256: channel `16 h + col mod 16` of degree `col / 16` below
    column 144, the padding from there on. -/
def headAt (p : S9x512x128.Idx → α) (z : α) (h : Fin 8) (a : Fin 512) (col : ℕ) : α :=
  if hc : col < 144 then p (ix3 ⟨col / 16, by omega⟩ a ⟨16 * h.val + col % 16, by omega⟩) else z

open Cert.Kernel.Facts₀ in
/-- The kernel's table at row `512 h + a`. -/
theorem kvTab_at (p : S9x512x128.Idx → Elt Ideal .f32) (h : Fin 8) (a : Fin 512) (q : Fin 2) (c : Fin 128) (r : Fin 4096) (hr : r.val = a.val + 512 * h.val) :
    kvTab (F := Ideal) p (ix3 r q c) = headAt p ((sitofp (F := Ideal) .f32 (constantI S_ 32 0#32) : S_.Idx → Elt Ideal .f32) (Shape.Idx.first Cert.Kernel.Facts₀.h_S_)) h a (128 * q.val + c.val) := by
  unfold kvTab headAt
  rw [shapeCast_apply _ _ _ (ix3 h a ⟨128 * q.val + c.val, by omega⟩ : Cert.Kernel.S8x512x256.Idx) (by
    rw [Shape.rowMajor_val_three, Shape.rowMajor_val_three]
    show (h.val * 512 + a.val) * 256 + (128 * q.val + c.val) = (r.val * 2 + q.val) * 128 + c.val
    omega)]
  split
  · next hc =>
    rw [pad_apply_of_inside _ _ _ _ _ _ _ _ (ix3 h a ⟨128 * q.val + c.val, hc⟩ : Cert.Kernel.S8x512x144.Idx) (fun b => by
      match b with
      | ⟨0, _⟩ => show h.val = 0 + h.val * 1; omega
      | ⟨1, _⟩ => show a.val = 0 + a.val * 1; omega
      | ⟨2, _⟩ => show 128 * q.val + c.val = 0 + (128 * q.val + c.val) * 1; omega)]
    rw [shapeCast_apply _ _ _ (ix4 h a ⟨(128 * q.val + c.val) / 16, by omega⟩ ⟨(128 * q.val + c.val) % 16, by omega⟩ : Cert.Kernel.S8x512x9x16.Idx) (by
      rw [Shape.rowMajor_val_four, Shape.rowMajor_val_three]
      show ((h.val * 512 + a.val) * 9 + (128 * q.val + c.val) / 16) * 16 + (128 * q.val + c.val) % 16 = (h.val * 512 + a.val) * 144 + (128 * q.val + c.val)
      omega)]
    rw [transpose_apply _ _ _ _ (ix4 ⟨(128 * q.val + c.val) / 16, by omega⟩ a h ⟨(128 * q.val + c.val) % 16, by omega⟩ : Cert.Kernel.S9x512x8x16.Idx) (fun b => by
      match b with
      | ⟨0, _⟩ => rfl
      | ⟨1, _⟩ => rfl
      | ⟨2, _⟩ => rfl
      | ⟨3, _⟩ => rfl)]
    rw [shapeCast_apply _ _ _ (ix3 ⟨(128 * q.val + c.val) / 16, by omega⟩ a ⟨16 * h.val + (128 * q.val + c.val) % 16, by omega⟩ : S9x512x128.Idx) (by
      rw [Shape.rowMajor_val_three, Shape.rowMajor_val_four]
      show ((128 * q.val + c.val) / 16 * 512 + a.val) * 128 + (16 * h.val + (128 * q.val + c.val) % 16)
        = (((128 * q.val + c.val) / 16 * 512 + a.val) * 8 + h.val) * 16 + (128 * q.val + c.val) % 16
      omega)]
  · next hc =>
    rw [pad_apply_of_not_inside _ _ _ _ _ _ _ _ (2 : Fin 3) (fun hh => hc (by
      have h3 : (128 * q.val + c.val - 0) / 1 < 144 := hh.2.2
      omega))]

/-- The reference's rows head by head, over the gathered rows. -/
def refRows (g : S2048x9x128.Idx → Elt Ideal .f32) : S8x2048x2x128.Idx → Elt Ideal .f32 :=
  shapeCast S8x2048x2x128 (pad S8x2048x256 ![0, 0, 0] ![0, 0, 112] ![0, 0, 0]
    (transpose S8x2048x144 [1, 0, 2] (shapeCast S2048x8x144 (transpose S2048x8x9x16 [0, 2, 1, 3]
      (shapeCast S2048x9x8x16 g shapeCasts_S2048x9x128_S2048x9x8x16) transposes_S2048x9x8x16_S2048x8x9x16_0_2_1_3) shapeCasts_S2048x8x9x16_S2048x8x144)
      transposes_S2048x8x144_S8x2048x144_1_0_2)
    (sitofp (F := Ideal) .f32 (constantI S_ 32 0#32)) pads_S8x2048x144_S8x2048x256_000_000_01120 h_S_) shapeCasts_S8x2048x256_S8x2048x2x128

theorem refRows_at (g : S2048x9x128.Idx → Elt Ideal .f32) (h : Fin 8) (e : Fin 2048) (q : Fin 2) (c : Fin 128) :
    refRows g (ix4 h e q c) = if hc : 128 * q.val + c.val < 144 then
        g (ix3 e ⟨(128 * q.val + c.val) / 16, by omega⟩ ⟨16 * h.val + (128 * q.val + c.val) % 16, by omega⟩)
      else (sitofp (F := Ideal) .f32 (constantI S_ 32 0#32) : S_.Idx → Elt Ideal .f32) (Shape.Idx.first h_S_) := by
  unfold refRows
  rw [shapeCast_apply _ _ _ (ix3 h e ⟨128 * q.val + c.val, by omega⟩ : S8x2048x256.Idx) (by
    rw [Shape.rowMajor_val_three, Shape.rowMajor_val_four]
    show (h.val * 2048 + e.val) * 256 + (128 * q.val + c.val) = ((h.val * 2048 + e.val) * 2 + q.val) * 128 + c.val
    omega)]
  split
  · next hc =>
    rw [pad_apply_of_inside _ _ _ _ _ _ _ _ (ix3 h e ⟨128 * q.val + c.val, hc⟩ : S8x2048x144.Idx) (fun b => by
      match b with
      | ⟨0, _⟩ => show h.val = 0 + h.val * 1; omega
      | ⟨1, _⟩ => show e.val = 0 + e.val * 1; omega
      | ⟨2, _⟩ => show 128 * q.val + c.val = 0 + (128 * q.val + c.val) * 1; omega)]
    rw [transpose_apply _ _ _ _ (ix3 e h ⟨128 * q.val + c.val, hc⟩ : S2048x8x144.Idx) (fun b => by
      match b with
      | ⟨0, _⟩ => rfl
      | ⟨1, _⟩ => rfl
      | ⟨2, _⟩ => rfl)]
    rw [shapeCast_apply _ _ _ (ix4 e h ⟨(128 * q.val + c.val) / 16, by omega⟩ ⟨(128 * q.val + c.val) % 16, by omega⟩ : S2048x8x9x16.Idx) (by
      rw [Shape.rowMajor_val_four, Shape.rowMajor_val_three]
      show ((e.val * 8 + h.val) * 9 + (128 * q.val + c.val) / 16) * 16 + (128 * q.val + c.val) % 16 = (e.val * 8 + h.val) * 144 + (128 * q.val + c.val)
      omega)]
    rw [transpose_apply _ _ _ _ (ix4 e ⟨(128 * q.val + c.val) / 16, by omega⟩ h ⟨(128 * q.val + c.val) % 16, by omega⟩ : S2048x9x8x16.Idx) (fun b => by
      match b with
      | ⟨0, _⟩ => rfl
      | ⟨1, _⟩ => rfl
      | ⟨2, _⟩ => rfl
      | ⟨3, _⟩ => rfl)]
    rw [shapeCast_apply _ _ _ (ix3 e ⟨(128 * q.val + c.val) / 16, by omega⟩ ⟨16 * h.val + (128 * q.val + c.val) % 16, by omega⟩ : S2048x9x128.Idx) (by
      rw [Shape.rowMajor_val_three, Shape.rowMajor_val_four]
      show (e.val * 9 + (128 * q.val + c.val) / 16) * 128 + (16 * h.val + (128 * q.val + c.val) % 16)
        = ((e.val * 9 + (128 * q.val + c.val) / 16) * 8 + h.val) * 16 + (128 * q.val + c.val) % 16
      omega)]
  · next hc =>
    rw [pad_apply_of_not_inside _ _ _ _ _ _ _ _ (2 : Fin 3) (fun hh => hc (by
      have h3 : (128 * q.val + c.val - 0) / 1 < 144 := hh.2.2
      omega))]

/-! ## The four results -/

variable (p : S9x512x128.Idx → Elt Ideal .f32) (fE : S2048.Idx → Elt Ideal .f32) (fB : S8x2048.Idx → Elt Ideal .f32)
  (fA : S2048.Idx → BitVec 32) (fM : S512x2048.Idx → BitVec 32)

/-- A projection's rows. -/
theorem rows_eq (n : BitVec 32) (hv : ∀ x, (fA x).toNat < 512) :
    refRows (Host.gather gather_S512x9x128_S2048x1_S2048x9x128_12_0_n_n_0_1_19128 (transpose S512x9x128 [1, 0, 2] p transposes_S9x512x128_S512x9x128_1_0_2)
      (broadcastInDim S2048x1 ![0] bcast_S2048_S2048x1_0 (select (cmpi .slt fA (broadcastInDim S2048 ![] bcast_S_S2048 (constantI S_ 32 0#32)))
        (addi fA (broadcastInDim S2048 ![] bcast_S_S2048 (constantI S_ 32 n))) fA)))
      = KRun.rowsV (F := Ideal) (kvTab (F := Ideal) p) fA := by
  generalize hI : broadcastInDim (s := S2048) (α := BitVec 32) S2048x1 ![0] bcast_S2048_S2048x1_0 _ = idx
  have hidx : ∀ x, idx x = fA (ix1 (x 0)) := fun x => hI ▸ wrap1 fA n hv x
  funext x
  obtain ⟨h, e, q, c, rfl⟩ : ∃ (h : Fin 8) (e : Fin 2048) (q : Fin 2) (c : Fin 128), x = ix4 h e q c := ⟨x 0, x 1, x 2, x 3, eq_ix4 x⟩
  have hx : (fA (ix1 e)).toNat < 512 := hv _
  have he : at1 e.val = ix1 e := congrArg ix1 (Fin.ext (Nat.mod_eq_of_lt e.isLt))
  have hk : KRun.rowsV (F := Ideal) (kvTab (F := Ideal) p) fA (ix4 h e q c) = kvTab (F := Ideal) p (ix3 ⟨((fA (ix1 e)).toNat + 512 * h.val) % 4096, Nat.mod_lt _ (by decide)⟩ q c) := by
    show kvTab (F := Ideal) p (atT ((fA (at1 e.val)).toNat + 512 * h.val) q c) = _
    rw [he]; rfl
  rw [hk, kvTab_at p h ⟨(fA (ix1 e)).toNat, hx⟩ q c _ (Nat.mod_eq_of_lt (by omega)), refRows_at]
  unfold headAt
  split
  · next hc =>
    have hi : idx (ix2 e 0) = fA (ix1 e) := hidx _
    rw [gather_rows _ idx _ _ _ (by rw [hi]; exact hx)]
    refine transpose_apply _ _ _ _ _ (fun b => ?_)
    match b with
    | ⟨0, _⟩ => show (fA (ix1 e)).toNat = (idx (ix2 e 0)).toNat; rw [hi]
    | ⟨1, _⟩ => rfl
    | ⟨2, _⟩ => rfl
  · rfl

/-- The envelope at every edge. -/
theorem env_eq (n : BitVec 32) (hv : ∀ x, (fM x).toNat < 2048) :
    Host.gather gather_S2048_S512x2048x1_S512x2048_n_0_n_n_0_2_1 fE
      (broadcastInDim S512x2048x1 ![0, 1] bcast_S512x2048_S512x2048x1_0_1 (select (cmpi .slt fM (broadcastInDim S512x2048 ![] bcast_S_S512x2048 (constantI S_ 32 0#32)))
        (addi fM (broadcastInDim S512x2048 ![] bcast_S_S512x2048 (constantI S_ 32 n))) fM))
      = KRun.envV (F := Ideal) fE fM := by
  generalize hI : broadcastInDim (s := S512x2048) (α := BitVec 32) S512x2048x1 ![0, 1] bcast_S512x2048_S512x2048x1_0_1 _ = idx
  have hidx : ∀ x, idx x = fM (ix2 (x 0) (x 1)) := fun x => hI ▸ wrap2 fM n hv x
  funext x
  obtain ⟨i, j, rfl⟩ : ∃ (i : Fin 512) (j : Fin 2048), x = ix2 i j := ⟨x 0, x 1, eq_ix2 x⟩
  have hi : idx (ix3 i j 0) = fM (ix2 i j) := hidx _
  rw [gather_env _ idx _ _ (by rw [hi]; exact hv _), hi]; rfl

/-- The biases, head by head. -/
theorem bias_eq (n : BitVec 32) (hv : ∀ x, (fM x).toNat < 2048) :
    Host.gather gather_S8x2048_S512x2048x1_S8x512x2048_0_1_n_n_1_2_81 fB
      (broadcastInDim S512x2048x1 ![0, 1] bcast_S512x2048_S512x2048x1_0_1 (select (cmpi .slt fM (broadcastInDim S512x2048 ![] bcast_S_S512x2048 (constantI S_ 32 0#32)))
        (addi fM (broadcastInDim S512x2048 ![] bcast_S_S512x2048 (constantI S_ 32 n))) fM))
      = KRun.biasV (F := Ideal) (shapeCast Cert.Kernel.S16384 fB Cert.Kernel.Facts₀.shapeCasts_S8x2048_S16384) fM := by
  generalize hI : broadcastInDim (s := S512x2048) (α := BitVec 32) S512x2048x1 ![0, 1] bcast_S512x2048_S512x2048x1_0_1 _ = idx
  have hidx : ∀ x, idx x = fM (ix2 (x 0) (x 1)) := fun x => hI ▸ wrap2 fM n hv x
  funext x
  obtain ⟨h, i, j, rfl⟩ : ∃ (h : Fin 8) (i : Fin 512) (j : Fin 2048), x = ix3 h i j := ⟨x 0, x 1, x 2, eq_ix3 x⟩
  have hi : idx (ix3 i j 0) = fM (ix2 i j) := hidx _
  have hw := hv (ix2 i j)
  rw [gather_bias _ idx _ _ _ (by rw [hi]; exact hw)]
  show _ = shapeCast Cert.Kernel.S16384 fB Cert.Kernel.Facts₀.shapeCasts_S8x2048_S16384 (atB (2048 * h.val + (fM (ix2 i j)).toNat % 2048))
  refine (shapeCast_apply _ _ _ _ ?_).symm
  rw [Shape.rowMajor_val_two, Shape.rowMajor_val_one]
  show h.val * 2048 + (idx (ix3 i j 0)).toNat = (2048 * h.val + (fM (ix2 i j)).toNat % 2048) % 16384
  rw [hi]; omega

end Cert.Proof.RVal
end
-- ==== Proof.Final.lean ====
/-
  The claims, one by one: the three frames from the two runs, and the equality of the four results.
-/
module

public import proofs.«01_k».proof.Defs
public import proofs.«01_k».proof.Proof.Gen.KernelIdeal
public import proofs.«01_k».proof.Proof.Gen.ReferenceIdeal
public import proofs.«01_k».proof.Proof.RVal
public import Idealize.ShloMosaic.Lib.Claim
public import Idealize.ShloMosaic.Lib.Quiescent

@[expose] public section
noncomputable section
namespace Cert.Proof.Final
open Idealize.ShloMosaic Idealize.SL.Sem
set_option maxRecDepth 100000

/-- The kernel's run at the chip's numbers leaves the arguments and every counter as they were. -/
theorem frame_kernel : Cert.quiescent_Kernel := by
  intro m g hpre
  refine θ_run_mono (KRun.run (F := Bits) m g fun d => KRun.range_of_pre _ _ _ _ _ _ (hpre d)) fun r hr => ⟨fun c => (hr.1 c).2, hr.2⟩

/-- The kernel's run at the ideal numbers, its results at their values. -/
theorem run_ideal (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ fun r => (∀ d : Dev Cert.Kernel.nD, KRun.Ends (F := Ideal) m d r.2) ∧ r.2.sem = fun _ => 0 :=
  KRun.run (F := Ideal) m g fun d => KRun.range_of_pre _ _ _ _ _ _ (hpre d)

/-- The same of the kernel at the ideal numbers, -/
theorem frame_ideal : Cert.quiescent_KernelIdeal := fun m g hpre =>
  θ_run_mono (run_ideal m g hpre) fun r hr => ⟨fun c => (hr.1 c).2, hr.2⟩

/-- and of the reference. -/
theorem frame_reference : Cert.quiescent_ReferenceIdeal := by
  intro m g hpre
  hlo_run
  · exact fun _ => ⟨trivial, trivial, trivial, trivial, trivial, trivial⟩
  · exact sem_eq_zero_of_no_sems (sig := Cert.ReferenceIdeal.sig) rfl _

/-- The kernel's four results are the reference's. -/
theorem alg : Cert.algebraic_KernelIdeal_ReferenceIdeal := by
  intro m g m' g' hpre hagree
  refine ⟨fun c => KRun.envV (F := Ideal) (m (c.tc.loc Cert.KernelIdeal.main_arg2)) (m (c.tc.loc Cert.KernelIdeal.main_arg5)),
    fun c => KRun.biasV (F := Ideal) (shapeCast Cert.Kernel.S16384 (m (c.tc.loc Cert.KernelIdeal.main_arg3)) Cert.Kernel.Facts₀.shapeCasts_S8x2048_S16384) (m (c.tc.loc Cert.KernelIdeal.main_arg5)),
    fun c => KRun.rowsV (F := Ideal) (KRun.kvTab (F := Ideal) (m (c.tc.loc Cert.KernelIdeal.main_arg0))) (m (c.tc.loc Cert.KernelIdeal.main_arg4)),
    fun c => KRun.rowsV (F := Ideal) (KRun.kvTab (F := Ideal) (m (c.tc.loc Cert.KernelIdeal.main_arg1))) (m (c.tc.loc Cert.KernelIdeal.main_arg4)), ?_, ?_⟩
  · exact θ_run_mono (run_ideal m g hpre) fun r hr c => ⟨(hr.1 c).1.1, (hr.1 c).1.2.1, (hr.1 c).1.2.2.1, (hr.1 c).1.2.2.2, (hr.1 c).2⟩
  · have hR : ∀ c : Dev Cert.KernelIdeal.nD,
        (∀ x, (m (c.tc.loc Cert.KernelIdeal.main_arg5) x : BitVec 32).toNat < 2048) ∧ ∀ x, (m (c.tc.loc Cert.KernelIdeal.main_arg4) x : BitVec 32).toNat < 512 :=
      fun c => KRun.range_of_pre _ _ _ _ _ _ (hpre c)
    hlo_run
    · exact RVal.env_eq _ _ 2048#32 (hR c).1
    · exact RVal.bias_eq _ _ 2048#32 (hR c).1
    · exact RVal.rows_eq _ _ 512#32 (hR c).2
    · exact RVal.rows_eq _ _ 512#32 (hR c).2

end Cert.Proof.Final
end
-- ==== Proof.PVal.lean ====
/-
  The projection call: what its result array holds after the run, at an index, and what the reference holds there.
-/
module

public import proofs.«01_k».proof.Defs
public import proofs.«01_k».proof.Proof.Gen.ProjIdeal.Value
public import proofs.«01_k».proof.Proof.Gen.ProjRefIdeal.Run
public import proofs.«01_k».proof.Proof.Gen.ProjIdeal
public import proofs.«01_k».proof.Proof.Gen.ProjRefIdeal
public import Idealize.ShloMosaic.Lib.Pipeline.ValueKit
public import Idealize.ShloMosaic.Lib.Pointwise

@[expose] public section

set_option maxRecDepth 16384

noncomputable section

namespace Cert.Proof.PVal

open Idealize.ShloMosaic Idealize.ShloMosaic.TcCoe Idealize.SL.Sem
open Cert.ProjIdeal Cert.ProjIdeal.Gen

attribute [local instance] Cert.ProjRefIdeal.Gen.facts Cert.ProjIdeal.Gen.facts

variable (m : (ℓ : Loc nD τ sig) → Buf (Elt Ideal) ℓ)

/-- Where each window's block lies at each grid point. -/
theorem idx : ∀ t : Fin grid0.N, win0_0.index t = ![(grid0.coords t 0).val, (grid0.coords t 1).val, 0, 0]
    ∧ win0_1.index t = ![(grid0.coords t 0).val, (grid0.coords t 1).val, 0, 0]
    ∧ win0_2.index t = ![(grid0.coords t 0).val, 0, 0]
    ∧ win0_3.index t = ![(grid0.coords t 0).val, (grid0.coords t 1).val, 0, 0] := by decide +kernel

/-- The result as a function of the three stacked arrays that the call reads. -/
def G (X : S3x9x512x128.Idx → EReal) (W : S3x9x128x128.Idx → EReal) (b : S3x1x128.Idx → EReal) : S3x9x512x128.Idx → EReal :=
  fun i => Scalar.select (Scalar.cmpi .eq (BitVec.ofNat 32 (i 1).val) 0#32)
    ((∑ k : Fin 128, X (ix4 (i 0) (i 1) (i 2) k) * W (ix4 (i 0) (i 1) k (i 3))) + b (ix3 (i 0) 0 (i 3)))
    (∑ k : Fin 128, X (ix4 (i 0) (i 1) (i 2) k) * W (ix4 (i 0) (i 1) k (i 3)))

theorem arr (c : Dev nD) : (dats m 0 c).arrAt 3 cfg0.N = G (V m c main_v4) (V m c main_v29) (V m c main_v34) := by
  refine (dats m 0 c).arrAt_eq_of_covers 3 _ (by decide +kernel) fun t hf y => ?_
  blk_simp
  rw [after0_3]
  frame_out
  unfold G
  pointwise [k0_pay1]
  have h1 : (((cfg0.win 3).blk t).view.emb y 1 : ℕ) = (grid0.coords t 1).val := by
    have e := (idx t).2.2.2
    blk_simp [e]
  have h1' : (((View.whole main_v35).slice (win0_3.rect t)).emb y 1 : ℕ) = (grid0.coords t 1).val := h1
  rw [h1']
  blk_point [iblk, idx t]

/-- The degree of each of the nine rows. -/
def deg : Fin 9 → Fin 3 := ![0, 1, 1, 1, 2, 2, 2, 2, 2]

/-- One projection: row `s`'s product with the matrix of its degree, and the bias on the first row. -/
def one (x : (⟨3, ![512, 9, 128]⟩ : Shape).Idx → EReal) (W : (⟨3, ![3, 128, 128]⟩ : Shape).Idx → EReal) (b : (⟨1, ![128]⟩ : Shape).Idx → EReal)
    (s : Fin 9) (n : Fin 512) (o : Fin 128) : EReal :=
  Scalar.select (Scalar.cmpi .eq (BitVec.ofNat 32 s.val) 0#32)
    ((∑ k : Fin 128, x (ix3 n s k) * W (ix3 (deg s) k o)) + b (ix1 o))
    (∑ k : Fin 128, x (ix3 n s k) * W (ix3 (deg s) k o))

/-- The weights' gather: row `s` of the result is the matrix of that row's degree. -/
theorem gather_k (x : Cert.ProjIdeal.S3x128x128.Idx → EReal) (idx : Cert.ProjIdeal.S9x1.Idx → BitVec 32) (hidx : ∀ s : Fin 9, idx (ix2 s 0) = BitVec.ofNat 32 (deg s).val)
    (s : Fin 9) (k o : Fin 128) :
    Host.gather Cert.ProjIdeal.gather_S3x128x128_S9x1_S9x128x128_12_0_n_n_0_1_1128128 x idx (ix3 s k o) = x (ix3 (deg s) k o) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  unfold GatherDims.start GatherDims.offCoord
  match a with
  | ⟨0, _⟩ =>
    rw [dif_pos (by decide +revert), dif_neg (by decide +revert)]
    have hsi : Cert.ProjIdeal.gather_S3x128x128_S9x1_S9x128x128_12_0_n_n_0_1_1128128.siIdx (ix3 s k o) ⟨0, by decide⟩ = ix2 s 0 := by
      funext b
      match b with
      | ⟨0, _⟩ => rfl
      | ⟨1, _⟩ => rfl
    show min (idx (Cert.ProjIdeal.gather_S3x128x128_S9x1_S9x128x128_12_0_n_n_0_1_1128128.siIdx (ix3 s k o) ⟨0, _⟩)).toInt.toNat (3 - 1) + 0 + 0 = (deg s).val
    rw [hsi, hidx]
    clear hidx hsi
    revert s
    decide
  | ⟨1, _⟩ =>
    rw [dif_neg (by decide +revert), dif_pos (by decide +revert)]
    show 0 + 0 + k.val = k.val
    omega
  | ⟨2, _⟩ =>
    rw [dif_neg (by decide +revert), dif_pos (by decide +revert)]
    show 0 + 0 + o.val = o.val
    omega

/-- The weights' gather: row `s` of the result is the matrix of that row's degree. -/
theorem gather_r (x : Cert.ProjRefIdeal.S3x128x128.Idx → EReal) (idx : Cert.ProjRefIdeal.S9x1.Idx → BitVec 32) (hidx : ∀ s : Fin 9, idx (ix2 s 0) = BitVec.ofNat 32 (deg s).val)
    (s : Fin 9) (k o : Fin 128) :
    Host.gather Cert.ProjRefIdeal.gather_S3x128x128_S9x1_S9x128x128_12_0_n_n_0_1_1128128 x idx (ix3 s k o) = x (ix3 (deg s) k o) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  unfold GatherDims.start GatherDims.offCoord
  match a with
  | ⟨0, _⟩ =>
    rw [dif_pos (by decide +revert), dif_neg (by decide +revert)]
    have hsi : Cert.ProjRefIdeal.gather_S3x128x128_S9x1_S9x128x128_12_0_n_n_0_1_1128128.siIdx (ix3 s k o) ⟨0, by decide⟩ = ix2 s 0 := by
      funext b
      match b with
      | ⟨0, _⟩ => rfl
      | ⟨1, _⟩ => rfl
    show min (idx (Cert.ProjRefIdeal.gather_S3x128x128_S9x1_S9x128x128_12_0_n_n_0_1_1128128.siIdx (ix3 s k o) ⟨0, _⟩)).toInt.toNat (3 - 1) + 0 + 0 = (deg s).val
    rw [hsi, hidx]
    clear hidx hsi
    revert s
    decide
  | ⟨1, _⟩ =>
    rw [dif_neg (by decide +revert), dif_pos (by decide +revert)]
    show 0 + 0 + k.val = k.val
    omega
  | ⟨2, _⟩ =>
    rw [dif_neg (by decide +revert), dif_pos (by decide +revert)]
    show 0 + 0 + o.val = o.val
    omega

end Cert.Proof.PVal
-- ==== Proof.PVal2.lean ====
/-
  The projection call: what its result array holds after the run, at an index, and what the reference holds there.
-/
module

public import proofs.«01_k».proof.Defs
public import proofs.«01_k».proof.Proof.Gen.ProjIdeal.Value
public import proofs.«01_k».proof.Proof.Gen.ProjRefIdeal.Run
public import proofs.«01_k».proof.Proof.Gen.ProjIdeal
public import proofs.«01_k».proof.Proof.Gen.ProjRefIdeal
public import Idealize.ShloMosaic.Lib.Pipeline.ValueKit
public import Idealize.ShloMosaic.Lib.Pointwise
public import Idealize.ShloMosaic.Lib.StableHlo.ReadAt
public import proofs.«01_k».proof.Proof.PVal

@[expose] public section

set_option maxRecDepth 16384

noncomputable section

namespace Cert.Proof.PVal

open Idealize.ShloMosaic Idealize.ShloMosaic.TcCoe Idealize.SL.Sem
open Cert.ProjIdeal Cert.ProjIdeal.Gen

attribute [local instance] Cert.ProjRefIdeal.Gen.facts Cert.ProjIdeal.Gen.facts

variable (m : (ℓ : Loc nD τ sig) → Buf (Elt Ideal) ℓ)

theorem X_eq (c : Dev nD) (i : Fin 3) (s : Fin 9) (n : Fin 512) (k : Fin 128) :
    V m c main_v4 (ix4 i s n k) = (if (i : ℕ) < 1 then m ((c : Thread nD τ).loc main_arg0) (ix3 n s k) else
      if (i : ℕ) - 1 < 1 then m ((c : Thread nD τ).loc main_arg1) (ix3 n s k) else m ((c : Thread nD τ).loc main_arg2) (ix3 n s k)) := by
  unfold V hostOps0
  after_reads_at
  after_reads_at
  split_ifs <;> rfl

theorem b_eq (c : Dev nD) (i : Fin 3) (o : Fin 128) :
    V m c main_v34 (ix3 i 0 o) = (if (i : ℕ) < 1 then m ((c : Thread nD τ).loc main_arg4) (ix1 o) else
      if (i : ℕ) - 1 < 1 then m ((c : Thread nD τ).loc main_arg6) (ix1 o) else m ((c : Thread nD τ).loc main_arg8) (ix1 o)) := by
  unfold V hostOps0
  after_reads_at
  after_reads_at
  split_ifs <;> rfl

theorem W_eq (c : Dev nD) (i : Fin 3) (s : Fin 9) (k o : Fin 128) :
    V m c main_v29 (ix4 i s k o) = (if (i : ℕ) < 1 then m ((c : Thread nD τ).loc main_arg3) (ix3 (deg s) k o) else
      if (i : ℕ) - 1 < 1 then m ((c : Thread nD τ).loc main_arg5) (ix3 (deg s) k o) else m ((c : Thread nD τ).loc main_arg7) (ix3 (deg s) k o)) := by
  unfold V hostOps0
  after_reads_at
  after_reads_at
  split_ifs <;> exact gather_k _ _ (fun s => by fin_cases s <;> rfl) s k o

theorem G_at {X : S3x9x512x128.Idx → EReal} {W : S3x9x128x128.Idx → EReal} {b : S3x1x128.Idx → EReal} {i : Fin 3} {s : Fin 9} {n : Fin 512} {o : Fin 128}
    {f g : Fin 128 → EReal} {z : EReal} (hX : ∀ k, X (ix4 i s n k) = f k) (hW : ∀ k, W (ix4 i s k o) = g k) (hb : b (ix3 i 0 o) = z) :
    G X W b (ix4 i s n o) =
      Scalar.select (Scalar.cmpi .eq (BitVec.ofNat 32 s.val) 0#32) ((∑ k : Fin 128, f k * g k) + z) (∑ k : Fin 128, f k * g k) := by
  unfold G
  show Scalar.select (Scalar.cmpi .eq (BitVec.ofNat 32 s.val) 0#32) ((∑ k : Fin 128, X (ix4 i s n k) * W (ix4 i s k o)) + b (ix3 i 0 o))
    (∑ k : Fin 128, X (ix4 i s n k) * W (ix4 i s k o)) = _
  rw [hb, Finset.sum_congr rfl fun k _ => congrArg₂ (· * ·) (hX k) (hW k)]

theorem mul_swap {a a' b : EReal} (h : a = a') : a * b = b * a' := by rw [h, mul_comm]

theorem sel_congr {w : BitVec 1} {a a' b : EReal} (h : a = a') : Scalar.select w (a + b) a = Scalar.select w (a' + b) a' := by rw [h]

/-- The reference's result at an index. -/
theorem ref (m : (ℓ : Loc Cert.ProjRefIdeal.nD Cert.ProjRefIdeal.τ Cert.ProjRefIdeal.sig) → Buf (Elt Ideal) ℓ) (c : Dev Cert.ProjRefIdeal.nD)
    (i : Fin 3) (s : Fin 9) (n : Fin 512) (o : Fin 128) :
    Cert.ProjRefIdeal.Value.res_main_v49 m c (ix4 i s n o) =
      one (if (i : ℕ) < 1 then m (c.tc.loc Cert.ProjRefIdeal.main_arg0) else if (i : ℕ) - 1 < 1 then m (c.tc.loc Cert.ProjRefIdeal.main_arg1) else m (c.tc.loc Cert.ProjRefIdeal.main_arg2))
        (if (i : ℕ) < 1 then m (c.tc.loc Cert.ProjRefIdeal.main_arg3) else if (i : ℕ) - 1 < 1 then m (c.tc.loc Cert.ProjRefIdeal.main_arg5) else m (c.tc.loc Cert.ProjRefIdeal.main_arg7))
        (if (i : ℕ) < 1 then m (c.tc.loc Cert.ProjRefIdeal.main_arg4) else if (i : ℕ) - 1 < 1 then m (c.tc.loc Cert.ProjRefIdeal.main_arg6) else m (c.tc.loc Cert.ProjRefIdeal.main_arg8)) s n o := by
  unfold Cert.ProjRefIdeal.Value.res_main_v49
  pointwise
  unfold one
  split_ifs
  · refine sel_congr (Finset.sum_congr rfl fun x _ => ?_)
    exact mul_swap (gather_r _ _ (fun s => by fin_cases s <;> rfl) s x o)
  · refine sel_congr (Finset.sum_congr rfl fun x _ => ?_)
    exact mul_swap (gather_r _ _ (fun s => by fin_cases s <;> rfl) s x o)
  · refine sel_congr (Finset.sum_congr rfl fun x _ => ?_)
    exact mul_swap (gather_r _ _ (fun s => by fin_cases s <;> rfl) s x o)

/-- The kernel's result at an index. -/
theorem ker (c : Dev nD) (i : Fin 3) (s : Fin 9) (n : Fin 512) (o : Fin 128) :
    (dats m 0 c).arrAt 3 cfg0.N (ix4 i s n o) =
      one (if (i : ℕ) < 1 then m (c.tc.loc main_arg0) else if (i : ℕ) - 1 < 1 then m (c.tc.loc main_arg1) else m (c.tc.loc main_arg2))
        (if (i : ℕ) < 1 then m (c.tc.loc main_arg3) else if (i : ℕ) - 1 < 1 then m (c.tc.loc main_arg5) else m (c.tc.loc main_arg7))
        (if (i : ℕ) < 1 then m (c.tc.loc main_arg4) else if (i : ℕ) - 1 < 1 then m (c.tc.loc main_arg6) else m (c.tc.loc main_arg8)) s n o := by
  rw [arr m c]
  rw [G_at (fun k => X_eq m c i s n k) (fun k => W_eq m c i s k o) (b_eq m c i o)]
  unfold one
  split_ifs <;> rfl

end Cert.Proof.PVal
-- ==== Proof.PFin.lean ====
/-
  The projection call's claims.
-/
module

public import proofs.«01_k».proof.Defs
public import proofs.«01_k».proof.Proof.PVal2
public import Idealize.ShloMosaic.Lib.Claim
public import Idealize.ShloMosaic.Lib.Quiescent

@[expose] public section

set_option maxRecDepth 16384

noncomputable section

namespace Cert.Proof.PVal

open Idealize.ShloMosaic Idealize.ShloMosaic.TcCoe Idealize.SL.Sem

attribute [local instance] Cert.ProjRefIdeal.Gen.facts Cert.ProjIdeal.Gen.facts

theorem frame_reference : Cert.quiescent_ProjRefIdeal := by
  intro m g hpre
  exact θ_run_mono (Cert.ProjRefIdeal.Value.run m g) fun r hr => ⟨fun c => (hr c).2, sem_eq_zero_of_no_sems (sig := Cert.ProjRefIdeal.sig) rfl _⟩

/-- The kernel's result is the reference's. -/
theorem alg : Cert.algebraic_ProjIdeal_ProjRefIdeal := by
  intro m g m' g' hpre hagree
  refine ⟨fun c => (Cert.ProjIdeal.Gen.dats m 0 c).arrAt 3 Cert.ProjIdeal.cfg0.N, Cert.ProjIdeal.Value.run_blocks m g, ?_⟩
  refine θ_run_mono (Cert.ProjRefIdeal.Value.run m' g') fun r hr c => ⟨(hr c).1.trans (funext fun i => ?_), (hr c).2⟩
  obtain ⟨h0, h1, h2, h3, h4, h5, h6, h7, h8⟩ := hagree c
  have key : ∀ (i : Fin 3) (s : Fin 9) (n : Fin 512) (o : Fin 128),
      Cert.ProjRefIdeal.Value.res_main_v49 m' c (ix4 i s n o) = (Cert.ProjIdeal.Gen.dats m 0 c).arrAt 3 Cert.ProjIdeal.cfg0.N (ix4 i s n o) := fun i s n o => by
    rw [ref, ker, h0, h1, h2, h3, h4, h5, h6, h7, h8]
  idx_vars i
  exact key _ _ _ _

end Cert.Proof.PVal
-- ==== Proof.OVal.lean ====
/-
  The output call: what its result array holds after the run, at an index, and what the reference holds there.
-/
module

public import proofs.«01_k».proof.Defs
public import proofs.«01_k».proof.Proof.Gen.OutIdeal.Frame
public import proofs.«01_k».proof.Proof.Gen.OutRefIdeal.Run
public import proofs.«01_k».proof.Proof.Gen.OutIdeal
public import proofs.«01_k».proof.Proof.Gen.OutRefIdeal
public import proofs.«01_k».proof.Proof.PVal2
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.OVal

open Idealize.ShloMosaic Idealize.ShloMosaic.TcCoe Idealize.SL.Sem
open Cert.OutIdeal Cert.OutIdeal.Gen

attribute [local instance] Cert.OutRefIdeal.Gen.facts Cert.OutIdeal.Gen.facts

variable (m : (ℓ : Loc nD τ sig) → Buf (Elt Ideal) ℓ)

/-- The mean of a row of 128. -/
def mean (r : Fin 128 → EReal) : EReal := Ideal.div (∑ k, r k) (Ideal.ofBits .f32 1124073472#32)

/-- The layer norm of a row of 128. -/
def ln (r w b : Fin 128 → EReal) (k : Fin 128) : EReal :=
  Ideal.div (r k - mean r) (Ideal.sqrt (Ideal.div (∑ x, (r x - mean r) * (r x - mean r)) (Ideal.ofBits .f32 1124073472#32) + Ideal.ofBits .f32 869711765#32)) * w k + b k

/-- The reciprocal of the root mean square, over 128 channels, of the norms of `J` rows. -/
def rms {J : Nat} (r : Fin J → Fin 128 → EReal) : EReal :=
  Ideal.rsqrt (Ideal.div (∑ x, ∑ j, r j x * r j x) (Ideal.ofBits .f32 1124073472#32) + Ideal.ofBits .f32 869711765#32)

/-- The normalised row `s`. -/
def row (r0 : Fin 128 → EReal) (r1 : Fin 3 → Fin 128 → EReal) (r2 : Fin 5 → Fin 128 → EReal) (w b w1 w2 : Fin 128 → EReal) (s : Fin 9) (k : Fin 128) : EReal :=
  if h : s.val < 1 then ln r0 w b k else if h' : s.val - 1 < 3 then r1 ⟨s.val - 1, h'⟩ k * rms r1 * w1 k
    else r2 ⟨s.val - 1 - 3, by omega⟩ k * rms r2 * w2 k

/-- One entry of the result: a normalised row's product with a column of weights, and the bias on the first row. -/
def one (f g : Fin 128 → EReal) (b : EReal) (s : Fin 9) : EReal :=
  Scalar.select (Scalar.cmpi .eq (BitVec.ofNat 32 s.val) 0#32) ((∑ k : Fin 128, f k * g k) + b) (∑ k : Fin 128, f k * g k)

/-- The result as a function of the arrays that the call reads. -/
def G (X : S9x512x128.Idx → EReal) (W : S9x128x128.Idx → EReal) (b w0 b0 : S1x128.Idx → EReal) (wl : S2x128.Idx → EReal) : S9x512x128.Idx → EReal :=
  fun i => one (row (fun k => X (ix3 0 (i 1) k)) (fun j k => X (ix3 ⟨1 + j.val, by omega⟩ (i 1) k)) (fun j k => X (ix3 ⟨4 + j.val, by omega⟩ (i 1) k))
    (fun k => w0 (ix2 0 k)) (fun k => b0 (ix2 0 k)) (fun k => wl (ix2 0 k)) (fun k => wl (ix2 1 k)) (i 0)) (fun k => W (ix3 (i 0) k (i 2))) (b (ix2 0 (i 2))) (i 0)

theorem sq_nonneg' (x : EReal) : 0 ≤ x * x := by
  rcases le_total 0 x with h | h
  · exact mul_nonneg h h
  · have h' : 0 ≤ -x := by simpa using EReal.neg_le_neg_iff.2 h
    have := mul_nonneg h' h'
    simpa using this

theorem c128 : Ideal.ofBits .f32 1124073472#32 = ((128 : ℝ) : EReal) := by
  simp [Ideal.ofBits, Ideal.ieee, -EReal.coe_mul]; norm_num

theorem eps_pos : (0 : EReal) < Ideal.ofBits .f32 869711765#32 := by
  simp [Ideal.ofBits, Ideal.ieee, -EReal.coe_mul]

theorem div128_nonneg {x : EReal} (h : 0 ≤ x) : 0 ≤ Ideal.div x (Ideal.ofBits .f32 1124073472#32) := by
  rw [c128]
  unfold Ideal.div
  rw [if_neg (by exact_mod_cast (by norm_num : (128 : ℝ) ≠ 0))]
  exact mul_nonneg h (EReal.inv_nonneg_of_nonneg (by exact_mod_cast (by norm_num : (0 : ℝ) ≤ 128)))

/-- Over a positive number, a product with the reciprocal root is a quotient by the root. -/
theorem mul_rsqrt (x : EReal) {y : EReal} (hy : 0 < y) : x * Ideal.rsqrt y = Ideal.div x (Ideal.sqrt y) := by
  induction y with
  | bot => exact absurd hy (by simp)
  | top =>
    unfold Ideal.div
    rw [Ideal.rsqrt_top, Ideal.sqrt_top, if_neg EReal.top_ne_zero, EReal.inv_top]
  | coe r =>
    have hr : 0 < r := by exact_mod_cast hy
    have hs : 0 < Real.sqrt r := Real.sqrt_pos.2 hr
    rw [Ideal.rsqrt_coe, Ideal.sqrt_coe, if_neg (not_lt.2 hr.le), if_neg hr.ne', if_neg (not_lt.2 hr.le)]
    unfold Ideal.div
    rw [if_neg (by exact_mod_cast hs.ne')]
    rw [EReal.coe_inv]

theorem ln_eq (r w b : Fin 128 → EReal) (k : Fin 128) :
    (r k - mean r) * Ideal.rsqrt (Ideal.div (∑ x, (r x - mean r) * (r x - mean r)) (Ideal.ofBits .f32 1124073472#32) + Ideal.ofBits .f32 869711765#32) * w k + b k = ln r w b k := by
  unfold ln
  rw [mul_rsqrt]
  exact lt_of_lt_of_le eps_pos (le_add_of_nonneg_left (div128_nonneg (Finset.sum_nonneg fun _ _ => sq_nonneg' _)))

theorem out_at (x0 : S9x512x128.Idx → EReal) (x1 : S9x128x128.Idx → EReal) (x2 x3 x4 : S1x128.Idx → EReal) (x5 : S2x128.Idx → EReal) (y : S9x512x128.Idx) :
    out0_6 (F := Ideal) x0 x1 x2 x3 x4 x5 y = G x0 x1 x2 x3 x4 x5 y := by
  unfold_out out0_6
  canon_tiles x h
  all_goals (pointwise [k0_pay1,k0_pay2,k0_pay3,k0_pay4,k0_pay5,k0_pay6,k0_pay7,k0_pay8,k0_pay9,k0_pay10,k0_pay11,k0_pay12,k0_pay13,k0_pay14,k0_pay15])
  · obtain rfl : y = ix3 8 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_five]
    try rfl
  · obtain rfl : y = ix3 7 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_five]
    try rfl
  · obtain rfl : y = ix3 6 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_five]
    try rfl
  · obtain rfl : y = ix3 5 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_five]
    try rfl
  · obtain rfl : y = ix3 4 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_five]
    try rfl
  · obtain rfl : y = ix3 3 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_three]
    try rfl
  · obtain rfl : y = ix3 2 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_three]
    try rfl
  · obtain rfl : y = ix3 1 (x 1) (x 2) := by
      idx_vars y
      congr 1 <;> apply Fin.ext <;> simp_all
    refine Finset.sum_congr rfl fun k _ => congrArg (· * _) ?_
    rw [← mul_assoc]
    show _ = _ * Ideal.rsqrt (Ideal.div (∑ x, ∑ j, _) _ + _) * _
    simp only [Fin.sum_univ_three]
    try rfl
  · obtain rfl : y = ix3 0 (x 1) (x 2) := by
      idx_vars y
      congr 1 <;> apply Fin.ext <;> simp_all
    refine congrArg (· + _) (Finset.sum_congr rfl fun k _ => congrArg (· * _) ?_)
    exact ln_eq (fun k => x0 (ix3 0 (x 1) k)) (fun k => x3 (ix2 0 k)) (fun k => x4 (ix2 0 k)) k

theorem ref (m : (ℓ : Loc Cert.OutRefIdeal.nD Cert.OutRefIdeal.τ Cert.OutRefIdeal.sig) → Buf (Elt Ideal) ℓ) (c : Dev Cert.OutRefIdeal.nD)
    (s : Fin 9) (n : Fin 512) (o : Fin 128) :
    Cert.OutRefIdeal.Value.res_main_v82 m c (ix3 n s o) =
      one (row (fun k => m (c.tc.loc Cert.OutRefIdeal.main_arg0) (ix3 ⟨k.val / 16, by omega⟩ n ⟨k.val % 16, by omega⟩))
        (fun j k => m (c.tc.loc Cert.OutRefIdeal.main_arg0) (ix3 ⟨k.val / 16, by omega⟩ n ⟨(1 + j.val) * 16 + k.val % 16, by omega⟩))
        (fun j k => m (c.tc.loc Cert.OutRefIdeal.main_arg0) (ix3 ⟨k.val / 16, by omega⟩ n ⟨(4 + j.val) * 16 + k.val % 16, by omega⟩))
        (fun k => m (c.tc.loc Cert.OutRefIdeal.main_arg1) (ix1 k)) (fun k => m (c.tc.loc Cert.OutRefIdeal.main_arg2) (ix1 k))
        (fun k => m (c.tc.loc Cert.OutRefIdeal.main_arg3) (ix2 0 k)) (fun k => m (c.tc.loc Cert.OutRefIdeal.main_arg3) (ix2 1 k)) s)
        (fun k => m (c.tc.loc Cert.OutRefIdeal.main_arg4) (ix3 (Cert.Proof.PVal.deg s) k o)) (m (c.tc.loc Cert.OutRefIdeal.main_arg5) (ix1 o)) s := by
  unfold Cert.OutRefIdeal.Value.res_main_v82
  pointwise
  unfold one
  refine Cert.Proof.PVal.sel_congr (Finset.sum_congr rfl fun x _ => ?_)
  refine (Cert.Proof.PVal.mul_swap (Cert.Proof.PVal.gather_r _ _ (fun s => by fin_cases s <;> rfl) s x o)).trans (congrArg (· * _) ?_)
  unfold row
  split_ifs with h h'
  · obtain rfl : s = 0 := Fin.ext (by show s.val = 0; omega)
    unfold ln mean
    simp only [Fin.val_zero, Nat.zero_mul, Nat.zero_add]
  all_goals first | rfl | (unfold rms; rfl)

end Cert.Proof.OVal
-- ==== Proof.OFin.lean ====
/-
  The output call's claims.
-/
module

public import proofs.«01_k».proof.Defs
public import proofs.«01_k».proof.Proof.Gen.OutIdeal.Frame
public import proofs.«01_k».proof.Proof.Gen.OutRefIdeal.Run
public import proofs.«01_k».proof.Proof.Gen.OutIdeal
public import proofs.«01_k».proof.Proof.Gen.OutRefIdeal
public import proofs.«01_k».proof.Proof.PVal2
public import Idealize.ShloMosaic.Lib.Pipeline.ValueKit
public import Idealize.ShloMosaic.Lib.Pointwise
public import Idealize.ShloMosaic.Lib.StableHlo.ReadAt

public import proofs.«01_k».proof.Proof.OVal
public import Idealize.ShloMosaic.Lib.Claim
public import Idealize.ShloMosaic.Lib.Quiescent

@[expose] public section

set_option maxRecDepth 16384

noncomputable section

namespace Cert.Proof.OVal

open Idealize.ShloMosaic Idealize.ShloMosaic.TcCoe Idealize.SL.Sem
open Cert.OutIdeal Cert.OutIdeal.Gen

attribute [local instance] Cert.OutRefIdeal.Gen.facts Cert.OutIdeal.Gen.facts

variable (m : (ℓ : Loc nD τ sig) → Buf (Elt Ideal) ℓ)

theorem idx : ∀ t : Fin grid0.N, win0_0.index t = ![0, 0, 0] ∧ win0_1.index t = ![0, 0, 0] ∧ win0_2.index t = ![0, 0] ∧ win0_3.index t = ![0, 0]
    ∧ win0_4.index t = ![0, 0] ∧ win0_5.index t = ![0, 0] ∧ win0_6.index t = ![0, 0, 0] := by decide +kernel

theorem arr (c : Dev nD) : (dats m 0 c).arrAt 6 cfg0.N =
    G (V m c main_v2) (V m c main_v9) (V m c main_v10) (V m c main_v11) (V m c main_v12) (V m c main_arg3) := by
  refine (dats m 0 c).arrAt_eq_of_covers 6 _ (by decide +kernel) fun t hf y => ?_
  blk_simp
  rw [after0_6]
  refine (out_at _ _ _ _ _ _ y).trans ?_
  have hy : (win0_6.blk t).view.emb y = y := by
    funext a
    have e := (idx t).2.2.2.2.2.2
    match a with
    | 0 => apply Fin.ext; blk_simp [e]
    | 1 => apply Fin.ext; blk_simp [e]
    | 2 => apply Fin.ext; blk_simp [e]
  rw [hy]
  unfold G
  blk_point [iblk, idx t]

theorem X_eq (c : Dev nD) (s : Fin 9) (n : Fin 512) (k : Fin 128) :
    V m c main_v2 (ix3 s n k) = m ((c : Thread nD τ).loc main_arg0) (ix3 ⟨k.val / 16, by omega⟩ n ⟨s.val * 16 + k.val % 16, by omega⟩) := by
  unfold V V0 hostOps0
  after_reads_at

theorem W_eq (c : Dev nD) (s : Fin 9) (k o : Fin 128) :
    V m c main_v9 (ix3 s k o) = m ((c : Thread nD τ).loc main_arg4) (ix3 (Cert.Proof.PVal.deg s) k o) := by
  unfold V V0 hostOps0
  after_reads_at
  exact Cert.Proof.PVal.gather_k _ _ (fun s => by fin_cases s <;> rfl) s k o

theorem b_eq (c : Dev nD) (o : Fin 128) : V m c main_v10 (ix2 0 o) = m ((c : Thread nD τ).loc main_arg5) (ix1 o) := by
  unfold V V0 hostOps0
  after_reads_at

theorem w0_eq (c : Dev nD) (o : Fin 128) : V m c main_v11 (ix2 0 o) = m ((c : Thread nD τ).loc main_arg1) (ix1 o) := by
  unfold V V0 hostOps0
  after_reads_at

theorem b0_eq (c : Dev nD) (o : Fin 128) : V m c main_v12 (ix2 0 o) = m ((c : Thread nD τ).loc main_arg2) (ix1 o) := by
  unfold V V0 hostOps0
  after_reads_at

theorem wl_eq (c : Dev nD) (i : Fin 2) (o : Fin 128) : V m c main_arg3 (ix2 i o) = m ((c : Thread nD τ).loc main_arg3) (ix2 i o) := by
  rw [V_main_arg3]

theorem G_at {X : S9x512x128.Idx → EReal} {W : S9x128x128.Idx → EReal} {b w0 b0 : S1x128.Idx → EReal} {wl : S2x128.Idx → EReal}
    {s : Fin 9} {n : Fin 512} {o : Fin 128} {f : Fin 9 → Fin 128 → EReal} {g w' b' w1 w2 : Fin 128 → EReal} {z : EReal}
    (hX : ∀ s k, X (ix3 s n k) = f s k) (hW : ∀ k, W (ix3 s k o) = g k) (hb : b (ix2 0 o) = z) (hw0 : ∀ k, w0 (ix2 0 k) = w' k)
    (hb0 : ∀ k, b0 (ix2 0 k) = b' k) (h1 : ∀ k, wl (ix2 0 k) = w1 k) (h2 : ∀ k, wl (ix2 1 k) = w2 k) :
    G X W b w0 b0 wl (ix3 s n o) =
      one (row (f 0) (fun j => f ⟨1 + j.val, by omega⟩) (fun j => f ⟨4 + j.val, by omega⟩) w' b' w1 w2 s) g z s := by
  obtain rfl : (fun k => w0 (ix2 0 k)) = w' := funext hw0
  obtain rfl : (fun k => b0 (ix2 0 k)) = b' := funext hb0
  obtain rfl : (fun k => wl (ix2 0 k)) = w1 := funext h1
  obtain rfl : (fun k => wl (ix2 1 k)) = w2 := funext h2
  obtain rfl : (fun k => W (ix3 s k o)) = g := funext hW
  obtain rfl : (fun s k => X (ix3 s n k)) = f := funext fun s => funext (hX s)
  rw [← hb]
  rfl

/-- The kernel's result at an index. -/
theorem ker (c : Dev nD) (s : Fin 9) (n : Fin 512) (o : Fin 128) :
    (dats m 0 c).arrAt 6 cfg0.N (ix3 s n o) =
      one (row (fun k => m (c.tc.loc main_arg0) (ix3 ⟨k.val / 16, by omega⟩ n ⟨k.val % 16, by omega⟩))
        (fun j k => m (c.tc.loc main_arg0) (ix3 ⟨k.val / 16, by omega⟩ n ⟨(1 + j.val) * 16 + k.val % 16, by omega⟩))
        (fun j k => m (c.tc.loc main_arg0) (ix3 ⟨k.val / 16, by omega⟩ n ⟨(4 + j.val) * 16 + k.val % 16, by omega⟩))
        (fun k => m (c.tc.loc main_arg1) (ix1 k)) (fun k => m (c.tc.loc main_arg2) (ix1 k))
        (fun k => m (c.tc.loc main_arg3) (ix2 0 k)) (fun k => m (c.tc.loc main_arg3) (ix2 1 k)) s)
        (fun k => m (c.tc.loc main_arg4) (ix3 (Cert.Proof.PVal.deg s) k o)) (m (c.tc.loc main_arg5) (ix1 o)) s := by
  rw [arr m c]
  refine (G_at (fun s k => X_eq m c s n k) (fun k => W_eq m c s k o) (b_eq m c o) (w0_eq m c) (b0_eq m c) (wl_eq m c 0) (wl_eq m c 1)).trans ?_
  have h0 : ∀ k : Fin 128, (⟨(0 : Fin 9).val * 16 + k.val % 16, by show 0 * 16 + _ < _; omega⟩ : Fin 144) = ⟨k.val % 16, by omega⟩ :=
    fun k => Fin.ext (by show (0 * 16 + k.val % 16 : ℕ) = k.val % 16; omega)
  simp only [h0]

theorem frame_reference : Cert.quiescent_OutRefIdeal := by
  intro m g hpre
  exact θ_run_mono (Cert.OutRefIdeal.Value.run m g) fun r hr => ⟨fun c => (hr c).2, sem_eq_zero_of_no_sems (sig := Cert.OutRefIdeal.sig) rfl _⟩

/-- What the transpose after the call leaves, at an index: the call's array with its first two axes exchanged. -/
theorem out_at_end (c : Dev nD) (n : Fin 512) (s : Fin 9) (o : Fin 128) :
    Pipeline.afterTail₀ cfgs (dats m) 0 (V0 m) [hostOps1] c main_v14 (ix3 n s o) = (dats m 0 c).arrAt 6 cfg0.N (ix3 s n o) := by
  unfold Pipeline.afterTail₀
  have h : Pipeline.withArrays (cfgs 0).spec c (V0 m c) (fun w => (dats m 0 c).arrAt w (cfgs 0).N) (Proc.devRef .tc main_v13)
      = (dats m 0 c).arrAt 6 cfg0.N :=
    Pipeline.withArrays_arr (cfgs 0).spec launch0.win.arr_inj c (V0 m c) _ 6
  rw [← h]
  generalize Pipeline.withArrays (cfgs 0).spec c (V0 m c) (fun w => (dats m 0 c).arrAt w (cfgs 0).N) = X
  simp only [List.flatten_cons, List.flatten_nil, List.append_nil]
  unfold hostOps1
  after_reads_at

/-- The kernel's run: the result named, the arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v14) = Pipeline.afterTail₀ cfgs (dats m) 0 (V0 m) [hostOps1] c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m g) (unchanged m g)) fun r hr c =>
    ⟨(hr.1 c).2 main_v14 (Pipeline.mem_restRefs_of main_v14 (by decide) (by decide)), hr.2 c⟩

/-- The kernel's result is the reference's. -/
theorem alg : Cert.algebraic_OutIdeal_OutRefIdeal := by
  intro m g m' g' hpre hagree
  refine ⟨fun c => Pipeline.afterTail₀ cfgs (dats m) 0 (V0 m) [hostOps1] c main_v14, run m g, ?_⟩
  refine θ_run_mono (Cert.OutRefIdeal.Value.run m' g') fun r hr c => ⟨(hr c).1.trans (funext fun i => ?_), (hr c).2⟩
  obtain ⟨h0, h1, h2, h3, h4, h5⟩ := hagree c
  have key : ∀ (n : Fin 512) (s : Fin 9) (o : Fin 128),
      Cert.OutRefIdeal.Value.res_main_v82 m' c (ix3 n s o) = Pipeline.afterTail₀ cfgs (dats m) 0 (V0 m) [hostOps1] c main_v14 (ix3 n s o) := fun n s o => by
    rw [ref, out_at_end, ker, h0, h1, h2, h3, h4, h5]
  idx_vars i
  exact key _ _ _

end Cert.Proof.OVal
-- ==== Proof.ARow.lean ====
/-
  One row of attention within segments, as functions of the row.
-/
module

public import proofs.«01_k».proof.Defs
public import Idealize.ShloMosaic.Lib.Pointwise

@[expose] public section

set_option maxRecDepth 16384

noncomputable section

namespace Cert.Proof.AVal

open Idealize.ShloMosaic

/-- The greatest score of segment `w`. -/
def top (a : Fin 2048 → EReal) (g : Fin 2048 → BitVec 32) (w : BitVec 32) : EReal :=
  Finset.fold max (Ideal.ofBits .f32 4286578688#32) (fun x => Scalar.select (IntOp.cmpi .eq (g x) w) (a x) ⊥) Finset.univ

/-- The weighted exponential of entry `e`. -/
def wexp (a env : Fin 2048 → EReal) (g : Fin 2048 → BitVec 32) (e : Fin 2048) : EReal := Ideal.exp (a e - top a g (g e)) * env e

/-- The sum over segment `w`. -/
def tot (p : Fin 2048 → EReal) (g : Fin 2048 → BitVec 32) (w : BitVec 32) : EReal :=
  ∑ x, Scalar.select (IntOp.cmpi .eq (g x) w) (p x) 0

/-- The reciprocal of the sum over segment `w`. -/
def rec (p : Fin 2048 → EReal) (g : Fin 2048 → BitVec 32) (w : BitVec 32) : EReal :=
  Ideal.div 1 (tot p g w + Ideal.ofBits .f32 619091349#32)

/-- One entry of the result. -/
def att (a env : Fin 2048 → EReal) (g : Fin 2048 → BitVec 32) (v : Fin 2048 → EReal) : EReal :=
  ∑ e, wexp a env g e * rec (wexp a env g) g (g e) * env e * v e

/-- The scores' row. -/
def score {d : ℕ} (q : Fin d → EReal) (k : Fin 2048 → Fin d → EReal) (bias : Fin 2048 → EReal) (e : Fin 2048) : EReal :=
  (∑ x, q x * Ideal.ofBits .f32 1041485114#32 * k e x) + bias e

/-- Columns at which the query is zero add nothing to the scores. -/
theorem score_cut {q : Fin 256 → EReal} {q' : Fin 144 → EReal} (k : Fin 2048 → Fin 256 → EReal) (bias : Fin 2048 → EReal)
    (h : ∀ x : Fin 144, q (Fin.castLE (by omega) x) = q' x) (hz : ∀ x : Fin 256, 144 ≤ x.val → q x = 0) :
    score q k bias = score q' (fun e x => k e (Fin.castLE (by omega) x)) bias := by
  funext e
  unfold score
  have hs := Fin.sum_univ_add (a := 144) (b := 112) (fun x : Fin (144 + 112) => q x * Ideal.ofBits .f32 1041485114#32 * k e x)
  have h0 : ∑ i : Fin 112, q (Fin.natAdd 144 i) * Ideal.ofBits .f32 1041485114#32 * k e (Fin.natAdd 144 i) = 0 :=
    Finset.sum_eq_zero fun i _ => by rw [hz (Fin.natAdd 144 i) (by simp), zero_mul, zero_mul]
  rw [h0, add_zero] at hs
  refine congrArg (· + bias e) (hs.trans (Finset.sum_congr rfl fun x _ => ?_))
  show q (Fin.castLE (by omega) x) * _ * k e (Fin.castLE (by omega) x) = _
  rw [h x]

theorem minus_inf : Ideal.ofBits .f32 4286578688#32 = (⊥ : EReal) := by
  simp [Ideal.ofBits, Ideal.ieee]

/-- Of eight terms, one for each segment, the one of the entry's own. -/
theorem pick (f : BitVec 32 → EReal) (b : Fin 8) {w : BitVec 32} (hw : w = BitVec.ofNat 32 b.val) :
    Scalar.select (IntOp.cmpi .eq w 0#32) (f 0#32) 0 + Scalar.select (IntOp.cmpi .eq w 1#32) (f 1#32) 0
      + Scalar.select (IntOp.cmpi .eq w 2#32) (f 2#32) 0 + Scalar.select (IntOp.cmpi .eq w 3#32) (f 3#32) 0
      + Scalar.select (IntOp.cmpi .eq w 4#32) (f 4#32) 0 + Scalar.select (IntOp.cmpi .eq w 5#32) (f 5#32) 0
      + Scalar.select (IntOp.cmpi .eq w 6#32) (f 6#32) 0 + Scalar.select (IntOp.cmpi .eq w 7#32) (f 7#32) 0 = f w := by
  subst hw
  fin_cases b <;> simp [Scalar.select, IntOp.cmpi]

end Cert.Proof.AVal
-- ==== Proof.AVal.lean ====
/-
  The attention call: what the reference's result holds at an index.
-/
module

public import proofs.«01_k».proof.Defs
public import proofs.«01_k».proof.Proof.Gen.AttnRefIdeal.Run
public import proofs.«01_k».proof.Proof.Gen.AttnRefIdeal
public import proofs.«01_k».proof.Proof.ARow
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.AVal

open Idealize.ShloMosaic Idealize.ShloMosaic.TcCoe Idealize.SL.Sem

attribute [local instance] Cert.AttnRefIdeal.Gen.facts

open Cert.AttnRefIdeal Cert.AttnRefIdeal.Gen

/-- The reference: the queries by heads. -/
def qR (p : FVec Ideal S9x512x128 .f32) : FVec Ideal S8x512x144 .f32 :=
  transpose S8x512x144 [1, 0, 2] (shapeCast S512x8x144 (transpose S512x8x9x16 [0, 2, 1, 3] (shapeCast S512x9x8x16 (transpose S512x9x128 [1, 0, 2] p
    transposes_S9x512x128_S512x9x128_1_0_2) shapeCasts_S512x9x128_S512x9x8x16) transposes_S512x9x8x16_S512x8x9x16_0_2_1_3) shapeCasts_S512x8x9x16_S512x8x144)
    transposes_S512x8x144_S8x512x144_1_0_2

/-- The reference: the first 144 columns. -/
def cut (x : FVec Ideal S8x2048x256 .f32) : FVec Ideal S8x2048x144 .f32 :=
  extractStridedSlice S8x2048x144 ![0, 0, 0] x slices_S8x2048x256_S8x2048x144_0_0_0

theorem qR_at (p : FVec Ideal S9x512x128 .f32) (h : Fin 8) (n : Fin 512) (x : Fin 144) :
    qR p (ix3 h n x) = p (ix3 ⟨x.val / 16, by omega⟩ n ⟨16 * h.val + x.val % 16, by omega⟩) := by
  unfold qR
  rw [transpose_apply _ _ _ _ (ix3 n h x : S512x8x144.Idx) (fun b => by
    match b with
    | ⟨0, _⟩ => rfl
    | ⟨1, _⟩ => rfl
    | ⟨2, _⟩ => rfl)]
  rw [shapeCast_apply _ _ _ (ix4 n h ⟨x.val / 16, by omega⟩ ⟨x.val % 16, by omega⟩ : S512x8x9x16.Idx) (by
    rw [Shape.rowMajor_val_four, Shape.rowMajor_val_three]
    show ((n.val * 8 + h.val) * 9 + x.val / 16) * 16 + x.val % 16 = (n.val * 8 + h.val) * 144 + x.val
    omega)]
  rw [transpose_apply _ _ _ _ (ix4 n ⟨x.val / 16, by omega⟩ h ⟨x.val % 16, by omega⟩ : S512x9x8x16.Idx) (fun b => by
    match b with
    | ⟨0, _⟩ => rfl
    | ⟨1, _⟩ => rfl
    | ⟨2, _⟩ => rfl
    | ⟨3, _⟩ => rfl)]
  rw [shapeCast_apply _ _ _ (ix3 n ⟨x.val / 16, by omega⟩ ⟨16 * h.val + x.val % 16, by omega⟩ : S512x9x128.Idx) (by
    rw [Shape.rowMajor_val_three, Shape.rowMajor_val_four]
    show (n.val * 9 + x.val / 16) * 128 + (16 * h.val + x.val % 16) = ((n.val * 9 + x.val / 16) * 8 + h.val) * 16 + x.val % 16
    omega)]
  rw [transpose_apply _ _ _ _ (ix3 ⟨x.val / 16, by omega⟩ n ⟨16 * h.val + x.val % 16, by omega⟩ : S9x512x128.Idx) (fun b => by
    match b with
    | ⟨0, _⟩ => rfl
    | ⟨1, _⟩ => rfl
    | ⟨2, _⟩ => rfl)]

theorem cut_at (x : FVec Ideal S8x2048x256 .f32) (h : Fin 8) (e : Fin 2048) (o : Fin 144) :
    cut x (ix3 h e o) = x (ix3 h e (Fin.castLE (by omega) o)) := by
  unfold cut
  pointwise
  rfl

/-- The reference: the scores. -/
def srcR (q : FVec Ideal S8x512x144 .f32) (k : FVec Ideal S8x2048x144 .f32) (bias : FVec Ideal S8x512x2048 .f32) : FVec Ideal S8x512x2048 .f32 :=
  (addf (Host.dotGeneral dot_S8x512x144_S8x144x2048_S8x512x2048_2_1_1_2_0_0 none (mulf q (broadcastInDim S8x512x144 ![] bcast_S_S8x512x144 (constant S_ .f32 0x3E13CD3A#32))) (transpose S8x144x2048 [0, 2, 1] k transposes_S8x2048x144_S8x144x2048_0_2_1)) bias)

/-- The reference: the segment numbers, wrapped. -/
def iR (bi : IVec S2048 32) : IVec S2048x1 32 :=
  (broadcastInDim S2048x1 ![0] bcast_S2048_S2048x1_0 (select (cmpi .slt bi (broadcastInDim S2048 ![] bcast_S_S2048 (constantI S_ 32 0#32))) (addi bi (broadcastInDim S2048 ![] bcast_S_S2048 (constantI S_ 32 8#32))) bi))

/-- The reference: the greatest score of each segment. -/
def mR (a : FVec Ideal S8x512x2048 .f32) (bi : IVec S2048 32) : FVec Ideal S8x512x8 .f32 :=
  (Host.reduce FloatOps.maximumf (select (broadcastInDim S8x512x2048x8 ![2, 3] bcast_S2048x8_S8x512x2048x8_2_3 (cmpi .eq (broadcastInDim S2048x8 ![0, 1] bcast_S2048x1_S2048x8_0_1 (broadcastInDim S2048x1 ![0] bcast_S2048_S2048x1_0 bi)) (broadcastInDim S2048x8 ![0, 1] bcast_S1x8_S2048x8_0_1 (broadcastInDim S1x8 ![1] bcast_S8_S1x8_1 (iotaInDim S8 32 0))))) (broadcastInDim S8x512x2048x8 ![0, 1, 2, 3] bcast_S8x512x2048x1_S8x512x2048x8_0_1_2_3 (broadcastInDim S8x512x2048x1 ![0, 1, 2] bcast_S8x512x2048_S8x512x2048x1_0_1_2 a)) (broadcastInDim S8x512x2048x8 ![] bcast_S_S8x512x2048x8 (id (constant S_ .f32 0xFF800000#32)))) (constant S_ .f32 0xFF800000#32) reducesTo_S8x512x2048x8_S8x512x8_d2 h_S_)

/-- The reference: the weighted exponentials. -/
def pR (a : FVec Ideal S8x512x2048 .f32) (mx : FVec Ideal S8x512x8 .f32) (ix : IVec S2048x1 32) (env : FVec Ideal S512x2048 .f32) : FVec Ideal S8x512x2048 .f32 :=
  (mulf (Host.exp (subf a (Host.gather gather_S8x512x8_S2048x1_S8x512x2048_01_2_n_n_2_1_85121 mx ix))) (broadcastInDim S8x512x2048 ![0, 1, 2] bcast_S1x512x2048_S8x512x2048_0_1_2 (broadcastInDim S1x512x2048 ![1, 2] bcast_S512x2048_S1x512x2048_1_2 env)))

/-- The reference: the sum of the weighted exponentials of each segment. -/
def sR (p : FVec Ideal S8x512x2048 .f32) (bi : IVec S2048 32) : FVec Ideal S8x512x8 .f32 :=
  (Host.reduceAdd (select (broadcastInDim S8x512x2048x8 ![2, 3] bcast_S2048x8_S8x512x2048x8_2_3 (cmpi .eq (broadcastInDim S2048x8 ![0, 1] bcast_S2048x1_S2048x8_0_1 (broadcastInDim S2048x1 ![0] bcast_S2048_S2048x1_0 bi)) (broadcastInDim S2048x8 ![0, 1] bcast_S1x8_S2048x8_0_1 (broadcastInDim S1x8 ![1] bcast_S8_S1x8_1 (iotaInDim S8 32 0))))) (broadcastInDim S8x512x2048x8 ![0, 1, 2, 3] bcast_S8x512x2048x1_S8x512x2048x8_0_1_2_3 (broadcastInDim S8x512x2048x1 ![0, 1, 2] bcast_S8x512x2048_S8x512x2048x1_0_1_2 p)) (broadcastInDim S8x512x2048x8 ![] bcast_S_S8x512x2048x8 (id (constant S_ .f32 0x00000000#32)))) (constant S_ .f32 0x00000000#32) reducesTo_S8x512x2048x8_S8x512x8_d2 h_S_)

/-- The reference: the result from the weighted exponentials and their segments' sums. -/
def oR (p : FVec Ideal S8x512x2048 .f32) (sm : FVec Ideal S8x512x8 .f32) (ix : IVec S2048x1 32) (env : FVec Ideal S512x2048 .f32) (v : FVec Ideal S8x2048x144 .f32) : FVec Ideal S8x512x144 .f32 :=
  Host.dotGeneral dot_S8x512x2048_S8x2048x144_S8x512x144_2_1_1_2_0_0 none (mulf (mulf p (Host.divf (broadcastInDim S8x512x2048 ![] bcast_S_S8x512x2048 (constant S_ .f32 0x3F800000#32)) (addf (Host.gather gather_S8x512x8_S2048x1_S8x512x2048_01_2_n_n_2_1_85121 sm ix) (broadcastInDim S8x512x2048 ![] bcast_S_S8x512x2048 (constant S_ .f32 0x24E69595#32))))) (broadcastInDim S8x512x2048 ![0, 1, 2] bcast_S1x512x2048_S8x512x2048_0_1_2 (broadcastInDim S1x512x2048 ![1, 2] bcast_S512x2048_S1x512x2048_1_2 env))) v

theorem res_eq (m : (ℓ : Loc nD τ sig) → Buf (Elt Ideal) ℓ) (c : Dev nD) :
    Cert.AttnRefIdeal.Value.res_main_v51 (F := Ideal) m c =
      let a := srcR (qR (m (c.tc.loc main_arg0))) (cut (m (c.tc.loc main_arg1))) (m (c.tc.loc main_arg3))
      let ix := iR (m (c.tc.loc main_arg5))
      let p := pR a (mR a (m (c.tc.loc main_arg5))) ix (m (c.tc.loc main_arg4))
      oR p (sR p (m (c.tc.loc main_arg5))) ix (m (c.tc.loc main_arg4)) (cut (m (c.tc.loc main_arg2))) := rfl

theorem gather_at (x : FVec Ideal S8x512x8 .f32) (ix : IVec S2048x1 32) (h : Fin 8) (n : Fin 512) (e : Fin 2048) (b : Fin 8)
    (hb : ix (ix2 e 0) = BitVec.ofNat 32 b.val) :
    Host.gather gather_S8x512x8_S2048x1_S8x512x2048_01_2_n_n_2_1_85121 x ix (ix3 h n e) = x (ix3 h n b) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  unfold GatherDims.start GatherDims.offCoord
  match a with
  | ⟨0, _⟩ =>
    rw [dif_neg (by decide +revert), dif_pos (by decide +revert)]
    show 0 + 0 + h.val = h.val
    omega
  | ⟨1, _⟩ =>
    rw [dif_neg (by decide +revert), dif_pos (by decide +revert)]
    show 0 + 0 + n.val = n.val
    omega
  | ⟨2, _⟩ =>
    rw [dif_pos (by decide +revert), dif_neg (by decide +revert)]
    have hsi : gather_S8x512x8_S2048x1_S8x512x2048_01_2_n_n_2_1_85121.siIdx (ix3 h n e) ⟨0, by decide⟩ = ix2 e 0 := by
      funext b
      match b with
      | ⟨0, _⟩ => rfl
      | ⟨1, _⟩ => rfl
    show min (ix (gather_S8x512x8_S2048x1_S8x512x2048_01_2_n_n_2_1_85121.siIdx (ix3 h n e) ⟨0, _⟩)).toInt.toNat (8 - 1) + 0 + 0 = b.val
    rw [hsi, hb]
    clear hsi hb
    revert b
    decide

theorem srcR_at (q : FVec Ideal S8x512x144 .f32) (k : FVec Ideal S8x2048x144 .f32) (bias : FVec Ideal S8x512x2048 .f32) (h : Fin 8) (n : Fin 512) (e : Fin 2048) :
    srcR q k bias (ix3 h n e) = score (fun x => q (ix3 h n x)) (fun e x => k (ix3 h e x)) (fun e => bias (ix3 h n e)) e := by
  unfold srcR
  pointwise
  rfl

theorem wrap (b : Fin 8) {w : BitVec 32} (hw : w = BitVec.ofNat 32 b.val) :
    Scalar.select (IntOp.cmpi .slt w 0#32) (IntOp.addi w 8#32) w = w := by
  subst hw
  revert b
  decide

theorem iR_at (bi : IVec S2048 32) (e : Fin 2048) (b : Fin 8) (hb : bi (ix1 e) = BitVec.ofNat 32 b.val) :
    iR bi (ix2 e 0) = BitVec.ofNat 32 b.val := by
  unfold iR
  pointwise
  exact (wrap b hb).trans hb

theorem mR_at (a : FVec Ideal S8x512x2048 .f32) (bi : IVec S2048 32) (h : Fin 8) (n : Fin 512) (b : Fin 8) :
    mR a bi (ix3 h n b) = top (fun e => a (ix3 h n e)) (fun e => bi (ix1 e)) (BitVec.ofNat 32 b.val) := by
  unfold mR
  pointwise
  unfold top
  rw [← minus_inf]
  try rfl

theorem pR_at (a : FVec Ideal S8x512x2048 .f32) (mx : FVec Ideal S8x512x8 .f32) (ix : IVec S2048x1 32) (env : FVec Ideal S512x2048 .f32) (h : Fin 8) (n : Fin 512) (e : Fin 2048)
    {b : Fin 8} (hb : ix (ix2 e 0) = BitVec.ofNat 32 b.val) {a' x' : EReal} (ha : a (ix3 h n e) = a') (hx : mx (ix3 h n b) = x') :
    pR a mx ix env (ix3 h n e) = Ideal.exp (a' - x') * (env (ix2 n e) : EReal) := by
  subst ha hx
  unfold pR
  pointwise
  rw [gather_at mx ix h n e b hb]

theorem sR_at (a : FVec Ideal S8x512x2048 .f32) (bi : IVec S2048 32) (h : Fin 8) (n : Fin 512) (b : Fin 8) :
    sR a bi (ix3 h n b) = tot (fun e => a (ix3 h n e)) (fun e => bi (ix1 e)) (BitVec.ofNat 32 b.val) := by
  unfold sR
  pointwise
  unfold tot
  rw [← Ideal.ofBits_zero_f32]
  rfl

theorem oR_at (p : FVec Ideal S8x512x2048 .f32) (sm : FVec Ideal S8x512x8 .f32) (ix : IVec S2048x1 32) (env : FVec Ideal S512x2048 .f32) (v : FVec Ideal S8x2048x144 .f32) (h : Fin 8) (n : Fin 512) (o : Fin 144)
    {b : Fin 2048 → Fin 8} (hb : ∀ e, ix (ix2 e 0) = BitVec.ofNat 32 (b e).val) {p' s' : Fin 2048 → EReal} (hp : ∀ e, p (ix3 h n e) = p' e) (hs : ∀ e, sm (ix3 h n (b e)) = s' e) :
    oR p sm ix env v (ix3 h n o) = ∑ e, p' e * Ideal.div 1 (s' e + Ideal.ofBits .f32 619091349#32) * (env (ix2 n e) : EReal) * (v (ix3 h e o) : EReal) := by
  obtain rfl : (fun e => p (ix3 h n e)) = p' := funext hp
  obtain rfl : (fun e => sm (ix3 h n (b e))) = s' := funext hs
  unfold oR
  pointwise
  refine Finset.sum_congr rfl fun e _ => ?_
  rw [gather_at sm ix h n e (b e) (hb e)]

/-- The reference's result at an index, where every entry's segment is one of the eight. -/
theorem ref (m : (ℓ : Loc nD τ sig) → Buf (Elt Ideal) ℓ) (c : Dev nD) (b : Fin 2048 → Fin 8)
    (hb : ∀ e, m (c.tc.loc main_arg5) (ix1 e) = BitVec.ofNat 32 (b e).val) (h : Fin 8) (n : Fin 512) (o : Fin 144) :
    Cert.AttnRefIdeal.Value.res_main_v51 (F := Ideal) m c (ix3 h n o) =
      att (score (fun x : Fin 144 => m (c.tc.loc main_arg0) (ix3 ⟨x.val / 16, by omega⟩ n ⟨16 * h.val + x.val % 16, by omega⟩)) (fun e x => m (c.tc.loc main_arg1) (ix3 h e (Fin.castLE (by omega) x))) (fun e => m (c.tc.loc main_arg3) (ix3 h n e)))
        (fun e => m (c.tc.loc main_arg4) (ix2 n e)) (fun e => m (c.tc.loc main_arg5) (ix1 e)) (fun e => m (c.tc.loc main_arg2) (ix3 h e (Fin.castLE (by omega) o))) := by
  rw [res_eq]
  have hsc : ∀ e, srcR (qR (m (c.tc.loc main_arg0))) (cut (m (c.tc.loc main_arg1))) (m (c.tc.loc main_arg3)) (ix3 h n e)
      = score (fun x : Fin 144 => m (c.tc.loc main_arg0) (ix3 ⟨x.val / 16, by omega⟩ n ⟨16 * h.val + x.val % 16, by omega⟩)) (fun e x => m (c.tc.loc main_arg1) (ix3 h e (Fin.castLE (by omega) x))) (fun e => m (c.tc.loc main_arg3) (ix3 h n e)) e := fun e => by
    rw [srcR_at, funext (qR_at _ h n), funext fun e => funext (cut_at _ h e)]
  have hp : ∀ e, pR (srcR (qR (m (c.tc.loc main_arg0))) (cut (m (c.tc.loc main_arg1))) (m (c.tc.loc main_arg3)))
      (mR (srcR (qR (m (c.tc.loc main_arg0))) (cut (m (c.tc.loc main_arg1))) (m (c.tc.loc main_arg3))) (m (c.tc.loc main_arg5))) (iR (m (c.tc.loc main_arg5))) (m (c.tc.loc main_arg4)) (ix3 h n e)
      = wexp (score (fun x : Fin 144 => m (c.tc.loc main_arg0) (ix3 ⟨x.val / 16, by omega⟩ n ⟨16 * h.val + x.val % 16, by omega⟩)) (fun e x => m (c.tc.loc main_arg1) (ix3 h e (Fin.castLE (by omega) x))) (fun e => m (c.tc.loc main_arg3) (ix3 h n e)))
        (fun e => m (c.tc.loc main_arg4) (ix2 n e)) (fun e => m (c.tc.loc main_arg5) (ix1 e)) e := fun e => by
    refine (pR_at _ _ _ _ h n e (iR_at _ e (b e) (hb e)) (hsc e) (mR_at _ _ h n (b e))).trans ?_
    unfold wexp
    rw [← hb e, funext hsc]
  refine (oR_at _ _ _ _ _ h n o (fun e => iR_at _ e (b e) (hb e)) hp (fun e => sR_at _ _ h n (b e))).trans ?_
  unfold att rec
  refine Finset.sum_congr rfl fun e _ => ?_
  rw [← hb e, funext hp, cut_at]

end Cert.Proof.AVal
-- ==== Proof.AKer.lean ====
/-
  The attention call: what its result array holds after the run, at an index.
-/
module

public import proofs.«01_k».proof.Defs
public import proofs.«01_k».proof.Proof.Gen.AttnIdeal.Frame
public import proofs.«01_k».proof.Proof.Gen.AttnIdeal
public import proofs.«01_k».proof.Proof.ARow
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.AVal

open Idealize.ShloMosaic Idealize.ShloMosaic.TcCoe Idealize.SL.Sem
open Cert.AttnIdeal Cert.AttnIdeal.Gen

attribute [local instance] Cert.AttnIdeal.Gen.facts

theorem mask : (Named.named (F := Ideal) (φ := .f32) κ "mask" 4048155338#32) = (⊥ : EReal) := rfl

/-- The eight terms, one for each segment. -/
def eight (f : BitVec 32 → EReal) (w : BitVec 32) : EReal :=
  Scalar.select (IntOp.cmpi .eq w 0#32) (f 0#32) 0 + Scalar.select (IntOp.cmpi .eq w 1#32) (f 1#32) 0 + Scalar.select (IntOp.cmpi .eq w 2#32) (f 2#32) 0 + Scalar.select (IntOp.cmpi .eq w 3#32) (f 3#32) 0 + Scalar.select (IntOp.cmpi .eq w 4#32) (f 4#32) 0 + Scalar.select (IntOp.cmpi .eq w 5#32) (f 5#32) 0 + Scalar.select (IntOp.cmpi .eq w 6#32) (f 6#32) 0 + Scalar.select (IntOp.cmpi .eq w 7#32) (f 7#32) 0

theorem eight_eq (f : BitVec 32 → EReal) (b : Fin 8) {w : BitVec 32} (hw : w = BitVec.ofNat 32 b.val) : eight f w = f w := pick f b hw

/-- The weighted exponential of entry `e`, its segment's greatest score as the kernel picks it. -/
def pk (a env : Fin 2048 → EReal) (g : Fin 2048 → BitVec 32) (e : Fin 2048) : EReal := Ideal.exp (a e - eight (top a g) (g e)) * env e

theorem pk_eq (a env : Fin 2048 → EReal) (g : Fin 2048 → BitVec 32) (b : Fin 2048 → Fin 8) (hb : ∀ e, g e = BitVec.ofNat 32 (b e).val) :
    pk a env g = wexp a env g := by
  funext e
  unfold pk wexp
  rw [eight_eq _ (b e) (hb e)]

/-- One entry of the result, as the kernel computes it. -/
def attk (a env : Fin 2048 → EReal) (g : Fin 2048 → BitVec 32) (v : Fin 2048 → EReal) : EReal :=
  ∑ e, pk a env g e * env e * eight (rec (pk a env g) g) (g e) * v e

theorem attk_eq (a env : Fin 2048 → EReal) (g : Fin 2048 → BitVec 32) (v : Fin 2048 → EReal) (b : Fin 2048 → Fin 8) (hb : ∀ e, g e = BitVec.ofNat 32 (b e).val) :
    attk a env g v = att a env g v := by
  unfold attk att
  refine Finset.sum_congr rfl fun e _ => ?_
  rw [pk_eq a env g b hb, eight_eq _ (b e) (hb e), mul_right_comm (wexp a env g e)]

theorem oK_at (x0 : Vec Ideal S1x512x256 .f32) (x1 : Vec Ideal S1x2048x256 .f32) (x2 : Vec Ideal S1x2048x256 .f32) (x3 : Vec Ideal S1x512x2048 .f32)
    (x4 : Vec Ideal S512x2048 .f32) (x5 : Vec Ideal S1x2048 .i32) (n : Fin 512) (o : Fin 256) :
    out0_6 x0 x1 x2 x3 x4 x5 (ix3 0 n o) =
      attk (score (fun x => x0 (ix3 0 n x)) (fun e x => x1 (ix3 0 e x)) (fun e => x3 (ix3 0 n e))) (fun e => x4 (ix2 n e)) (fun e => x5 (ix2 0 e)) (fun e => x2 (ix3 0 e o)) := by
  unfold_out out0_6
  frame_out
  pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22]
  rfl

end Cert.Proof.AVal
-- ==== Proof.AFin.lean ====
/-
  The attention call's claims.
-/
module

public import proofs.«01_k».proof.Defs
public import proofs.«01_k».proof.Proof.AVal
public import proofs.«01_k».proof.Proof.AKer
public import proofs.«01_k».proof.Proof.Gen.Pre_batches_in_range
public import Idealize.ShloMosaic.Lib.Claim
public import Idealize.ShloMosaic.Lib.Quiescent
public import Idealize.ShloMosaic.Lib.KernelVsHost

@[expose] public section

set_option maxRecDepth 16384

noncomputable section

namespace Cert.Proof.AVal

open Idealize.ShloMosaic Idealize.ShloMosaic.TcCoe Idealize.SL.Sem
open Cert.AttnIdeal Cert.AttnIdeal.Gen

attribute [local instance] Cert.AttnRefIdeal.Gen.facts Cert.AttnIdeal.Gen.facts Cert.Pre_batches_in_range.Gen.facts

variable (m : (ℓ : Loc nD τ sig) → Buf (Elt Ideal) ℓ)

/-- Where each window's block lies at each grid point. -/
theorem idx : ∀ t : Fin grid0.N, win0_0.index t = ![(grid0.coords t 1).val, 0, 0] ∧ win0_1.index t = ![(grid0.coords t 1).val, 0, 0]
    ∧ win0_2.index t = ![(grid0.coords t 1).val, 0, 0] ∧ win0_3.index t = ![(grid0.coords t 1).val, 0, 0]
    ∧ win0_4.index t = ![0, 0] ∧ win0_5.index t = ![0, 0] ∧ win0_6.index t = ![(grid0.coords t 1).val, 0, 0] := by decide +kernel

/-- The result as a function of the arrays that the call reads. -/
def G (q : S8x512x256.Idx → EReal) (k v : S8x2048x256.Idx → EReal) (bias : S8x512x2048.Idx → EReal) (env : S512x2048.Idx → EReal) (g : S1x2048.Idx → BitVec 32) :
    S8x512x256.Idx → EReal :=
  fun i => attk (score (fun x => q (ix3 (i 0) (i 1) x)) (fun e x => k (ix3 (i 0) e x)) (fun e => bias (ix3 (i 0) (i 1) e))) (fun e => env (ix2 (i 1) e))
    (fun e => g (ix2 0 e)) (fun e => v (ix3 (i 0) e (i 2)))

theorem arr (c : Dev nD) : (dats m 0 c).arrAt 6 cfg0.N =
    G (V m c main_v3) (V m c main_arg1) (V m c main_arg2) (V m c main_arg3) (V m c main_arg4) (V m c main_v4) := by
  refine (dats m 0 c).arrAt_eq_of_covers 6 _ (by decide +kernel) fun t hf y => ?_
  blk_simp
  rw [after0_6]
  have hy : y = ix3 0 (y 1) (y 2) := by
    funext a
    match a with
    | 0 => exact Fin.ext (by have := (y 0).isLt; show (y 0).val = 0; change (y 0).val < 1 at this; omega)
    | 1 => rfl
    | 2 => rfl
  rw [hy]
  refine (oK_at _ _ _ _ _ _ (y 1) (y 2)).trans ?_
  unfold G
  blk_point [iblk, idx t]

theorem g_eq (c : Dev nD) (e : Fin 2048) : V m c main_v4 (ix2 0 e) = m ((c : Thread nD τ).loc main_arg5) (ix1 e) := by
  unfold V V0 hostOps0 hostOps0_1 hostOps0_2
  after_reads_at

/-- A projection by heads, at an index. -/
theorem heads_at (p : S9x512x128.Idx → EReal) (h : Fin 8) (n : Fin 512) (x : Fin 144) :
    shapeCast S8x512x144 (transpose S8x512x9x16 [2, 1, 0, 3] (shapeCast S9x512x8x16 p shapeCasts_S9x512x128_S9x512x8x16)
      transposes_S9x512x8x16_S8x512x9x16_2_1_0_3) shapeCasts_S8x512x9x16_S8x512x144 (ix3 h n x)
      = p (ix3 ⟨x.val / 16, by omega⟩ n ⟨16 * h.val + x.val % 16, by omega⟩) := by
  rw [shapeCast_apply _ _ _ (ix4 h n ⟨x.val / 16, by omega⟩ ⟨x.val % 16, by omega⟩ : S8x512x9x16.Idx) (by
    rw [Shape.rowMajor_val_four, Shape.rowMajor_val_three]
    show ((h.val * 512 + n.val) * 9 + x.val / 16) * 16 + x.val % 16 = (h.val * 512 + n.val) * 144 + x.val
    omega)]
  rw [transpose_apply _ _ _ _ (ix4 ⟨x.val / 16, by omega⟩ n h ⟨x.val % 16, by omega⟩ : S9x512x8x16.Idx) (fun b => by
    match b with
    | ⟨0, _⟩ => rfl
    | ⟨1, _⟩ => rfl
    | ⟨2, _⟩ => rfl
    | ⟨3, _⟩ => rfl)]
  rw [shapeCast_apply _ _ _ (ix3 ⟨x.val / 16, by omega⟩ n ⟨16 * h.val + x.val % 16, by omega⟩ : S9x512x128.Idx) (by
    rw [Shape.rowMajor_val_three, Shape.rowMajor_val_four]
    show (x.val / 16 * 512 + n.val) * 128 + (16 * h.val + x.val % 16) = ((x.val / 16 * 512 + n.val) * 8 + h.val) * 16 + x.val % 16
    omega)]

/-- The queries by heads, padded, as the call reads them. -/
theorem q_eq (c : Dev nD) : V m c main_v3 = pad S8x512x256 ![0, 0, 0] ![0, 0, 112] ![0, 0, 0]
    (shapeCast S8x512x144 (transpose S8x512x9x16 [2, 1, 0, 3] (shapeCast S9x512x8x16 (m ((c : Thread nD τ).loc main_arg0)) shapeCasts_S9x512x128_S9x512x8x16)
      transposes_S9x512x8x16_S8x512x9x16_2_1_0_3) shapeCasts_S8x512x9x16_S8x512x144)
    (sitofp (F := Ideal) .f32 (constantI S_ 32 0#32)) pads_S8x512x144_S8x512x256_000_000_01120 h_S_ := by
  unfold V V0 hostOps0 hostOps0_1 hostOps0_2
  simp only [List.flatten_cons, List.flatten_nil, List.append_nil, List.cons_append, List.nil_append, StableHlo.TRef.unary, StableHlo.TRef.binary,
    StableHlo.TRef.toBuf, StableHlo.TRef.ofBuf, cast_eq]
  after_results_simp
  rfl

theorem q_lo (c : Dev nD) (h : Fin 8) (n : Fin 512) (x : Fin 144) :
    V m c main_v3 (ix3 h n (Fin.castLE (by omega) x)) = m ((c : Thread nD τ).loc main_arg0) (ix3 ⟨x.val / 16, by omega⟩ n ⟨16 * h.val + x.val % 16, by omega⟩) := by
  rw [q_eq, pad_apply_of_inside _ _ _ _ _ _ _ _ (ix3 h n x : S8x512x144.Idx) (fun b => by
    match b with
    | ⟨0, _⟩ => show h.val = 0 + h.val * 1; omega
    | ⟨1, _⟩ => show n.val = 0 + n.val * 1; omega
    | ⟨2, _⟩ => show x.val = 0 + x.val * 1; omega)]
  exact heads_at _ h n x

theorem q_hi (c : Dev nD) (h : Fin 8) (n : Fin 512) (x : Fin 256) (hx : 144 ≤ x.val) : V m c main_v3 (ix3 h n x) = (0 : EReal) := by
  rw [q_eq, pad_apply_of_not_inside _ _ _ _ _ _ _ _ (2 : Fin 3) (fun hh => by
    have h3 : (x.val - 0) / 1 < 144 := hh.2.2
    omega)]
  show (((0#32 : BitVec 32).toInt : ℝ) : EReal) = 0
  simp

/-- The call's array at an index of the first 144 columns, where every entry's segment is one of the eight. -/
theorem ker (c : Dev nD) (b : Fin 2048 → Fin 8) (hb : ∀ e, m (c.tc.loc main_arg5) (ix1 e) = BitVec.ofNat 32 (b e).val) (h : Fin 8) (n : Fin 512) (o : Fin 144) :
    (dats m 0 c).arrAt 6 cfg0.N (ix3 h n (Fin.castLE (by omega) o)) =
      att (score (fun x : Fin 144 => m (c.tc.loc main_arg0) (ix3 ⟨x.val / 16, by omega⟩ n ⟨16 * h.val + x.val % 16, by omega⟩))
          (fun e x => m (c.tc.loc main_arg1) (ix3 h e (Fin.castLE (by omega) x))) (fun e => m (c.tc.loc main_arg3) (ix3 h n e)))
        (fun e => m (c.tc.loc main_arg4) (ix2 n e)) (fun e => m (c.tc.loc main_arg5) (ix1 e)) (fun e => m (c.tc.loc main_arg2) (ix3 h e (Fin.castLE (by omega) o))) := by
  rw [arr m c, V_main_arg1, V_main_arg2, V_main_arg3, V_main_arg4]
  unfold G
  refine (attk_eq _ _ _ _ b fun e => (g_eq m c e).trans (hb e)).trans ?_
  rw [funext (g_eq m c)]
  refine congrArg (fun s => att s _ _ _) ?_
  exact score_cut _ _ (q_lo m c h n) (q_hi m c h n)

/-- What the slice after the call leaves, at an index: the call's array in its first 144 columns. -/
theorem slice_at_end (c : Dev nD) (h : Fin 8) (n : Fin 512) (o : Fin 144) :
    Pipeline.afterTail₀ cfgs (dats m) 0 (V0 m) [hostOps1] c main_v6 (ix3 h n o) = (dats m 0 c).arrAt 6 cfg0.N (ix3 h n (Fin.castLE (by omega) o)) := by
  unfold Pipeline.afterTail₀
  have hw : Pipeline.withArrays (cfgs 0).spec c (V0 m c) (fun w => (dats m 0 c).arrAt w (cfgs 0).N) (Proc.devRef .tc main_v5)
      = (dats m 0 c).arrAt 6 cfg0.N :=
    Pipeline.withArrays_arr (cfgs 0).spec launch0.win.arr_inj c (V0 m c) _ 6
  rw [← hw]
  generalize Pipeline.withArrays (cfgs 0).spec c (V0 m c) (fun w => (dats m 0 c).arrAt w (cfgs 0).N) = X
  simp only [List.flatten_cons, List.flatten_nil, List.append_nil]
  unfold hostOps1
  after_reads_at
  rfl

/-- The kernel's run: the result named, the arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v6) = Pipeline.afterTail₀ cfgs (dats m) 0 (V0 m) [hostOps1] c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m g) (unchanged m g)) fun r hr c =>
    ⟨(hr.1 c).2 main_v6 (Pipeline.mem_restRefs_of main_v6 (by decide) (by decide)), hr.2 c⟩

theorem frame_reference : Cert.quiescent_AttnRefIdeal := by
  intro m g hpre
  exact θ_run_mono (Cert.AttnRefIdeal.Value.run m g) fun r hr => ⟨fun c => (hr c).2, sem_eq_zero_of_no_sems (sig := Cert.AttnRefIdeal.sig) rfl _⟩

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem word_ok (w : BitVec 32) (h : IntOp.andi (IntOp.cmpi .sge w 0#32) (IntOp.cmpi .slt w 8#32) = 1#1) : ∃ b : Fin 8, w = BitVec.ofNat 32 b.val := by
  have hw : w.toNat < 8 := by
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at h
    omega
  exact ⟨⟨w.toNat, hw⟩, BitVec.eq_of_toNat_eq (by rw [BitVec.toNat_ofNat]; exact (Nat.mod_eq_of_lt w.isLt).symm)⟩

/-- Every entry's segment is one of the eight. -/
theorem segments (c : Dev nD) (h : Cert.Pre_AttnIdeal m) : ∃ b : Fin 2048 → Fin 8, ∀ e, m (c.tc.loc main_arg5) (ix1 e) = BitVec.ofNat 32 (b e).val := by
  have key : ∀ e : Fin 2048, ∃ b : Fin 8, m (c.tc.loc main_arg5) (ix1 e) = BitVec.ofNat 32 b.val := fun e => by
    have e1 := congrFun (h c) (ix1 e)
    simp only [Cert.Pre_batches_in_range.fn, andi, cmpi, broadcastInDim, constantI] at e1
    exact word_ok _ e1
  exact ⟨fun e => (key e).choose, fun e => (key e).choose_spec⟩

/-- The kernel's result is the reference's. -/
theorem alg : Cert.algebraic_AttnIdeal_AttnRefIdeal := by
  intro m g m' g' hpre hagree
  refine ⟨fun c => Pipeline.afterTail₀ cfgs (dats m) 0 (V0 m) [hostOps1] c main_v6, run m g, ?_⟩
  refine θ_run_mono (Cert.AttnRefIdeal.Value.run m' g') fun r hr c => ⟨(hr c).1.trans (funext fun i => ?_), (hr c).2⟩
  obtain ⟨h0, h1, h2, h3, h4, h5⟩ := hagree c
  obtain ⟨b, hb⟩ := segments m c hpre
  have hb' : ∀ e, m' (c.tc.loc Cert.AttnRefIdeal.main_arg5) (ix1 e) = BitVec.ofNat 32 (b e).val := fun e => by rw [h5]; exact hb e
  have key : ∀ (h : Fin 8) (n : Fin 512) (o : Fin 144),
      Cert.AttnRefIdeal.Value.res_main_v51 m' c (ix3 h n o) = Pipeline.afterTail₀ cfgs (dats m) 0 (V0 m) [hostOps1] c main_v6 (ix3 h n o) := fun h n o => by
    rw [ref m' c b hb', slice_at_end, ker m c b hb, h0, h1, h2, h3, h4, h5]
  idx_vars i
  exact key _ _ _

theorem pres : Cert.preserves_Attn_AttnIdeal := ⟨rfl, fun _ => rfl, rfl⟩

end Cert.Proof.AVal
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Pre_batches_in_range
public import proofs.«01_k».proof.Proof.Final
public import proofs.«01_k».proof.Proof.PFin
public import proofs.«01_k».proof.Proof.OFin
public import proofs.«01_k».proof.Proof.AFin
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts, Cert.Out.Gen.facts, Cert.OutIdeal.Gen.facts, Cert.OutRefIdeal.Gen.facts,
  Cert.Attn.Gen.facts, Cert.AttnIdeal.Gen.facts, Cert.AttnRefIdeal.Gen.facts, Cert.Pre_in_range.Gen.facts, Cert.Pre_batches_in_range.Gen.facts,
  Final.frame_kernel, Final.frame_ideal, Final.frame_reference,
  fun m g _ => Cert.Proj.Gen.frame m g, fun m g _ => Cert.ProjIdeal.Gen.frame m g, PVal.frame_reference,
  fun m g _ => Cert.Out.Gen.frame m g, fun m g _ => Cert.OutIdeal.Gen.frame m g, OVal.frame_reference,
  fun m g _ => Cert.Attn.Gen.frame m g, fun m g _ => Cert.AttnIdeal.Gen.frame m g, AVal.frame_reference,
  trivial, Final.alg, trivial, PVal.alg, trivial, OVal.alg, AVal.pres, AVal.alg⟩

end Cert.Proof

end
